-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3)
      ∧ r.2.mem ((c.tc : Thread Cert.Out0RefIdeal.nD Cert.Out0RefIdeal.τ).loc Cert.Out0RefIdeal.main_arg4) = m ((c.tc : Thread Cert.Out0RefIdeal.nD Cert.Out0RefIdeal.τ).loc Cert.Out0RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4)
      ∧ r.2.mem ((c.tc : Thread Cert.In1.nD Cert.In1.τ).loc Cert.In1.main_arg5) = m ((c.tc : Thread Cert.In1.nD Cert.In1.τ).loc Cert.In1.main_arg5)
      ∧ r.2.mem ((c.tc : Thread Cert.In1.nD Cert.In1.τ).loc Cert.In1.main_arg6) = m ((c.tc : Thread Cert.In1.nD Cert.In1.τ).loc Cert.In1.main_arg6)
      ∧ r.2.mem ((c.tc : Thread Cert.In1.nD Cert.In1.τ).loc Cert.In1.main_arg7) = m ((c.tc : Thread Cert.In1.nD Cert.In1.τ).loc Cert.In1.main_arg7))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
      ∧ r.2.mem ((c.tc : Thread Cert.In1Ideal.nD Cert.In1Ideal.τ).loc Cert.In1Ideal.main_arg5) = m ((c.tc : Thread Cert.In1Ideal.nD Cert.In1Ideal.τ).loc Cert.In1Ideal.main_arg5)
      ∧ r.2.mem ((c.tc : Thread Cert.In1Ideal.nD Cert.In1Ideal.τ).loc Cert.In1Ideal.main_arg6) = m ((c.tc : Thread Cert.In1Ideal.nD Cert.In1Ideal.τ).loc Cert.In1Ideal.main_arg6)
      ∧ r.2.mem ((c.tc : Thread Cert.In1Ideal.nD Cert.In1Ideal.τ).loc Cert.In1Ideal.main_arg7) = m ((c.tc : Thread Cert.In1Ideal.nD Cert.In1Ideal.τ).loc Cert.In1Ideal.main_arg7))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4)
      ∧ r.2.mem ((c.tc : Thread Cert.In1RefIdeal.nD Cert.In1RefIdeal.τ).loc Cert.In1RefIdeal.main_arg5) = m ((c.tc : Thread Cert.In1RefIdeal.nD Cert.In1RefIdeal.τ).loc Cert.In1RefIdeal.main_arg5)
      ∧ r.2.mem ((c.tc : Thread Cert.In1RefIdeal.nD Cert.In1RefIdeal.τ).loc Cert.In1RefIdeal.main_arg6) = m ((c.tc : Thread Cert.In1RefIdeal.nD Cert.In1RefIdeal.τ).loc Cert.In1RefIdeal.main_arg6)
      ∧ r.2.mem ((c.tc : Thread Cert.In1RefIdeal.nD Cert.In1RefIdeal.τ).loc Cert.In1RefIdeal.main_arg7) = m ((c.tc : Thread Cert.In1RefIdeal.nD Cert.In1RefIdeal.τ).loc Cert.In1RefIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)) →
    ∃ (v0 : (c : Dev Cert.In0Ideal.nD) → Buf (Elt Ideal) ((c.tc : Thread Cert.In0Ideal.nD Cert.In0Ideal.τ).loc Cert.In0Ideal.main_v3)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v3) = v0 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v14) = v0 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)
      ∧ m' ((c.tc : Thread Cert.Out0RefIdeal.nD Cert.Out0RefIdeal.τ).loc Cert.Out0RefIdeal.main_arg4) = m ((c.tc : Thread Cert.Out0Ideal.nD Cert.Out0Ideal.τ).loc Cert.Out0Ideal.main_arg4)) →
    ∃ (v0 : (c : Dev Cert.Out0Ideal.nD) → Buf (Elt Ideal) ((c.tc : Thread Cert.Out0Ideal.nD Cert.Out0Ideal.τ).loc Cert.Out0Ideal.main_v3)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v3) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v17) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3)
          ∧ r.2.mem ((c.tc : Thread Cert.Out0RefIdeal.nD Cert.Out0RefIdeal.τ).loc Cert.Out0RefIdeal.main_arg4) = m' ((c.tc : Thread Cert.Out0RefIdeal.nD Cert.Out0RefIdeal.τ).loc Cert.Out0RefIdeal.main_arg4))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)) →
    ∃ (v0 : (c : Dev Cert.Out1Ideal.nD) → Buf (Elt Ideal) ((c.tc : Thread Cert.Out1Ideal.nD Cert.Out1Ideal.τ).loc Cert.Out1Ideal.main_v3)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v3) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v15) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)
      ∧ m' ((c.tc : Thread Cert.In1RefIdeal.nD Cert.In1RefIdeal.τ).loc Cert.In1RefIdeal.main_arg5) = m ((c.tc : Thread Cert.In1Ideal.nD Cert.In1Ideal.τ).loc Cert.In1Ideal.main_arg5)
      ∧ m' ((c.tc : Thread Cert.In1RefIdeal.nD Cert.In1RefIdeal.τ).loc Cert.In1RefIdeal.main_arg6) = m ((c.tc : Thread Cert.In1Ideal.nD Cert.In1Ideal.τ).loc Cert.In1Ideal.main_arg6)
      ∧ m' ((c.tc : Thread Cert.In1RefIdeal.nD Cert.In1RefIdeal.τ).loc Cert.In1RefIdeal.main_arg7) = m ((c.tc : Thread Cert.In1Ideal.nD Cert.In1Ideal.τ).loc Cert.In1Ideal.main_arg7)) →
    ∃ (v0 : (c : Dev Cert.In1Ideal.nD) → Buf (Elt Ideal) ((c.tc : Thread Cert.In1Ideal.nD Cert.In1Ideal.τ).loc Cert.In1Ideal.main_v10_0)) (v1 : (c : Dev Cert.In1Ideal.nD) → Buf (Elt Ideal) ((c.tc : Thread Cert.In1Ideal.nD Cert.In1Ideal.τ).loc Cert.In1Ideal.main_v10_1)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v10_0) = v0 c
          ∧ r.2.mem ((c.tc : Thread Cert.In1Ideal.nD Cert.In1Ideal.τ).loc Cert.In1Ideal.main_v10_1) = v1 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
          ∧ r.2.mem ((c.tc : Thread Cert.In1Ideal.nD Cert.In1Ideal.τ).loc Cert.In1Ideal.main_arg5) = m ((c.tc : Thread Cert.In1Ideal.nD Cert.In1Ideal.τ).loc Cert.In1Ideal.main_arg5)
          ∧ r.2.mem ((c.tc : Thread Cert.In1Ideal.nD Cert.In1Ideal.τ).loc Cert.In1Ideal.main_arg6) = m ((c.tc : Thread Cert.In1Ideal.nD Cert.In1Ideal.τ).loc Cert.In1Ideal.main_arg6)
          ∧ r.2.mem ((c.tc : Thread Cert.In1Ideal.nD Cert.In1Ideal.τ).loc Cert.In1Ideal.main_arg7) = m ((c.tc : Thread Cert.In1Ideal.nD Cert.In1Ideal.τ).loc Cert.In1Ideal.main_arg7))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v41) = v0 c
          ∧ r.2.mem ((c.tc : Thread Cert.In1RefIdeal.nD Cert.In1RefIdeal.τ).loc Cert.In1RefIdeal.main_v43) = v1 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4)
          ∧ r.2.mem ((c.tc : Thread Cert.In1RefIdeal.nD Cert.In1RefIdeal.τ).loc Cert.In1RefIdeal.main_arg5) = m' ((c.tc : Thread Cert.In1RefIdeal.nD Cert.In1RefIdeal.τ).loc Cert.In1RefIdeal.main_arg5)
          ∧ r.2.mem ((c.tc : Thread Cert.In1RefIdeal.nD Cert.In1RefIdeal.τ).loc Cert.In1RefIdeal.main_arg6) = m' ((c.tc : Thread Cert.In1RefIdeal.nD Cert.In1RefIdeal.τ).loc Cert.In1RefIdeal.main_arg6)
          ∧ r.2.mem ((c.tc : Thread Cert.In1RefIdeal.nD Cert.In1RefIdeal.τ).loc Cert.In1RefIdeal.main_arg7) = m' ((c.tc : Thread Cert.In1RefIdeal.nD Cert.In1RefIdeal.τ).loc Cert.In1RefIdeal.main_arg7))

def Claim : Prop :=
  ∃ (hKernel : Cert.Kernel.Facts) (hKernelIdeal : Cert.KernelIdeal.Facts) (hReferenceIdeal : Cert.ReferenceIdeal.Facts) (hIn0 : Cert.In0.Facts) (hIn0Ideal : Cert.In0Ideal.Facts) (hIn0RefIdeal : Cert.In0RefIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hIn1 : Cert.In1.Facts) (hIn1Ideal : Cert.In1Ideal.Facts) (hIn1RefIdeal : Cert.In1RefIdeal.Facts),
    quiescent_Kernel (hKernel := hKernel)
    ∧ quiescent_KernelIdeal (hKernelIdeal := hKernelIdeal)
    ∧ quiescent_ReferenceIdeal (hReferenceIdeal := hReferenceIdeal)
    ∧ quiescent_In0 (hIn0 := hIn0)
    ∧ quiescent_In0Ideal (hIn0Ideal := hIn0Ideal)
    ∧ quiescent_In0RefIdeal (hIn0RefIdeal := hIn0RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_In1 (hIn1 := hIn1)
    ∧ quiescent_In1Ideal (hIn1Ideal := hIn1Ideal)
    ∧ quiescent_In1RefIdeal (hIn1RefIdeal := hIn1RefIdeal)
    ∧ preserves_Kernel_KernelIdeal
    ∧ algebraic_KernelIdeal_ReferenceIdeal (hKernelIdeal := hKernelIdeal) (hReferenceIdeal := hReferenceIdeal)
    ∧ preserves_In0_In0Ideal
    ∧ algebraic_In0Ideal_In0RefIdeal (hIn0Ideal := hIn0Ideal) (hIn0RefIdeal := hIn0RefIdeal)
    ∧ preserves_Out0_Out0Ideal
    ∧ algebraic_Out0Ideal_Out0RefIdeal (hOut0Ideal := hOut0Ideal) (hOut0RefIdeal := hOut0RefIdeal)
    ∧ preserves_Out1_Out1Ideal
    ∧ algebraic_Out1Ideal_Out1RefIdeal (hOut1Ideal := hOut1Ideal) (hOut1RefIdeal := hOut1RefIdeal)
    ∧ preserves_In1_In1Ideal
    ∧ algebraic_In1Ideal_In1RefIdeal (hIn1Ideal := hIn1Ideal) (hIn1RefIdeal := hIn1RefIdeal)
-- ==== Kernel.lean ====
abbrev S16384x8192 : Shape := ⟨2, ![16384, 8192]⟩
abbrev S4x2048 : Shape := ⟨2, ![4, 2048]⟩
abbrev S2048 : Shape := ⟨1, ![2048]⟩
abbrev S512x4x4 : Shape := ⟨3, ![512, 4, 4]⟩
abbrev S6144x8 : Shape := ⟨2, ![6144, 8]⟩
abbrev S8 : Shape := ⟨1, ![8]⟩
abbrev S256x256 : Shape := ⟨2, ![256, 256]⟩
abbrev S6144x16 : Shape := ⟨2, ![6144, 16]⟩
abbrev S_ : Shape := ⟨0, ![]⟩
abbrev S6144x128 : Shape := ⟨2, ![6144, 128]⟩
abbrev S3x2048x128 : Shape := ⟨3, ![3, 2048, 128]⟩
abbrev S16 : Shape := ⟨1, ![16]⟩
abbrev S1x16 : Shape := ⟨2, ![1, 16]⟩
abbrev S1x128 : Shape := ⟨2, ![1, 128]⟩
abbrev S1x2048 : Shape := ⟨2, ![1, 2048]⟩
abbrev S8x256x4 : Shape := ⟨3, ![8, 256, 4]⟩
abbrev S1x8x1x256x1x4 : Shape := ⟨6, ![1, 8, 1, 256, 1, 4]⟩
abbrev S1x8x1x256x64x4 : Shape := ⟨6, ![1, 8, 1, 256, 64, 4]⟩
abbrev S8x256x256 : Shape := ⟨3, ![8, 256, 256]⟩
abbrev S4x4096x8192 : Shape := ⟨3, ![4, 4096, 8192]⟩
abbrev S4x4096x2048 : Shape := ⟨3, ![4, 4096, 2048]⟩
abbrev S2x128x2048 : Shape := ⟨3, ![2, 128, 2048]⟩
abbrev S2x8x2048 : Shape := ⟨3, ![2, 8, 2048]⟩
abbrev S16x256x256 : Shape := ⟨3, ![16, 256, 256]⟩
abbrev S16x1x256 : Shape := ⟨3, ![16, 1, 256]⟩
abbrev S16x8x128 : Shape := ⟨3, ![16, 8, 128]⟩
abbrev S128x128 : Shape := ⟨2, ![128, 128]⟩
abbrev S1x128x2048 : Shape := ⟨3, ![1, 128, 2048]⟩
abbrev S128x2048 : Shape := ⟨2, ![128, 2048]⟩
abbrev S8x2048 : Shape := ⟨2, ![8, 2048]⟩
abbrev S1x8x2048 : Shape := ⟨3, ![1, 8, 2048]⟩
abbrev S120x2048 : Shape := ⟨2, ![120, 2048]⟩
abbrev S128x256 : Shape := ⟨2, ![128, 256]⟩
abbrev S1x256x256 : Shape := ⟨3, ![1, 256, 256]⟩
abbrev S1x2048x128 : Shape := ⟨3, ![1, 2048, 128]⟩
abbrev S2048x128 : Shape := ⟨2, ![2048, 128]⟩
abbrev S128x1 : Shape := ⟨2, ![128, 1]⟩
abbrev S1x8x128 : Shape := ⟨3, ![1, 8, 128]⟩
abbrev S8x128 : Shape := ⟨2, ![8, 128]⟩
abbrev S1x1 : Shape := ⟨2, ![1, 1]⟩
abbrev S128 : Shape := ⟨1, ![128]⟩
abbrev S1 : Shape := ⟨1, ![1]⟩
abbrev S1x1x256 : Shape := ⟨3, ![1, 1, 256]⟩
abbrev S1x256 : Shape := ⟨2, ![1, 256]⟩
abbrev S256 : Shape := ⟨1, ![256]⟩

abbrev nBuf : Space → Nat
  | .hbm => 61
  | .vmem => 19
  | .smem => 0
  | _ => 0

abbrev bufTy : (tb : Table) → Fin (tcTables nBuf tb) → BufTy
  | .hbm, ⟨0, _⟩ => ⟨S16384x8192, .f32⟩
  | .hbm, ⟨1, _⟩ => ⟨S4x2048, .f32⟩
  | .hbm, ⟨2, _⟩ => ⟨S2048, .f32⟩
  | .hbm, ⟨3, _⟩ => ⟨S512x4x4, .f32⟩
  | .hbm, ⟨4, _⟩ => ⟨S512x4x4, .f32⟩
  | .hbm, ⟨5, _⟩ => ⟨S512x4x4, .f32⟩
  | .hbm, ⟨6, _⟩ => ⟨S6144x8, .f32⟩
  | .hbm, ⟨7, _⟩ => ⟨S8, .f32⟩
  | .hbm, ⟨8, _⟩ => ⟨S6144x8, .f32⟩
  | .hbm, ⟨9, _⟩ => ⟨S8, .f32⟩
  | .hbm, ⟨10, _⟩ => ⟨S2048, .f32⟩
  | .hbm, ⟨11, _⟩ => ⟨S2048, .f32⟩
  | .hbm, ⟨12, _⟩ => ⟨S256x256, .i1⟩
  | .hbm, ⟨13, _⟩ => ⟨S256x256, .i1⟩
  | .hbm, ⟨14, _⟩ => ⟨S256x256, .i1⟩
  | .hbm, ⟨15, _⟩ => ⟨S6144x16, .f32⟩
  | .hbm, ⟨16, _⟩ => ⟨S_, .i32⟩
  | .hbm, ⟨17, _⟩ => ⟨S_, .f32⟩
  | .hbm, ⟨18, _⟩ => ⟨S6144x128, .f32⟩
  | .hbm, ⟨19, _⟩ => ⟨S3x2048x128, .f32⟩
  | .hbm, ⟨20, _⟩ => ⟨S3x2048x128, .bf16⟩
  | .hbm, ⟨21, _⟩ => ⟨S16, .f32⟩
  | .hbm, ⟨22, _⟩ => ⟨S1x16, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S1x2048, .f32⟩
  | .hbm, ⟨27, _⟩ => ⟨S8x256x4, .f32⟩
  | .hbm, ⟨28, _⟩ => ⟨S1x8x1x256x1x4, .f32⟩
  | .hbm, ⟨29, _⟩ => ⟨S1x8x1x256x64x4, .f32⟩
  | .hbm, ⟨30, _⟩ => ⟨S8x256x256, .f32⟩
  | .hbm, ⟨31, _⟩ => ⟨S_, .f32⟩
  | .hbm, ⟨32, _⟩ => ⟨S_, .f32⟩
  | .hbm, ⟨33, _⟩ => ⟨S8x256x256, .i1⟩
  | .hbm, ⟨34, _⟩ => ⟨S8x256x256, .f32⟩
  | .hbm, ⟨35, _⟩ => ⟨S8x256x256, .f32⟩
  | .hbm, ⟨36, _⟩ => ⟨S8x256x256, .bf16⟩
  | .hbm, ⟨37, _⟩ => ⟨S8x256x4, .f32⟩
  | .hbm, ⟨38, _⟩ => ⟨S1x8x1x256x1x4, .f32⟩
  | .hbm, ⟨39, _⟩ => ⟨S1x8x1x256x64x4, .f32⟩
  | .hbm, ⟨40, _⟩ => ⟨S8x256x256, .f32⟩
  | .hbm, ⟨41, _⟩ => ⟨S_, .f32⟩
  | .hbm, ⟨42, _⟩ => ⟨S_, .f32⟩
  | .hbm, ⟨43, _⟩ => ⟨S8x256x256, .i1⟩
  | .hbm, ⟨44, _⟩ => ⟨S8x256x256, .f32⟩
  | .hbm, ⟨45, _⟩ => ⟨S8x256x256, .f32⟩
  | .hbm, ⟨46, _⟩ => ⟨S8x256x256, .bf16⟩
  | .hbm, ⟨47, _⟩ => ⟨S8x256x4, .f32⟩
  | .hbm, ⟨48, _⟩ => ⟨S1x8x1x256x1x4, .f32⟩
  | .hbm, ⟨49, _⟩ => ⟨S1x8x1x256x64x4, .f32⟩
  | .hbm, ⟨50, _⟩ => ⟨S8x256x256, .f32⟩
  | .hbm, ⟨51, _⟩ => ⟨S_, .f32⟩
  | .hbm, ⟨52, _⟩ => ⟨S_, .f32⟩
  | .hbm, ⟨53, _⟩ => ⟨S8x256x256, .i1⟩
  | .hbm, ⟨54, _⟩ => ⟨S8x256x256, .f32⟩
  | .hbm, ⟨55, _⟩ => ⟨S8x256x256, .f32⟩
  | .hbm, ⟨56, _⟩ => ⟨S8x256x256, .bf16⟩
  | .hbm, ⟨57, _⟩ => ⟨S1x2048, .f32⟩
  | .hbm, ⟨58, _⟩ => ⟨S1x2048, .f32⟩
  | .hbm, ⟨59, _⟩ => ⟨S4x4096x8192, .f32⟩
  | .hbm, ⟨60, _⟩ => ⟨S4x4096x2048, .bf16⟩
  | .local _ .vmem, ⟨0, _⟩ => ⟨S2x128x2048, .f32⟩
  | .local _ .vmem, ⟨1, _⟩ => ⟨S2x128x2048, .f32⟩
  | .local _ .vmem, ⟨2, _⟩ => ⟨S2x128x2048, .f32⟩
  | .local _ .vmem, ⟨3, _⟩ => ⟨S2x128x2048, .f32⟩
  | .local _ .vmem, ⟨4, _⟩ => ⟨S4x2048, .f32⟩
  | .local _ .vmem, ⟨5, _⟩ => ⟨S1x2048, .f32⟩
  | .local _ .vmem, ⟨6, _⟩ => ⟨S8x256x256, .bf16⟩
  | .local _ .vmem, ⟨7, _⟩ => ⟨S8x256x256, .bf16⟩
  | .local _ .vmem, ⟨8, _⟩ => ⟨S8x256x256, .bf16⟩
  | .local _ .vmem, ⟨9, _⟩ => ⟨S3x2048x128, .bf16⟩
  | .local _ .vmem, ⟨10, _⟩ => ⟨S1x128, .f32⟩
  | .local _ .vmem, ⟨11, _⟩ => ⟨S1x2048, .f32⟩
  | .local _ .vmem, ⟨12, _⟩ => ⟨S1x2048, .f32⟩
  | .local _ .vmem, ⟨13, _⟩ => ⟨S2x128x2048, .bf16⟩
  | .local _ .vmem, ⟨14, _⟩ => ⟨S2x128x2048, .bf16⟩
  | .local _ .vmem, ⟨15, _⟩ => ⟨S2x8x2048, .f32⟩
  | .local _ .vmem, ⟨16, _⟩ => ⟨S16x256x256, .f32⟩
  | .local _ .vmem, ⟨17, _⟩ => ⟨S16x1x256, .f32⟩
  | .local _ .vmem, ⟨18, _⟩ => ⟨S16x8x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v0 : Ref sig .tc := ⟨.hbm, 15, rfl⟩
abbrev main_c_2 : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_3 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x8192 : Shape := ⟨2, ![16384, 8192]⟩
abbrev S4x2048 : Shape := ⟨2, ![4, 2048]⟩
abbrev S2048 : Shape := ⟨1, ![2048]⟩
abbrev S512x4x4 : Shape := ⟨3, ![512, 4, 4]⟩
abbrev S6144x8 : Shape := ⟨2, ![6144, 8]⟩
abbrev S8 : Shape := ⟨1, ![8]⟩
abbrev S4x4096x8192 : Shape := ⟨3, ![4, 4096, 8192]⟩
abbrev S4x4096x2048 : Shape := ⟨3, ![4, 4096, 2048]⟩
abbrev S_ : Shape := ⟨0, ![]⟩
abbrev S4x4099x2048 : Shape := ⟨3, ![4, 4099, 2048]⟩
abbrev S1x2048 : Shape := ⟨2, ![1, 2048]⟩
abbrev S1x1x2048 : Shape := ⟨3, ![1, 1, 2048]⟩
abbrev S4x4096x512x4 : Shape := ⟨4, ![4, 4096, 512, 4]⟩
abbrev S512x4x4x4096 : Shape := ⟨4, ![512, 4, 4, 4096]⟩
abbrev S4x4096x6144 : Shape := ⟨3, ![4, 4096, 6144]⟩
abbrev S4x4096x8 : Shape := ⟨3, ![4, 4096, 8]⟩
abbrev S1x1x8 : Shape := ⟨3, ![1, 1, 8]⟩
abbrev S4x32x128x8x256 : Shape := ⟨5, ![4, 32, 128, 8, 256]⟩
abbrev S32x4x8x128x256 : Shape := ⟨5, ![32, 4, 8, 128, 256]⟩
abbrev S4x32x128x8 : Shape := ⟨4, ![4, 32, 128, 8]⟩
abbrev S32x4x8x128 : Shape := ⟨4, ![32, 4, 8, 128]⟩
abbrev S128x128 : Shape := ⟨2, ![128, 128]⟩
abbrev S4x8x256x256 : Shape := ⟨4, ![4, 8, 256, 256]⟩
abbrev S4x8x256 : Shape := ⟨3, ![4, 8, 256]⟩
abbrev S4x8 : Shape := ⟨2, ![4, 8]⟩
abbrev S1x4x8x128x256 : Shape := ⟨5, ![1, 4, 8, 128, 256]⟩
abbrev S4x8x128x256 : Shape := ⟨4, ![4, 8, 128, 256]⟩
abbrev S1x4x8x128 : Shape := ⟨4, ![1, 4, 8, 128]⟩
abbrev S4x8x128 : Shape := ⟨3, ![4, 8, 128]⟩
abbrev S4x8x128x1 : Shape := ⟨4, ![4, 8, 128, 1]⟩
abbrev S4x8x1x128 : Shape := ⟨4, ![4, 8, 1, 128]⟩
abbrev S4x8x128x128 : Shape := ⟨4, ![4, 8, 128, 128]⟩
abbrev S4x8x1 : Shape := ⟨3, ![4, 8, 1]⟩
abbrev S4x8x1x1 : Shape := ⟨4, ![4, 8, 1, 1]⟩
abbrev S4x4096x8x256 : Shape := ⟨4, ![4, 4096, 8, 256]⟩
abbrev S4x4096x8x1 : Shape := ⟨4, ![4, 4096, 8, 1]⟩

abbrev nBuf : Space → Nat
  | .hbm => 344
  | .vmem => 0
  | .smem => 0
  | _ => 0

abbrev hbmTy0_0 (i : Nat) : BufTy := match i % 128 with
  | 0 => ⟨S16384x8192, .f32⟩
  | 1 => ⟨S4x2048, .f32⟩
  | 2 => ⟨S2048, .f32⟩
  | 3 => ⟨S512x4x4, .f32⟩
  | 4 => ⟨S512x4x4, .f32⟩
  | 5 => ⟨S512x4x4, .f32⟩
  | 6 => ⟨S6144x8, .f32⟩
  | 7 => ⟨S8, .f32⟩
  | 8 => ⟨S6144x8, .f32⟩
  | 9 => ⟨S8, .f32⟩
  | 10 => ⟨S2048, .f32⟩
  | 11 => ⟨S2048, .f32⟩
  | 12 => ⟨S4x4096x8192, .f32⟩
  | 13 => ⟨S4x4096x2048, .f32⟩
  | 14 => ⟨S4x4096x2048, .f32⟩
  | 15 => ⟨S_, .i32⟩
  | 16 => ⟨S_, .f32⟩
  | 17 => ⟨S4x4099x2048, .f32⟩
  | 18 => ⟨S4x4096x2048, .f32⟩
  | 19 => ⟨S1x2048, .f32⟩
  | 20 => ⟨S2048, .f32⟩
  | 21 => ⟨S1x1x2048, .f32⟩
  | 22 => ⟨S4x4096x2048, .f32⟩
  | 23 => ⟨S4x4096x2048, .f32⟩
  | 24 => ⟨S1x1x2048, .f32⟩
  | 25 => ⟨S4x4096x2048, .f32⟩
  | 26 => ⟨S4x4096x2048, .f32⟩
  | 27 => ⟨S4x4096x2048, .f32⟩
  | 28 => ⟨S1x2048, .f32⟩
  | 29 => ⟨S2048, .f32⟩
  | 30 => ⟨S1x1x2048, .f32⟩
  | 31 => ⟨S4x4096x2048, .f32⟩
  | 32 => ⟨S4x4096x2048, .f32⟩
  | 33 => ⟨S4x4096x2048, .f32⟩
  | 34 => ⟨S4x4096x2048, .f32⟩
  | 35 => ⟨S1x2048, .f32⟩
  | 36 => ⟨S2048, .f32⟩
  | 37 => ⟨S1x1x2048, .f32⟩
  | 38 => ⟨S4x4096x2048, .f32⟩
  | 39 => ⟨S4x4096x2048, .f32⟩
  | 40 => ⟨S4x4096x2048, .f32⟩
  | 41 => ⟨S4x4096x2048, .f32⟩
  | 42 => ⟨S1x2048, .f32⟩
  | 43 => ⟨S2048, .f32⟩
  | 44 => ⟨S1x1x2048, .f32⟩
  | 45 => ⟨S4x4096x2048, .f32⟩
  | 46 => ⟨S4x4096x2048, .f32⟩
  | 47 => ⟨S4x4096x2048, .f32⟩
  | 48 => ⟨S4x4096x2048, .f32⟩
  | 49 => ⟨S4x4096x2048, .f32⟩
  | 50 => ⟨S_, .f32⟩
  | 51 => ⟨S4x4096x2048, .f32⟩
  | 52 => ⟨S4x4096x2048, .f32⟩
  | 53 => ⟨S_, .f32⟩
  | 54 => ⟨S4x4096x2048, .f32⟩
  | 55 => ⟨S4x4096x2048, .f32⟩
  | 56 => ⟨S4x4096x2048, .f32⟩
  | 57 => ⟨S4x4096x512x4, .f32⟩
  | 58 => ⟨S512x4x4x4096, .f32⟩
  | 59 => ⟨S4x4096x512x4, .f32⟩
  | 60 => ⟨S4x4096x2048, .f32⟩
  | 61 => ⟨S4x4096x512x4, .f32⟩
  | 62 => ⟨S512x4x4x4096, .f32⟩
  | 63 => ⟨S4x4096x512x4, .f32⟩
  | 64 => ⟨S4x4096x2048, .f32⟩
  | 65 => ⟨S4x4096x512x4, .f32⟩
  | 66 => ⟨S512x4x4x4096, .f32⟩
  | 67 => ⟨S4x4096x512x4, .f32⟩
  | 68 => ⟨S4x4096x2048, .f32⟩
  | 69 => ⟨S4x4096x6144, .f32⟩
  | 70 => ⟨S4x4096x8, .f32⟩
  | 71 => ⟨S1x1x8, .f32⟩
  | 72 => ⟨S4x4096x8, .f32⟩
  | 73 => ⟨S4x4096x8, .f32⟩
  | 74 => ⟨S4x4096x8, .f32⟩
  | 75 => ⟨S1x1x8, .f32⟩
  | 76 => ⟨S4x4096x8, .f32⟩
  | 77 => ⟨S4x4096x8, .f32⟩
  | 78 => ⟨S4x32x128x8x256, .f32⟩
  | 79 => ⟨S32x4x8x128x256, .f32⟩
  | 80 => ⟨S4x32x128x8x256, .f32⟩
  | 81 => ⟨S32x4x8x128x256, .f32⟩
  | 82 => ⟨S_, .f32⟩
  | 83 => ⟨S32x4x8x128x256, .f32⟩
  | 84 => ⟨S32x4x8x128x256, .f32⟩
  | 85 => ⟨S4x32x128x8x256, .f32⟩
  | 86 => ⟨S32x4x8x128x256, .f32⟩
  | 87 => ⟨S4x32x128x8, .f32⟩
  | 88 => ⟨S32x4x8x128, .f32⟩
  | 89 => ⟨S4x32x128x8, .f32⟩
  | 90 => ⟨S32x4x8x128, .f32⟩
  | 91 => ⟨S32x4x8x128, .f32⟩
  | 92 => ⟨S_, .f32⟩
  | 93 => ⟨S32x4x8x128, .f32⟩
  | 94 => ⟨S32x4x8x128, .f32⟩
  | 95 => ⟨S32x4x8x128, .f32⟩
  | 96 => ⟨S32x4x8x128, .f32⟩
  | 97 => ⟨S32x4x8x128, .i1⟩
  | 98 => ⟨S32x4x8x128, .f32⟩
  | 99 => ⟨S32x4x8x128, .f32⟩
  | 100 => ⟨S32x4x8x128, .f32⟩
  | 101 => ⟨S32x4x8x128, .f32⟩
  | 102 => ⟨S32x4x8x128, .f32⟩
  | 103 => ⟨S32x4x8x128, .f32⟩
  | 104 => ⟨S32x4x8x128, .f32⟩
  | 105 => ⟨S32x4x8x128, .f32⟩
  | 106 => ⟨S32x4x8x128, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S_, .f32⟩
  | 119 => ⟨S4x8x256x256, .f32⟩
  | 120 => ⟨S_, .f32⟩
  | 121 => ⟨S4x8x256, .f32⟩
  | 122 => ⟨S_, .f32⟩
  | 123 => ⟨S4x8, .f32⟩
  | 124 => ⟨S_, .f32⟩
  | 125 => ⟨S32x4x8x128x256, .f32⟩
  | 126 => ⟨S_, .i32⟩
  | 127 => ⟨S32x4x8x128x256, .f32⟩
  | _ => ⟨S16384x8192, .f32⟩

abbrev hbmTy0_1 (i : Nat) : BufTy := match i % 128 with
  | 0 => ⟨S32x4x8x128x256, .f32⟩
  | 1 => ⟨S32x4x8x128x256, .f32⟩
  | 2 => ⟨S32x4x8x128, .f32⟩
  | 3 => ⟨S32x4x8x128, .f32⟩
  | 4 => ⟨S128x128, .i1⟩
  | 5 => ⟨S_, .i32⟩
  | 6 => ⟨S4x8x256x256, .f32⟩
  | 7 => ⟨S4x8x256, .f32⟩
  | 8 => ⟨S4x8, .f32⟩
  | 9 => ⟨S32x4x8x128x256, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S1x4x8x128x256, .f32⟩
  | 17 => ⟨S4x8x128x256, .f32⟩
  | 18 => ⟨S_, .i32⟩
  | 19 => ⟨S_, .i32⟩
  | 20 => ⟨S_, .i32⟩
  | 21 => ⟨S_, .i32⟩
  | 22 => ⟨S1x4x8x128x256, .f32⟩
  | 23 => ⟨S4x8x128x256, .f32⟩
  | 24 => ⟨S_, .i32⟩
  | 25 => ⟨S_, .i32⟩
  | 26 => ⟨S_, .i32⟩
  | 27 => ⟨S_, .i32⟩
  | 28 => ⟨S1x4x8x128x256, .f32⟩
  | 29 => ⟨S4x8x128x256, .f32⟩
  | 30 => ⟨S_, .i32⟩
  | 31 => ⟨S_, .i32⟩
  | 32 => ⟨S_, .i32⟩
  | 33 => ⟨S1x4x8x128, .f32⟩
  | 34 => ⟨S4x8x128, .f32⟩
  | 35 => ⟨S_, .i32⟩
  | 36 => ⟨S_, .i32⟩
  | 37 => ⟨S_, .i32⟩
  | 38 => ⟨S1x4x8x128, .f32⟩
  | 39 => ⟨S4x8x128, .f32⟩
  | 40 => ⟨S_, .f32⟩
  | 41 => ⟨S_, .f32⟩
  | 42 => ⟨S4x8x128, .f32⟩
  | 43 => ⟨S4x8x128x1, .f32⟩
  | 44 => ⟨S4x8x1x128, .f32⟩
  | 45 => ⟨S4x8x128x128, .f32⟩
  | 46 => ⟨S4x8x128x128, .f32⟩
  | 47 => ⟨S4x8x128x128, .f32⟩
  | 48 => ⟨S4x8x1x128, .f32⟩
  | 49 => ⟨S4x8x128x128, .f32⟩
  | 50 => ⟨S4x8x128x128, .f32⟩
  | 51 => ⟨S_, .f32⟩
  | 52 => ⟨S_, .f32⟩
  | 53 => ⟨S4x8x128x128, .i1⟩
  | 54 => ⟨S4x8x128x128, .f32⟩
  | 55 => ⟨S4x8x128x128, .f32⟩
  | 56 => ⟨S4x8x1, .f32⟩
  | 57 => ⟨S4x8x128, .f32⟩
  | 58 => ⟨S4x8x128, .f32⟩
  | 59 => ⟨S_, .f32⟩
  | 60 => ⟨S4x8x128, .f32⟩
  | 61 => ⟨S4x8x128, .f32⟩
  | 62 => ⟨S4x8x128x128, .f32⟩
  | 63 => ⟨S4x8x128x1, .f32⟩
  | 64 => ⟨S4x8x128x128, .f32⟩
  | 65 => ⟨S4x8x128x128, .f32⟩
  | 66 => ⟨S4x8x128x128, .f32⟩
  | 67 => ⟨S4x8x128x128, .f32⟩
  | 68 => ⟨S4x8x128, .f32⟩
  | 69 => ⟨S4x8x128, .f32⟩
  | 70 => ⟨S4x8x128x256, .f32⟩
  | 71 => ⟨S4x8x128x1, .f32⟩
  | 72 => ⟨S4x8x128x256, .f32⟩
  | 73 => ⟨S4x8x128x256, .f32⟩
  | 74 => ⟨S4x8x128x256, .f32⟩
  | 75 => ⟨S4x8x128x256, .f32⟩
  | 76 => ⟨S_, .f32⟩
  | 77 => ⟨S4x8x128, .f32⟩
  | 78 => ⟨S4x8x128, .f32⟩
  | 79 => ⟨S4x8x128, .f32⟩
  | 80 => ⟨S4x8x128, .f32⟩
  | 81 => ⟨S4x8x128, .f32⟩
  | 82 => ⟨S4x8x128, .f32⟩
  | 83 => ⟨S4x8x128, .f32⟩
  | 84 => ⟨S4x8x128, .f32⟩
  | 85 => ⟨S4x8x128x1, .f32⟩
  | 86 => ⟨S4x8x128x256, .f32⟩
  | 87 => ⟨S4x8x128x256, .f32⟩
  | 88 => ⟨S4x8x1, .f32⟩
  | 89 => ⟨S4x8, .f32⟩
  | 90 => ⟨S4x8x1, .f32⟩
  | 91 => ⟨S4x8x128, .f32⟩
  | 92 => ⟨S4x8x128, .f32⟩
  | 93 => ⟨S4x8x128, .f32⟩
  | 94 => ⟨S4x8, .f32⟩
  | 95 => ⟨S_, .f32⟩
  | 96 => ⟨S4x8, .f32⟩
  | 97 => ⟨S4x8, .f32⟩
  | 98 => ⟨S4x8, .f32⟩
  | 99 => ⟨S4x8, .f32⟩
  | 100 => ⟨S4x8, .f32⟩
  | 101 => ⟨S4x8x1, .f32⟩
  | 102 => ⟨S4x8x128, .f32⟩
  | 103 => ⟨S4x8x128, .f32⟩
  | 104 => ⟨S4x8x128, .f32⟩
  | 105 => ⟨S4x8x1x1, .f32⟩
  | 106 => ⟨S4x8x256x256, .f32⟩
  | 107 => ⟨S4x8x256x256, .f32⟩
  | 108 => ⟨S4x8x128x1, .f32⟩
  | 109 => ⟨S4x8x128x256, .f32⟩
  | 110 => ⟨S4x8x128x256, .f32⟩
  | 111 => ⟨S4x8x256x256, .f32⟩
  | 112 => ⟨S4x8x256x256, .f32⟩
  | 113 => ⟨S4x8x1, .f32⟩
  | 114 => ⟨S4x8x256, .f32⟩
  | 115 => ⟨S4x8x256, .f32⟩
  | 116 => ⟨S4x8x256, .f32⟩
  | 117 => ⟨S4x8x256, .f32⟩
  | 118 => ⟨S1x4x8x128x256, .f32⟩
  | 119 => ⟨S_, .i32⟩
  | 120 => ⟨S_, .i32⟩
  | 121 => ⟨S_, .i32⟩
  | 122 => ⟨S_, .i32⟩
  | 123 => ⟨S32x4x8x128x256, .f32⟩
  | 124 => ⟨S_, .i32⟩
  | 125 => ⟨S_, .i32⟩
  | 126 => ⟨S4x32x128x8x256, .f32⟩
  | 127 => ⟨S4x4096x2048, .f32⟩
  | _ => ⟨S16384x8192, .f32⟩

abbrev hbmTy0_2 (i : Nat) : BufTy := match i % 128 with
  | 0 => ⟨S4x4096x8192, .f32⟩
  | 1 => ⟨S4x4096x2048, .f32⟩
  | 2 => ⟨S4x4096x2048, .f32⟩
  | 3 => ⟨S_, .i32⟩
  | 4 => ⟨S_, .f32⟩
  | 5 => ⟨S4x4099x2048, .f32⟩
  | 6 => ⟨S4x4096x2048, .f32⟩
  | 7 => ⟨S1x2048, .f32⟩
  | 8 => ⟨S2048, .f32⟩
  | 9 => ⟨S1x1x2048, .f32⟩
  | 10 => ⟨S4x4096x2048, .f32⟩
  | 11 => ⟨S4x4096x2048, .f32⟩
  | 12 => ⟨S1x1x2048, .f32⟩
  | 13 => ⟨S4x4096x2048, .f32⟩
  | 14 => ⟨S4x4096x2048, .f32⟩
  | 15 => ⟨S4x4096x2048, .f32⟩
  | 16 => ⟨S1x2048, .f32⟩
  | 17 => ⟨S2048, .f32⟩
  | 18 => ⟨S1x1x2048, .f32⟩
  | 19 => ⟨S4x4096x2048, .f32⟩
  | 20 => ⟨S4x4096x2048, .f32⟩
  | 21 => ⟨S4x4096x2048, .f32⟩
  | 22 => ⟨S4x4096x2048, .f32⟩
  | 23 => ⟨S1x2048, .f32⟩
  | 24 => ⟨S2048, .f32⟩
  | 25 => ⟨S1x1x2048, .f32⟩
  | 26 => ⟨S4x4096x2048, .f32⟩
  | 27 => ⟨S4x4096x2048, .f32⟩
  | 28 => ⟨S4x4096x2048, .f32⟩
  | 29 => ⟨S4x4096x2048, .f32⟩
  | 30 => ⟨S1x2048, .f32⟩
  | 31 => ⟨S2048, .f32⟩
  | 32 => ⟨S1x1x2048, .f32⟩
  | 33 => ⟨S4x4096x2048, .f32⟩
  | 34 => ⟨S4x4096x2048, .f32⟩
  | 35 => ⟨S4x4096x2048, .f32⟩
  | 36 => ⟨S4x4096x2048, .f32⟩
  | 37 => ⟨S4x4096x2048, .f32⟩
  | 38 => ⟨S_, .f32⟩
  | 39 => ⟨S4x4096x2048, .f32⟩
  | 40 => ⟨S4x4096x2048, .f32⟩
  | 41 => ⟨S_, .f32⟩
  | 42 => ⟨S4x4096x2048, .f32⟩
  | 43 => ⟨S4x4096x2048, .f32⟩
  | 44 => ⟨S4x4096x2048, .f32⟩
  | 45 => ⟨S4x4096x8x256, .f32⟩
  | 46 => ⟨S_, .f32⟩
  | 47 => ⟨S4x4096x8, .f32⟩
  | 48 => ⟨S4x4096x8x1, .f32⟩
  | 49 => ⟨S_, .f32⟩
  | 50 => ⟨S4x4096x8x1, .f32⟩
  | 51 => ⟨S4x4096x8x1, .f32⟩
  | 52 => ⟨S4x4096x8x256, .f32⟩
  | 53 => ⟨S4x4096x8x256, .f32⟩
  | 54 => ⟨S4x4096x8x256, .f32⟩
  | 55 => ⟨S_, .f32⟩
  | 56 => ⟨S4x4096x8, .f32⟩
  | 57 => ⟨S4x4096x8x1, .f32⟩
  | 58 => ⟨S_, .f32⟩
  | 59 => ⟨S4x4096x8x1, .f32⟩
  | 60 => ⟨S4x4096x8x1, .f32⟩
  | 61 => ⟨S4x4096x8x256, .f32⟩
  | 62 => ⟨S4x4096x8x256, .f32⟩
  | 63 => ⟨S_, .f32⟩
  | 64 => ⟨S4x4096x8x1, .f32⟩
  | 65 => ⟨S4x4096x8x1, .f32⟩
  | 66 => ⟨S4x4096x8x1, .f32⟩
  | 67 => ⟨S4x4096x8x256, .f32⟩
  | 68 => ⟨S4x4096x8x256, .f32⟩
  | 69 => ⟨S4x4096x2048, .f32⟩
  | 70 => ⟨S1x1x2048, .f32⟩
  | 71 => ⟨S4x4096x2048, .f32⟩
  | 72 => ⟨S4x4096x2048, .f32⟩
  | 73 => ⟨S1x1x2048, .f32⟩
  | 74 => ⟨S4x4096x2048, .f32⟩
  | 75 => ⟨S4x4096x2048, .f32⟩
  | 76 => ⟨S4x4096x2048, .f32⟩
  | 77 => ⟨S4x4096x2048, .f32⟩
  | 78 => ⟨S4x4096x2048, .f32⟩
  | 79 => ⟨S_, .f32⟩
  | 80 => ⟨S4x4096x2048, .f32⟩
  | 81 => ⟨S4x4096x2048, .f32⟩
  | 82 => ⟨S_, .f32⟩
  | 83 => ⟨S4x4096x2048, .f32⟩
  | 84 => ⟨S4x4096x2048, .f32⟩
  | 85 => ⟨S4x4096x2048, .f32⟩
  | 86 => ⟨S4x4096x2048, .f32⟩
  | 87 => ⟨S4x4096x2048, .bf16⟩
  | _ => ⟨S16384x8192, .f32⟩

abbrev hbmTy (i : Nat) : BufTy := match i / 128 with
  | 0 => hbmTy0_0 i
  | 1 => hbmTy0_1 i
  | 2 => hbmTy0_2 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v69 : Ref sig .tc := ⟨.hbm, 105, rfl⟩
abbrev main_v70 : Ref sig .tc := ⟨.hbm, 106, rfl⟩
abbrev main_c_0 : Ref sig .tc := ⟨.hbm, 107, rfl⟩
abbrev main_v71 : Ref sig .tc := ⟨.hbm, 108, rfl⟩
abbrev main_call3_v0 : Ref sig .tc := ⟨.hbm, 109, rfl⟩
abbrev main_call3_c : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_c_0 : Ref sig .tc := ⟨.hbm, 115, rfl⟩
abbrev main_call3_v5 : Ref sig .tc := ⟨.hbm, 116, rfl⟩
abbrev main_v72 : Ref sig .tc := ⟨.hbm, 117, rfl⟩
abbrev main_cst_1 : Ref sig .tc := ⟨.hbm, 118, rfl⟩
abbrev main_v73 : Ref sig .tc := ⟨.hbm, 119, rfl⟩
abbrev main_cst_2 : Ref sig .tc := ⟨.hbm, 120, rfl⟩
abbrev main_v74 : Ref sig .tc := ⟨.hbm, 121, rfl⟩
abbrev main_cst_3 : Ref sig .tc := ⟨.hbm, 122, rfl⟩
abbrev main_v75 : Ref sig .tc := ⟨.hbm, 123, rfl⟩
abbrev main_cst_4 : Ref sig .tc := ⟨.hbm, 124, rfl⟩
abbrev main_v76 : Ref sig .tc := ⟨.hbm, 125, rfl⟩
abbrev main_c_5 : Ref sig .tc := ⟨.hbm, 126, rfl⟩
abbrev main_v77_0 : Ref sig .tc := ⟨.hbm, 127, rfl⟩
abbrev main_v77_1 : Ref sig .tc := ⟨.hbm, 128, rfl⟩
abbrev main_v77_2 : Ref sig .tc := ⟨.hbm, 129, rfl⟩
abbrev main_v77_3 : Ref sig .tc := ⟨.hbm, 130, rfl⟩
abbrev main_v77_4 : Ref sig .tc := ⟨.hbm, 131, rfl⟩
abbrev main_v77_5 : Ref sig .tc := ⟨.hbm, 132, rfl⟩
abbrev main_v77_6 : Ref sig .tc := ⟨.hbm, 133, rfl⟩
abbrev main_v77_7 : Ref sig .tc := ⟨.hbm, 134, rfl⟩
abbrev main_v77_8 : Ref sig .tc := ⟨.hbm, 135, rfl⟩
abbrev main_v77_9 : Ref sig .tc := ⟨.hbm, 136, rfl⟩
abbrev main_v77_10 : Ref sig .tc := ⟨.hbm, 137, rfl⟩
abbrev main_while0c_c_22 : Ref sig .tc := ⟨.hbm, 138, rfl⟩
abbrev main_while0c_v145 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_call4_c_1 : Ref sig .tc := ⟨.hbm, 142, rfl⟩
abbrev main_while0b_call4_c_2 : Ref sig .tc := ⟨.hbm, 143, rfl⟩
abbrev main_while0b_call4_v0 : Ref sig .tc := ⟨.hbm, 144, rfl⟩
abbrev main_while0b_v145 : Ref sig .tc := ⟨.hbm, 145, rfl⟩
abbrev main_while0b_call5_c : Ref sig .tc := ⟨.hbm, 146, rfl⟩
abbrev main_while0b_call5_c_0 : Ref sig .tc := ⟨.hbm, 147, rfl⟩
abbrev main_while0b_call5_c_1 : Ref sig .tc := ⟨.hbm, 148, rfl⟩
abbrev main_while0b_call5_c_2 : Ref sig .tc := ⟨.hbm, 149, rfl⟩
abbrev main_while0b_call5_v0 : Ref sig .tc := ⟨.hbm, 150, rfl⟩
abbrev main_while0b_v146 : Ref sig .tc := ⟨.hbm, 151, rfl⟩
abbrev main_while0b_call6_c : Ref sig .tc := ⟨.hbm, 152, rfl⟩
abbrev main_while0b_call6_c_0 : Ref sig .tc := ⟨.hbm, 153, rfl⟩
abbrev main_while0b_call6_c_1 : Ref sig .tc := ⟨.hbm, 154, rfl⟩
abbrev main_while0b_call6_c_2 : Ref sig .tc := ⟨.hbm, 155, rfl⟩
abbrev main_while0b_call6_v0 : Ref sig .tc := ⟨.hbm, 156, rfl⟩
abbrev main_while0b_v147 : Ref sig .tc := ⟨.hbm, 157, rfl⟩
abbrev main_while0b_call7_c : Ref sig .tc := ⟨.hbm, 158, rfl⟩
abbrev main_while0b_call7_c_0 : Ref sig .tc := ⟨.hbm, 159, rfl⟩
abbrev main_while0b_call7_c_1 : Ref sig .tc := ⟨.hbm, 160, rfl⟩
abbrev main_while0b_call7_v0 : Ref sig .tc := ⟨.hbm, 161, rfl⟩
abbrev main_while0b_v148 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_v0 : Ref sig .tc := ⟨.hbm, 166, rfl⟩
abbrev main_while0b_v149 : Ref sig .tc := ⟨.hbm, 167, rfl⟩
abbrev main_while0b_call9_call0_cst : Ref sig .tc := ⟨.hbm, 168, rfl⟩
abbrev main_while0b_call9_call0_v0 : Ref sig .tc := ⟨.hbm, 169, rfl⟩
abbrev main_while0b_v150 : Ref sig .tc := ⟨.hbm, 170, rfl⟩
abbrev main_while0b_v151 : Ref sig .tc := ⟨.hbm, 171, rfl⟩
abbrev main_while0b_v152 : Ref sig .tc := ⟨.hbm, 172, rfl⟩
abbrev main_while0b_v153 : Ref sig .tc := ⟨.hbm, 173, rfl⟩
abbrev main_while0b_v154 : Ref sig .tc := ⟨.hbm, 174, rfl⟩
abbrev main_while0b_v155 : Ref sig .tc := ⟨.hbm, 175, rfl⟩
abbrev main_while0b_v156 : Ref sig .tc := ⟨.hbm, 176, rfl⟩
abbrev main_while0b_v157 : Ref sig .tc := ⟨.hbm, 177, rfl⟩
abbrev main_while0b_v158 : Ref sig .tc := ⟨.hbm, 178, rfl⟩
abbrev main_while0b_cst_22 : Ref sig .tc := ⟨.hbm, 179, rfl⟩
abbrev main_while0b_call10_v0 : Ref sig .tc := ⟨.hbm, 180, rfl⟩
abbrev main_while0b_call10_v1 : Ref sig .tc := ⟨.hbm, 181, rfl⟩
abbrev main_while0b_call10_v2 : Ref sig .tc := ⟨.hbm, 182, rfl⟩
abbrev main_while0b_v159 : Ref sig .tc := ⟨.hbm, 183, rfl⟩
abbrev main_while0b_v160 : Ref sig .tc := ⟨.hbm, 184, rfl⟩
abbrev main_while0b_v161 : Ref sig .tc := ⟨.hbm, 185, rfl⟩
abbrev main_while0b_v162 : Ref sig .tc := ⟨.hbm, 186, rfl⟩
abbrev main_while0b_cst_23 : Ref sig .tc := ⟨.hbm, 187, rfl⟩
abbrev main_while0b_v163 : Ref sig .tc := ⟨.hbm, 188, rfl⟩
abbrev main_while0b_v164 : Ref sig .tc := ⟨.hbm, 189, rfl⟩
abbrev main_while0b_v165 : Ref sig .tc := ⟨.hbm, 190, rfl⟩
abbrev main_while0b_v166 : Ref sig .tc := ⟨.hbm, 191, rfl⟩
abbrev main_while0b_v167 : Ref sig .tc := ⟨.hbm, 192, rfl⟩
abbrev main_while0b_v168 : Ref sig .tc := ⟨.hbm, 193, rfl⟩
abbrev main_while0b_v169 : Ref sig .tc := ⟨.hbm, 194, rfl⟩
abbrev main_while0b_v170 : Ref sig .tc := ⟨.hbm, 195, rfl⟩
abbrev main_while0b_v171 : Ref sig .tc := ⟨.hbm, 196, rfl⟩
abbrev main_while0b_v172 : Ref sig .tc := ⟨.hbm, 197, rfl⟩
abbrev main_while0b_v173 : Ref sig .tc := ⟨.hbm, 198, rfl⟩
abbrev main_while0b_v174 : Ref sig .tc := ⟨.hbm, 199, rfl⟩
abbrev main_while0b_v175 : Ref sig .tc := ⟨.hbm, 200, rfl⟩
abbrev main_while0b_v176 : Ref sig .tc := ⟨.hbm, 201, rfl⟩
abbrev main_while0b_v177 : Ref sig .tc := ⟨.hbm, 202, rfl⟩
abbrev main_while0b_v178 : Ref sig .tc := ⟨.hbm, 203, rfl⟩
abbrev main_while0b_cst_24 : Ref sig .tc := ⟨.hbm, 204, rfl⟩
abbrev main_while0b_v179 : Ref sig .tc := ⟨.hbm, 205, rfl⟩
abbrev main_while0b_v180 : Ref sig .tc := ⟨.hbm, 206, rfl⟩
abbrev main_while0b_v181 : Ref sig .tc := ⟨.hbm, 207, rfl⟩
abbrev main_while0b_v182 : Ref sig .tc := ⟨.hbm, 208, rfl⟩
abbrev main_while0b_v183 : Ref sig .tc := ⟨.hbm, 209, rfl⟩
abbrev main_while0b_v184 : Ref sig .tc := ⟨.hbm, 210, rfl⟩
abbrev main_while0b_v185 : Ref sig .tc := ⟨.hbm, 211, rfl⟩
abbrev main_while0b_v186 : Ref sig .tc := ⟨.hbm, 212, rfl⟩
abbrev main_while0b_v187 : Ref sig .tc := ⟨.hbm, 213, rfl⟩
abbrev main_while0b_v188 : Ref sig .tc := ⟨.hbm, 214, rfl⟩
abbrev main_while0b_v189 : Ref sig .tc := ⟨.hbm, 215, rfl⟩
abbrev main_while0b_v190 : Ref sig .tc := ⟨.hbm, 216, rfl⟩
abbrev main_while0b_v191 : Ref sig .tc := ⟨.hbm, 217, rfl⟩
abbrev main_while0b_v192 : Ref sig .tc := ⟨.hbm, 218, rfl⟩
abbrev main_while0b_v193 : Ref sig .tc := ⟨.hbm, 219, rfl⟩
abbrev main_while0b_v194 : Ref sig .tc := ⟨.hbm, 220, rfl⟩
abbrev main_while0b_v195 : Ref sig .tc := ⟨.hbm, 221, rfl⟩
abbrev main_while0b_v196 : Ref sig .tc := ⟨.hbm, 222, rfl⟩
abbrev main_while0b_cst_25 : Ref sig .tc := ⟨.hbm, 223, rfl⟩
abbrev main_while0b_v197 : Ref sig .tc := ⟨.hbm, 224, rfl⟩
abbrev main_while0b_v198 : Ref sig .tc := ⟨.hbm, 225, rfl⟩
abbrev main_while0b_v199 : Ref sig .tc := ⟨.hbm, 226, rfl⟩
abbrev main_while0b_v200 : Ref sig .tc := ⟨.hbm, 227, rfl⟩
abbrev main_while0b_v201 : Ref sig .tc := ⟨.hbm, 228, rfl⟩
abbrev main_while0b_v202 : Ref sig .tc := ⟨.hbm, 229, rfl⟩
abbrev main_while0b_v203 : Ref sig .tc := ⟨.hbm, 230, rfl⟩
abbrev main_while0b_v204 : Ref sig .tc := ⟨.hbm, 231, rfl⟩
abbrev main_while0b_v205 : Ref sig .tc := ⟨.hbm, 232, rfl⟩
abbrev main_while0b_v206 : Ref sig .tc := ⟨.hbm, 233, rfl⟩
abbrev main_while0b_v207 : Ref sig .tc := ⟨.hbm, 234, rfl⟩
abbrev main_while0b_v208 : Ref sig .tc := ⟨.hbm, 235, rfl⟩
abbrev main_while0b_v209 : Ref sig .tc := ⟨.hbm, 236, rfl⟩
abbrev main_while0b_v210 : Ref sig .tc := ⟨.hbm, 237, rfl⟩
abbrev main_while0b_v211 : Ref sig .tc := ⟨.hbm, 238, rfl⟩
abbrev main_while0b_v212 : Ref sig .tc := ⟨.hbm, 239, rfl⟩
abbrev main_while0b_v213 : Ref sig .tc := ⟨.hbm, 240, rfl⟩
abbrev main_while0b_v214 : Ref sig .tc := ⟨.hbm, 241, rfl⟩
abbrev main_while0b_v215 : Ref sig .tc := ⟨.hbm, 242, rfl⟩
abbrev main_while0b_v216 : Ref sig .tc := ⟨.hbm, 243, rfl⟩
abbrev main_while0b_v217 : Ref sig .tc := ⟨.hbm, 244, rfl⟩
abbrev main_while0b_v218 : Ref sig .tc := ⟨.hbm, 245, rfl⟩
abbrev main_while0b_call11_v0 : Ref sig .tc := ⟨.hbm, 246, rfl⟩
abbrev main_while0b_call11_c : Ref sig .tc := ⟨.hbm, 247, rfl⟩
abbrev main_while0b_call11_c_0 : Ref sig .tc := ⟨.hbm, 248, rfl⟩
abbrev main_while0b_call11_c_1 : Ref sig .tc := ⟨.hbm, 249, rfl⟩
abbrev main_while0b_call11_c_2 : Ref sig .tc := ⟨.hbm, 250, rfl⟩
abbrev main_while0b_v219 : Ref sig .tc := ⟨.hbm, 251, rfl⟩
abbrev main_while0b_c_26 : Ref sig .tc := ⟨.hbm, 252, rfl⟩
abbrev main_while0b_v220 : Ref sig .tc := ⟨.hbm, 253, rfl⟩
abbrev main_v78 : Ref sig .tc := ⟨.hbm, 254, rfl⟩
abbrev main_v79 : Ref sig .tc := ⟨.hbm, 255, rfl⟩
abbrev main_v80 : Ref sig .tc := ⟨.hbm, 256, rfl⟩
abbrev main_v81 : Ref sig .tc := ⟨.hbm, 257, rfl⟩
abbrev main_v82 : Ref sig .tc := ⟨.hbm, 258, rfl⟩
abbrev main_c_6 : Ref sig .tc := ⟨.hbm, 259, rfl⟩
abbrev main_call12_v0 : Ref sig .tc := ⟨.hbm, 260, rfl⟩
abbrev main_v83 : Ref sig .tc := ⟨.hbm, 261, rfl⟩
abbrev main_v84 : Ref sig .tc := ⟨.hbm, 262, rfl⟩
abbrev main_v85 : Ref sig .tc := ⟨.hbm, 263, rfl⟩
abbrev main_v86 : Ref sig .tc := ⟨.hbm, 264, rfl⟩
abbrev main_v87 : Ref sig .tc := ⟨.hbm, 265, rfl⟩
abbrev main_v88 : Ref sig .tc := ⟨.hbm, 266, rfl⟩
abbrev main_v89 : Ref sig .tc := ⟨.hbm, 267, rfl⟩
abbrev main_v90 : Ref sig .tc := ⟨.hbm, 268, rfl⟩
abbrev main_v91 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_v103 : Ref sig .tc := ⟨.hbm, 281, rfl⟩
abbrev main_v104 : Ref sig .tc := ⟨.hbm, 282, rfl⟩
abbrev main_v105 : Ref sig .tc := ⟨.hbm, 283, rfl⟩
abbrev main_v106 : Ref sig .tc := ⟨.hbm, 284, rfl⟩
abbrev main_v107 : Ref sig .tc := ⟨.hbm, 285, rfl⟩
abbrev main_v108 : Ref sig .tc := ⟨.hbm, 286, rfl⟩
abbrev main_v109 : Ref sig .tc := ⟨.hbm, 287, rfl⟩
abbrev main_v110 : Ref sig .tc := ⟨.hbm, 288, rfl⟩
abbrev main_v111 : Ref sig .tc := ⟨.hbm, 289, rfl⟩
abbrev main_v112 : Ref sig .tc := ⟨.hbm, 290, rfl⟩
abbrev main_v113 : Ref sig .tc := ⟨.hbm, 291, rfl⟩
abbrev main_call13_v0 : Ref sig .tc := ⟨.hbm, 292, rfl⟩
abbrev main_call13_v1 : Ref sig .tc := ⟨.hbm, 293, rfl⟩
abbrev main_call13_cst : Ref sig .tc := ⟨.hbm, 294, rfl⟩
abbrev main_call13_v2 : Ref sig .tc := ⟨.hbm, 295, rfl⟩
abbrev main_call13_v3 : Ref sig .tc := ⟨.hbm, 296, rfl⟩
abbrev main_call13_cst_0 : Ref sig .tc := ⟨.hbm, 297, rfl⟩
abbrev main_call13_v4 : Ref sig .tc := ⟨.hbm, 298, rfl⟩
abbrev main_call13_v5 : Ref sig .tc := ⟨.hbm, 299, rfl⟩
abbrev main_v114 : Ref sig .tc := ⟨.hbm, 300, rfl⟩
abbrev main_v115 : Ref sig .tc := ⟨.hbm, 301, rfl⟩
abbrev main_cst_7 : Ref sig .tc := ⟨.hbm, 302, rfl⟩
abbrev main_v116 : Ref sig .tc := ⟨.hbm, 303, rfl⟩
abbrev main_v117 : Ref sig .tc := ⟨.hbm, 304, rfl⟩
abbrev main_cst_8 : Ref sig .tc := ⟨.hbm, 305, rfl⟩
abbrev main_v118 : Ref sig .tc := ⟨.hbm, 306, rfl⟩
abbrev main_v119 : Ref sig .tc := ⟨.hbm, 307, rfl⟩
abbrev main_v120 : Ref sig .tc := ⟨.hbm, 308, rfl⟩
abbrev main_v121 : Ref sig .tc := ⟨.hbm, 309, rfl⟩
abbrev main_v122 : Ref sig .tc := ⟨.hbm, 310, rfl⟩
abbrev main_cst_9 : Ref sig .tc := ⟨.hbm, 311, rfl⟩
abbrev main_v123 : Ref sig .tc := ⟨.hbm, 312, rfl⟩
abbrev main_v124 : Ref sig .tc := ⟨.hbm, 313, rfl⟩
abbrev main_cst_10 : Ref sig .tc := ⟨.hbm, 314, rfl⟩
abbrev main_v125 : Ref sig .tc := ⟨.hbm, 315, rfl⟩
abbrev main_v126 : Ref sig .tc := ⟨.hbm, 316, rfl⟩
abbrev main_v127 : Ref sig .tc := ⟨.hbm, 317, rfl⟩
abbrev main_v128 : Ref sig .tc := ⟨.hbm, 318, rfl⟩
abbrev main_cst_11 : Ref sig .tc := ⟨.hbm, 319, rfl⟩
abbrev main_v129 : Ref sig .tc := ⟨.hbm, 320, rfl⟩
abbrev main_v130 : Ref sig .tc := ⟨.hbm, 321, rfl⟩
abbrev main_v131 : Ref sig .tc := ⟨.hbm, 322, rfl⟩
abbrev main_v132 : Ref sig .tc := ⟨.hbm, 323, rfl⟩
abbrev main_v133 : Ref sig .tc := ⟨.hbm, 324, rfl⟩
abbrev main_v134 : Ref sig .tc := ⟨.hbm, 325, rfl⟩
abbrev main_v135 : Ref sig .tc := ⟨.hbm, 326, rfl⟩
abbrev main_v136 : Ref sig .tc := ⟨.hbm, 327, rfl⟩
abbrev main_v137 : Ref sig .tc := ⟨.hbm, 328, rfl⟩
abbrev main_v138 : Ref sig .tc := ⟨.hbm, 329, rfl⟩
abbrev main_v139 : Ref sig .tc := ⟨.hbm, 330, rfl⟩
abbrev main_v140 : Ref sig .tc := ⟨.hbm, 331, rfl⟩
abbrev main_v141 : Ref sig .tc := ⟨.hbm, 332, rfl⟩
abbrev main_call14_v0 : Ref sig .tc := ⟨.hbm, 333, rfl⟩
abbrev main_call14_v1 : Ref sig .tc := ⟨.hbm, 334, rfl⟩
abbrev main_call14_cst : Ref sig .tc := ⟨.hbm, 335, rfl⟩
abbrev main_call14_v2 : Ref sig .tc := ⟨.hbm, 336, rfl⟩
abbrev main_call14_v3 : Ref sig .tc := ⟨.hbm, 337, rfl⟩
abbrev main_call14_cst_0 : Ref sig .tc := ⟨.hbm, 338, rfl⟩
abbrev main_call14_v4 : Ref sig .tc := ⟨.hbm, 339, rfl⟩
abbrev main_call14_v5 : Ref sig .tc := ⟨.hbm, 340, rfl⟩
abbrev main_v142 : Ref sig .tc := ⟨.hbm, 341, rfl⟩
abbrev main_v143 : Ref sig .tc := ⟨.hbm, 342, rfl⟩
abbrev main_v144 : Ref sig .tc := ⟨.hbm, 343, rfl⟩

abbrev nD : Nat := 1
abbrev τ : Topo := Topo.v7x

variable {F : FTy → Type} [FloatOps F]

abbrev main_while0_count : Scf.Loop 32 := ⟨0#32, 32#32, 1#32⟩
-- ==== In0.lean ====
abbrev S4x4096x2048 : Shape := ⟨3, ![4, 4096, 2048]⟩
abbrev S2048 : Shape := ⟨1, ![2048]⟩
abbrev S2048x8192 : Shape := ⟨2, ![2048, 8192]⟩
abbrev S16384x2048 : Shape := ⟨2, ![16384, 2048]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8192, .f32⟩
  | .hbm, ⟨3, _⟩ => ⟨S16384x2048, .f32⟩
  | .hbm, ⟨4, _⟩ => ⟨S1x2048, .f32⟩
  | .hbm, ⟨5, _⟩ => ⟨S2048x8192, .bf16⟩
  | .hbm, ⟨6, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== In0RefIdeal.lean ====
abbrev S4x4096x2048 : Shape := ⟨3, ![4, 4096, 2048]⟩
abbrev S2048 : Shape := ⟨1, ![2048]⟩
abbrev S2048x8192 : Shape := ⟨2, ![2048, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8192, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x8192, .f32⟩
  | .hbm, ⟨20, _⟩ => ⟨S16384x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out0.lean ====
abbrev S16384x2048 : Shape := ⟨2, ![16384, 2048]⟩
abbrev S4096x2048 : Shape := ⟨2, ![4096, 2048]⟩
abbrev S2048 : Shape := ⟨1, ![2048]⟩
abbrev S2x2048x2048 : Shape := ⟨3, ![2, 2048, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x2048, .f32⟩
  | .hbm, ⟨3, _⟩ => ⟨S2048, .f32⟩
  | .hbm, ⟨4, _⟩ => ⟨S16384x2048, .f32⟩
  | .hbm, ⟨5, _⟩ => ⟨S4096x2048, .bf16⟩
  | .hbm, ⟨6, _⟩ => ⟨S2x2048x2048, .bf16⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Out0RefIdeal.lean ====
abbrev S16384x2048 : Shape := ⟨2, ![16384, 2048]⟩
abbrev S4096x2048 : Shape := ⟨2, ![4096, 2048]⟩
abbrev S2048 : Shape := ⟨1, ![2048]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x4096, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Out1.lean ====
abbrev S16384x4096 : Shape := ⟨2, ![16384, 4096]⟩
abbrev S4096x2048 : Shape := ⟨2, ![4096, 2048]⟩
abbrev S2048 : Shape := ⟨1, ![2048]⟩
abbrev S16384x2048 : Shape := ⟨2, ![16384, 2048]⟩
abbrev S1x4096x2048 : Shape := ⟨3, ![1, 4096, 2048]⟩
abbrev S1x2048 : Shape := ⟨2, ![1, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S4096x2048, .bf16⟩
  | .hbm, ⟨5, _⟩ => ⟨S1x4096x2048, .bf16⟩
  | .hbm, ⟨6, _⟩ => ⟨S1x2048, .f32⟩
  | .hbm, ⟨7, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Out1RefIdeal.lean ====
abbrev S16384x4096 : Shape := ⟨2, ![16384, 4096]⟩
abbrev S4096x2048 : Shape := ⟨2, ![4096, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== In1.lean ====
abbrev S16384x2048 : Shape := ⟨2, ![16384, 2048]⟩
abbrev S2048 : Shape := ⟨1, ![2048]⟩
abbrev S2048x16384 : Shape := ⟨2, ![2048, 16384]⟩
abbrev S2048x96 : Shape := ⟨2, ![2048, 96]⟩
abbrev S12288 : Shape := ⟨1, ![12288]⟩
abbrev S1x2048 : Shape := ⟨2, ![1, 2048]⟩
abbrev S_ : Shape := ⟨0, ![]⟩
abbrev S2048x128 : Shape := ⟨2, ![2048, 128]⟩
abbrev S1x12288 : Shape := ⟨2, ![1, 12288]⟩
abbrev S1x16384 : Shape := ⟨2, ![1, 16384]⟩
abbrev S16384x16384 : Shape := ⟨2, ![16384, 16384]⟩
abbrev S16384x256 : Shape := ⟨2, ![16384, 256]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024x256 : Shape := ⟨2, ![1024, 256]⟩
abbrev S16x1x1024 : Shape := ⟨3, ![16, 1, 1024]⟩
abbrev S1024 : Shape := ⟨1, ![1024]⟩
abbrev S1024x1 : Shape := ⟨2, ![1024, 1]⟩
abbrev S1024x128 : Shape := ⟨2, ![1024, 128]⟩
abbrev S1x1x1024 : Shape := ⟨3, ![1, 1, 1024]⟩

abbrev nBuf : Space → Nat
  | .hbm => 26
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16384, .f32⟩
  | .hbm, ⟨3, _⟩ => ⟨S2048, .f32⟩
  | .hbm, ⟨4, _⟩ => ⟨S2048, .f32⟩
  | .hbm, ⟨5, _⟩ => ⟨S2048x96, .f32⟩
  | .hbm, ⟨6, _⟩ => ⟨S2048x96, .f32⟩
  | .hbm, ⟨7, _⟩ => ⟨S12288, .f32⟩
  | .hbm, ⟨8, _⟩ => ⟨S1x2048, .f32⟩
  | .hbm, ⟨9, _⟩ => ⟨S2048x16384, .bf16⟩
  | .hbm, ⟨10, _⟩ => ⟨S1x2048, .f32⟩
  | .hbm, ⟨11, _⟩ => ⟨S1x2048, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x128, .bf16⟩
  | .hbm, ⟨20, _⟩ => ⟨S1x12288, .f32⟩
  | .hbm, ⟨21, _⟩ => ⟨S_, .i32⟩
  | .hbm, ⟨22, _⟩ => ⟨S_, .f32⟩
  | .hbm, ⟨23, _⟩ => ⟨S1x16384, .f32⟩
  | .hbm, ⟨24, _⟩ => ⟨S16384x16384, .f32⟩
  | .hbm, ⟨25, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S2048x128, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x256, .f32⟩
  | .local _ .vmem, ⟨14, _⟩ => ⟨S1024x256, .f32⟩
  | .local _ .vmem, ⟨15, _⟩ => ⟨S1024x2048, .bf16⟩
  | .local _ .vmem, ⟨16, _⟩ => ⟨S1x2048, .f32⟩
  | .local _ .vmem, ⟨17, _⟩ => ⟨S16x1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 16], ![false, false]⟩

def k0_off1 (i : grid0.Coords) : Fin 3 → Nat :=
  let arg1 : BitVec 32 := BitVec.ofNat 32 (i 1).val
  let v19 : Index := Scalar.indexCast arg1
  let c0_9 : Index := 0#32
  let c0_10 : Index := 0#32
  ![v19.toNat, 0, 0]
def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== In1RefIdeal.lean ====
abbrev S16384x2048 : Shape := ⟨2, ![16384, 2048]⟩
abbrev S2048 : Shape := ⟨1, ![2048]⟩
abbrev S2048x16384 : Shape := ⟨2, ![2048, 16384]⟩
abbrev S2048x96 : Shape := ⟨2, ![2048, 96]⟩
abbrev S12288 : Shape := ⟨1, ![12288]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x16384 : Shape := ⟨3, ![4, 4096, 16384]⟩
abbrev S4x4096x12288 : Shape := ⟨3, ![4, 4096, 12288]⟩
abbrev S4x4096x4096 : Shape := ⟨3, ![4, 4096, 4096]⟩
abbrev S4x4095x12288 : Shape := ⟨3, ![4, 4095, 12288]⟩
abbrev S1x1x12288 : Shape := ⟨3, ![1, 1, 12288]⟩
abbrev S4x4095x2048 : Shape := ⟨3, ![4, 4095, 2048]⟩
abbrev S4x4096x96 : Shape := ⟨3, ![4, 4096, 96]⟩
abbrev S4x4096x128 : Shape := ⟨3, ![4, 4096, 128]⟩
abbrev S16384x16384 : Shape := ⟨2, ![16384, 16384]⟩
abbrev S4x4096x256 : Shape := ⟨3, ![4, 4096, 256]⟩
abbrev S16384x256 : Shape := ⟨2, ![16384, 256]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16384, .f32⟩
  | .hbm, ⟨3, _⟩ => ⟨S2048, .f32⟩
  | .hbm, ⟨4, _⟩ => ⟨S2048, .f32⟩
  | .hbm, ⟨5, _⟩ => ⟨S2048x96, .f32⟩
  | .hbm, ⟨6, _⟩ => ⟨S2048x96, .f32⟩
  | .hbm, ⟨7, _⟩ => ⟨S12288, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x16384, .f32⟩
  | .hbm, ⟨26, _⟩ => ⟨S4x4096x12288, .f32⟩
  | .hbm, ⟨27, _⟩ => ⟨S4x4096x4096, .f32⟩
  | .hbm, ⟨28, _⟩ => ⟨S4x4095x12288, .f32⟩
  | .hbm, ⟨29, _⟩ => ⟨S_, .i32⟩
  | .hbm, ⟨30, _⟩ => ⟨S_, .f32⟩
  | .hbm, ⟨31, _⟩ => ⟨S4x4096x12288, .f32⟩
  | .hbm, ⟨32, _⟩ => ⟨S4x4096x12288, .f32⟩
  | .hbm, ⟨33, _⟩ => ⟨S1x1x12288, .f32⟩
  | .hbm, ⟨34, _⟩ => ⟨S4x4096x12288, .f32⟩
  | .hbm, ⟨35, _⟩ => ⟨S4x4096x12288, .f32⟩
  | .hbm, ⟨36, _⟩ => ⟨S4x4096x12288, .f32⟩
  | .hbm, ⟨37, _⟩ => ⟨S4x4095x2048, .f32⟩
  | .hbm, ⟨38, _⟩ => ⟨S_, .i32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x96, .f32⟩
  | .hbm, ⟨51, _⟩ => ⟨S4x4096x96, .f32⟩
  | .hbm, ⟨52, _⟩ => ⟨S_, .i32⟩
  | .hbm, ⟨53, _⟩ => ⟨S_, .f32⟩
  | .hbm, ⟨54, _⟩ => ⟨S4x4096x128, .f32⟩
  | .hbm, ⟨55, _⟩ => ⟨S4x4096x96, .f32⟩
  | .hbm, ⟨56, _⟩ => ⟨S_, .i32⟩
  | .hbm, ⟨57, _⟩ => ⟨S_, .f32⟩
  | .hbm, ⟨58, _⟩ => ⟨S4x4096x128, .f32⟩
  | .hbm, ⟨59, _⟩ => ⟨S4x4096x16384, .f32⟩
  | .hbm, ⟨60, _⟩ => ⟨S16384x16384, .f32⟩
  | .hbm, ⟨61, _⟩ => ⟨S4x4096x256, .f32⟩
  | .hbm, ⟨62, _⟩ => ⟨S16384x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_3 : Ref sig .tc := ⟨.hbm, 52, rfl⟩
abbrev main_call2_v0 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_call3_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.MlstmStages.lean ====
/- The body of the chunkwise mLSTM kernel as named stages: one grid point handles one chunk of 128
   positions of two batch entries, each with eight heads. A stage is the printed vector operations of
   one quantity of the recurrence, for a batch entry and a head given by variables; what the stages read
   from the buffers is gathered in `Loads`. -/
module

public import proofs.«01_k».proof.Proof.Gen.KernelIdeal.Value

@[expose] public section

noncomputable section

namespace Cert.KernelIdeal.Mlstm

open Idealize.ShloMosaic Idealize.SL.Sem Cert.KernelIdeal Cert.KernelIdeal.Gen

variable {F : FTy → Type} [FloatOps F] [Named F]

/-- What the body reads at one grid point: the two batch entries' rows `X` and gates `Z`, the eight last
    rows of the previous chunk `T`, the weights, and the state of the sixteen pairs (batch entry, head):
    the matrix memory `C` (`C'` when it is read again for the update), the normaliser `N`, the
    stabiliser `M`. -/
structure Loads (F : FTy → Type) where
  X : Fin 2 → Vec F S1x128x2048 .f32
  Z : Fin 2 → Vec F S1x128x2048 .f32
  T : Fin 2 → Vec F S1x8x2048 .f32
  cw : Vec F S4x2048 .f32
  cb : Vec F S1x2048 .f32
  WQ : Fin 8 → Vec F S1x256x256 .bf16
  WK : Fin 8 → Vec F S1x256x256 .bf16
  WV : Fin 8 → Vec F S1x256x256 .bf16
  WG : Fin 3 → Vec F S1x2048x128 .bf16
  bg : Vec F S1x128 .f32
  sk : Vec F S1x2048 .f32
  gn : Vec F S1x2048 .f32
  C : Fin 16 → Vec F S1x256x256 .f32
  C' : Fin 16 → Vec F S1x256x256 .f32
  N : Fin 16 → Vec F S1x1x256 .f32
  M : Fin 16 → Vec F S1x8x128 .f32

/-- The pair of batch entry `b` and head `h`, as the state buffers number it. -/
def pr (b : Fin 2) (h : Fin 8) : Fin 16 := ⟨b.val * 8 + h.val, by omega⟩

theorem inbRow {n a b : ℕ} (k : Fin n) : ∀ x, (![k.val, 0, 0] : Fin 3 → ℕ) x + (⟨3, ![1, a, b]⟩ : Shape).size x ≤ (⟨3, ![n, a, b]⟩ : Shape).size x
  | ⟨0, _⟩ => by have := k.isLt; show k.val + 1 ≤ n; omega
  | ⟨1, _⟩ => by show 0 + a ≤ a; omega
  | ⟨2, _⟩ => by show 0 + b ≤ b; omega

/-- The batch entry and the head of pair `k`. -/
def bOf (k : Fin 16) : Fin 2 := ⟨k.val / 8, by omega⟩
def hOf (k : Fin 16) : Fin 8 := ⟨k.val % 8, by omega⟩

/-! ### Slices at a head -/

theorem slices_head (h : Fin 8) : S128x2048.Slices ![0, h.val * 256] S128x256 :=
  ⟨rfl, fun a => match a with
    | ⟨0, _⟩ => by show 0 + 128 ≤ 128; omega
    | ⟨1, _⟩ => by have := h.isLt; show h.val * 256 + 256 ≤ 2048; omega⟩

theorem slices_col (k : Fin 16) : S128x128.Slices ![0, k.val] S128x1 :=
  ⟨rfl, fun a => match a with
    | ⟨0, _⟩ => by show 0 + 128 ≤ 128; omega
    | ⟨1, _⟩ => by have := k.isLt; show k.val + 1 ≤ 128; omega⟩

theorem slices_row (k : Fin 16) : S128x128.Slices ![k.val, 0] S1x128 :=
  ⟨rfl, fun a => match a with
    | ⟨0, _⟩ => by have := k.isLt; show k.val + 1 ≤ 128; omega
    | ⟨1, _⟩ => by show 0 + 128 ≤ 128; omega⟩

/-- The 256 columns of head `h`. -/
def head {φ : FTy} (h : Fin 8) (x : FVec F S128x2048 φ) : FVec F S128x256 φ :=
  extractStridedSlice S128x256 ![0, h.val * 256] x (slices_head h)

/-- Column `k` of the gates. -/
def col (k : Fin 16) (x : FVec F S128x128 .f32) : FVec F S128x1 .f32 :=
  extractStridedSlice S128x1 ![0, k.val] x (slices_col k)

/-- Row `k` of the transposed gates. -/
def row (k : Fin 16) (x : FVec F S128x128 .f32) : FVec F S1x128 .f32 :=
  extractStridedSlice S1x128 ![k.val, 0] x (slices_row k)

/-- Eight blocks of 256 columns side by side. -/
def join (f : Fin 8 → FVec F S128x256 .f32) : FVec F S128x2048 .f32 :=
  concatenate S128x2048 1 [⟨S128x256, f 0⟩, ⟨S128x256, f 1⟩, ⟨S128x256, f 2⟩, ⟨S128x256, f 3⟩, ⟨S128x256, f 4⟩,
    ⟨S128x256, f 5⟩, ⟨S128x256, f 6⟩, ⟨S128x256, f 7⟩]
    concatenates_S128x256_S128x256_S128x256_S128x256_S128x256_S128x256_S128x256_S128x256_S128x2048_d1

/-! ### A batch entry -/

/-- The rows shifted down by `n`, the first `n` of them out of the previous chunk's tail. -/
def shifted (n : BitVec 32) (x : FVec F S128x2048 .f32) (t : FVec F S8x2048 .f32) : FVec F S128x2048 .f32 :=
  concatenate S128x2048 0 [⟨S8x2048, select (cmpi .slt (iota .tc S8x2048 32 [0] iota_S8x2048_d0_w32) (broadcast S8x2048 n))
      (dynamicRotate 0 n none t rotates_S8x2048_d0)
      (extractStridedSlice S8x2048 ![0, 0] (dynamicRotate 0 n none x rotates_S128x2048_d0) slices_S128x2048_o0_0_S8x2048)⟩,
    ⟨S120x2048, extractStridedSlice S120x2048 ![8, 0] (dynamicRotate 0 n none x rotates_S128x2048_d0) slices_S128x2048_o8_0_S120x2048⟩]
    concatenates_S8x2048_S120x2048_S128x2048_d0

/-- The causal convolution with four taps. -/
def conv (x : FVec F S128x2048 .f32) (t : FVec F S8x2048 .f32) (w : Vec F S4x2048 .f32) (b : Vec F S1x2048 .f32) :
    FVec F S128x2048 .f32 :=
  addf (addf (addf (addf (broadcastTo S128x2048 (shapeCast S1x2048 b shapeCasts_S1x2048_S1x2048) broadcasts_S1x2048_S128x2048)
    (mulf x (broadcastTo S128x2048 (extractStridedSlice S1x2048 ![3, 0] w slices_S4x2048_o3_0_S1x2048) broadcasts_S1x2048_S128x2048)))
    (mulf (shifted 1#32 x t) (broadcastTo S128x2048 (extractStridedSlice S1x2048 ![2, 0] w slices_S4x2048_o2_0_S1x2048) broadcasts_S1x2048_S128x2048)))
    (mulf (shifted 2#32 x t) (broadcastTo S128x2048 (extractStridedSlice S1x2048 ![1, 0] w slices_S4x2048_o1_0_S1x2048) broadcasts_S1x2048_S128x2048)))
    (mulf (shifted 3#32 x t) (broadcastTo S128x2048 (extractStridedSlice S1x2048 ![0, 0] w slices_S4x2048_o0_0_S1x2048) broadcasts_S1x2048_S128x2048))

/-- `x · 1 / (1 + exp (0 − x))`. -/
def silu (x : FVec F S128x2048 .f32) : FVec F S128x2048 .f32 :=
  mulf x (divf (broadcast S128x2048 (Scalar.ofBits .f32 0x3F800000#32))
    (addf (broadcast S128x2048 (Scalar.ofBits .f32 0x3F800000#32)) (exp (subf (broadcast S128x2048 (Scalar.ofBits .f32 0x00000000#32)) x))))

/-- The product with the eight dense blocks of a block-diagonal weight. -/
def blocks (x : FVec F S128x2048 .bf16) (W : Fin 8 → Vec F S1x256x256 .bf16) : FVec F S128x2048 .f32 :=
  join fun h => matmul dot_S128x256_S256x256_S128x256_1_0_0_1_n_n none (head h x)
    (shapeCast S256x256 (W h) shapeCasts_S1x256x256_S256x256 : FVec F S256x256 .bf16) (constant S128x256 .f32 0x00000000#32)

/-- The product with the gate weight of one of q, k, v. -/
def gateDot (x : FVec F S128x2048 .f32) (w : Vec F S1x2048x128 .bf16) : FVec F S128x128 .f32 :=
  matmul dot_S128x2048_S2048x128_S128x128_1_0_0_1_n_n none (truncf .bf16 x bitsLt_bf16_f32)
    (shapeCast S2048x128 w shapeCasts_S1x2048x128_S2048x128 : FVec F S2048x128 .bf16) (constant S128x128 .f32 0x00000000#32)

/-- The gates before the logarithm: the input gate in columns 0 to 7, the forget gate in 8 to 15. -/
def pre (q k v : FVec F S128x2048 .f32) (WG : Fin 3 → Vec F S1x2048x128 .bf16) (bg : Vec F S1x128 .f32) : FVec F S128x128 .f32 :=
  addf (addf (addf (gateDot q (WG 0)) (gateDot k (WG 1))) (gateDot v (WG 2)))
    (broadcastTo S128x128 (shapeCast S1x128 bg shapeCasts_S1x128_S1x128) broadcasts_S1x128_S128x128)

/-- The logarithm of the forget gate's sigmoid in columns 8 to 15, zero elsewhere. -/
def lf (g : FVec F S128x128 .f32) : FVec F S128x128 .f32 :=
  select (andi (cmpi .sge (iota .tc S128x128 32 [1] iota_S128x128_d1_w32) (broadcast S128x128 8#32))
      (cmpi .slt (iota .tc S128x128 32 [1] iota_S128x128_d1_w32) (broadcast S128x128 16#32)))
    (subf (minimumf g (broadcast S128x128 (Scalar.ofBits .f32 0x00000000#32)))
      (log1p (exp (subf (broadcast S128x128 (Scalar.ofBits .f32 0x00000000#32)) (absf g)))))
    (broadcast S128x128 (Scalar.ofBits .f32 0x00000000#32))

/-- The lower triangle of ones. -/
def tri : FVec F S128x128 .bf16 :=
  truncf .bf16 (sitofp .f32 (extui 32 (cmpi .sle (iota .tc S128x128 32 [1] iota_S128x128_d1_w32)
    (iota .tc S128x128 32 [0] iota_S128x128_d0_w32)) natLt_1_32)) bitsLt_bf16_f32

/-- A product of the triangle with a part of the split gates. -/
def triDot (x : FVec F S128x128 .bf16) : FVec F S128x128 .f32 :=
  matmul dot_S128x128_S128x128_S128x128_1_0_0_1_n_n none tri x (constant S128x128 .f32 0x00000000#32)

/-- What a cast to `bf16` loses. -/
def rest (x : FVec F S128x128 .f32) : FVec F S128x128 .f32 :=
  subf x (extf .f32 (truncf .bf16 x bitsLt_bf16_f32) bitsLt_bf16_f32)

/-- The running sums of the columns, the summands split into three parts. -/
def csum (x : FVec F S128x128 .f32) : FVec F S128x128 .f32 :=
  addf (addf (triDot (truncf .bf16 x bitsLt_bf16_f32)) (triDot (truncf .bf16 (rest x) bitsLt_bf16_f32)))
    (triDot (truncf .bf16 (rest (rest x)) bitsLt_bf16_f32))

/-- The gates as the recurrence reads them: the input gate, and the running sum of the forget gate. -/
def gates (g : FVec F S128x128 .f32) : FVec F S128x128 .f32 :=
  select (cmpi .slt (iota .tc S128x128 32 [1] iota_S128x128_d1_w32) (broadcast S128x128 8#32)) g (csum (lf g))

section batch
variable (l : Loads F) (b : Fin 2)

def rows : FVec F S128x2048 .f32 := shapeCast S128x2048 (l.X b) shapeCasts_S1x128x2048_S128x2048
def tailOf : FVec F S8x2048 .f32 := shapeCast S8x2048 (l.T b) shapeCasts_S1x8x2048_S8x2048
def act : FVec F S128x2048 .f32 := silu (conv (rows l b) (tailOf l b) l.cw l.cb)
def qAll : FVec F S128x2048 .f32 := blocks (truncf .bf16 (act l b) bitsLt_bf16_f32) l.WQ
def kAll : FVec F S128x2048 .f32 := blocks (truncf .bf16 (act l b) bitsLt_bf16_f32) l.WK
def vAll : FVec F S128x2048 .f32 := blocks (truncf .bf16 (rows l b) bitsLt_bf16_f32) l.WV
def gb : FVec F S128x128 .f32 := gates (pre (qAll l b) (kAll l b) (vAll l b) l.WG l.bg)
def gbt : FVec F S128x128 .f32 := transpose S128x128 [1, 0] (gb l b) transposes_S128x128_p1_0_S128x128

/-- The eight last rows, kept for the next chunk. -/
def tailNew : FVec F S1x8x2048 .f32 :=
  shapeCast S1x8x2048 (extractStridedSlice S8x2048 ![120, 0] (rows l b) slices_S128x2048_o120_0_S8x2048) shapeCasts_S8x2048_S1x8x2048

end batch

/-! ### A pair of batch entry and head -/

section pair
variable (l : Loads F) (b : Fin 2) (h : Fin 8)

def kI : Fin 16 := ⟨h.val, by omega⟩
def kF : Fin 16 := ⟨8 + h.val, by omega⟩

def qf : FVec F S128x256 .f32 := head h (qAll l b)
def qb : FVec F S128x256 .bf16 := truncf .bf16 (qf l b h) bitsLt_bf16_f32
def kh : FVec F S128x256 .f32 := mulf (head h (kAll l b) : FVec F S128x256 .f32) (broadcast S128x256 (Scalar.ofBits .f32 0x3D800000#32))
def vb : FVec F S128x256 .bf16 := truncf .bf16 (head h (vAll l b) : FVec F S128x256 .f32) bitsLt_bf16_f32
def sraw : FVec F S128x128 .f32 :=
  matmul dot_S128x256_S128x256_S128x128_1_1_0_0_n_n none (qb l b h) (truncf .bf16 (kh l b h) bitsLt_bf16_f32) (constant S128x128 .f32 0x00000000#32)
def qc : FVec F S128x256 .f32 :=
  matmul dot_S128x256_S256x256_S128x256_1_0_0_1_n_n none (qb l b h)
    (truncf .bf16 (shapeCast S256x256 (l.C (pr b h)) shapeCasts_S1x256x256_S256x256 : FVec F S256x256 .f32) bitsLt_bf16_f32) (constant S128x256 .f32 0x00000000#32)
def bcol : FVec F S128x1 .f32 := col (kF h) (gb l b)
def icol : FVec F S128x1 .f32 := col (kI h) (gb l b)
def brow : FVec F S1x128 .f32 := row (kF h) (gbt l b)
def irow : FVec F S1x128 .f32 := row (kI h) (gbt l b)
def mprev : FVec F S1x1 .f32 :=
  extractStridedSlice S1x1 ![0, 0] (shapeCast S8x128 (l.M (pr b h)) shapeCasts_S1x8x128_S8x128 : FVec F S8x128 .f32) slices_S8x128_o0_0_S1x1
def dm : FVec F S128x128 .f32 :=
  select (cmpi .sle (iota .tc S128x128 32 [1] iota_S128x128_d1_w32) (iota .tc S128x128 32 [0] iota_S128x128_d0_w32))
    (addf (subf (broadcastTo S128x128 (bcol l b h) broadcasts_S128x1_S128x128) (broadcastTo S128x128 (brow l b h) broadcasts_S1x128_S128x128))
      (broadcastTo S128x128 (irow l b h) broadcasts_S1x128_S128x128))
    (broadcast S128x128 (Named.named κ "mask" 0xF149F2CA#32))
def minter : FVec F S128x1 .f32 := addf (bcol l b h) (broadcastTo S128x1 (mprev l b h) broadcasts_S1x1_S128x1)
def mt : FVec F S128x1 .f32 :=
  maximumf (shapeCast S128x1 (multiReduction .maximumf [1] S128 (dm l b h) 0xFF800000#32 reduces_S128x128_S128 (.inl rfl) rfl) shapeCasts_S128_S128x1)
    (minter l b h)
def wgt : FVec F S128x128 .f32 := exp (subf (dm l b h) (broadcastTo S128x128 (mt l b h) broadcasts_S128x1_S128x128))
def inter : FVec F S128x1 .f32 := exp (subf (minter l b h) (mt l b h))
def blast : FVec F S1x1 .f32 := extractStridedSlice S1x1 ![127, 0] (bcol l b h) slices_S128x1_o127_0_S1x1
def mnew : FVec F S1x1 .f32 :=
  maximumf (addf (blast l b h) (mprev l b h))
    (shapeCast S1x1 (multiReduction .maximumf [1] S1 (addf (subf (broadcastTo S1x128 (blast l b h) broadcasts_S1x1_S1x128) (brow l b h)) (irow l b h))
      0xFF800000#32 reduces_S1x128_S1 (.inl rfl) rfl) shapeCasts_S1_S1x1)
def decay : FVec F S1x1 .f32 := exp (subf (addf (blast l b h) (mprev l b h)) (mnew l b h))
def kw : FVec F S128x256 .f32 :=
  mulf (kh l b h) (broadcastTo S128x256 (exp (subf (addf (subf (broadcastTo S128x1 (blast l b h) broadcasts_S1x1_S128x1) (bcol l b h)) (icol l b h))
    (broadcastTo S128x1 (mnew l b h) broadcasts_S1x1_S128x1))) broadcasts_S128x1_S128x256)
def upd : FVec F S256x256 .f32 :=
  matmul dot_S128x256_S128x256_S256x256_0_0_1_1_n_n none (truncf .bf16 (kw l b h) bitsLt_bf16_f32) (vb l b h) (constant S256x256 .f32 0x00000000#32)
def scores : FVec F S128x128 .f32 := mulf (sraw l b h) (wgt l b h)
def num : FVec F S128x256 .f32 :=
  addf (matmul dot_S128x128_S128x256_S128x256_1_0_0_1_n_n none (truncf .bf16 (scores l b h) bitsLt_bf16_f32) (vb l b h) (constant S128x256 .f32 0x00000000#32))
    (mulf (broadcastTo S128x256 (inter l b h) broadcasts_S128x1_S128x256) (qc l b h))
def nvec : FVec F S1x256 .f32 := shapeCast S1x256 (l.N (pr b h)) shapeCasts_S1x1x256_S1x256
def den : FVec F S128x1 .f32 :=
  addf (shapeCast S128x1 (multiReduction .add [1] S128 (scores l b h) 0x00000000#32 reduces_S128x128_S128 (.inl rfl) rfl) shapeCasts_S128_S128x1)
    (mulf (inter l b h) (shapeCast S128x1 (multiReduction .add [1] S128 (mulf (qf l b h) (broadcastTo S128x256 (nvec l b h) broadcasts_S1x256_S128x256))
      0x00000000#32 reduces_S128x256_S128 (.inl rfl) rfl) shapeCasts_S128_S128x1))
def hout : FVec F S128x256 .f32 :=
  divf (num l b h) (broadcastTo S128x256 (maximumf (absf (den l b h))
    (exp (subf (broadcast S128x1 (Scalar.ofBits .f32 0x00000000#32)) (mt l b h)))) broadcasts_S128x1_S128x256)

/-- The matrix memory after the chunk. -/
def cNew : FVec F S1x256x256 .f32 :=
  shapeCast S1x256x256 (addf (mulf (broadcastTo S256x256 (decay l b h) broadcasts_S1x1_S256x256)
    (shapeCast S256x256 (l.C' (pr b h)) shapeCasts_S1x256x256_S256x256 : FVec F S256x256 .f32)) (upd l b h)) shapeCasts_S256x256_S1x256x256

/-- The normaliser after the chunk. -/
def nNew : FVec F S1x1x256 .f32 :=
  shapeCast S1x1x256 (addf (mulf (broadcastTo S1x256 (decay l b h) broadcasts_S1x1_S1x256) (nvec l b h))
    (shapeCast S1x256 (multiReduction .add [0] S256 (kw l b h) 0x00000000#32 reduces_S128x256_S256 (.inl rfl) rfl) shapeCasts_S256_S1x256))
    shapeCasts_S1x256_S1x1x256

/-- The stabiliser after the chunk, in every entry of its tile. -/
def mNew : FVec F S1x8x128 .f32 :=
  shapeCast S1x8x128 (broadcastTo S8x128 (shapeCast S1x1 (mnew l b h) shapeCasts_S1x1_S1x1) broadcasts_S1x1_S8x128) shapeCasts_S8x128_S1x8x128

/-- A row's mean over the 256 columns of a head. -/
def mean (x : FVec F S128x256 .f32) : FVec F S128x1 .f32 :=
  divf (shapeCast S128x1 (multiReduction .add [1] S128 x 0x00000000#32 reduces_S128x256_S128 (.inl rfl) rfl) shapeCasts_S128_S128x1)
    (broadcast S128x1 (Scalar.ofBits .f32 0x43800000#32))

def cen (x : FVec F S128x256 .f32) : FVec F S128x256 .f32 := subf x (broadcastTo S128x256 (mean x) broadcasts_S128x1_S128x256)

/-- The head's normalisation. -/
def normed (x : FVec F S128x256 .f32) : FVec F S128x256 .f32 :=
  mulf (cen x) (broadcastTo S128x256 (rsqrt (addf (mean (mulf (cen x) (cen x))) (broadcast S128x1 (Scalar.ofBits .f32 0x358637BD#32)))) broadcasts_S128x1_S128x256)

end pair

/-- What the body writes of batch entry `b`. -/
def outB (l : Loads F) (b : Fin 2) : FVec F S1x128x2048 .bf16 :=
  shapeCast S1x128x2048 (truncf .bf16 (mulf (addf
    (mulf (join fun h => normed (hout l b h)) (broadcastTo S128x2048 (shapeCast S1x2048 l.gn shapeCasts_S1x2048_S1x2048) broadcasts_S1x2048_S128x2048))
    (mulf (broadcastTo S128x2048 (shapeCast S1x2048 l.sk shapeCasts_S1x2048_S1x2048) broadcasts_S1x2048_S128x2048) (act l b)))
    (silu (shapeCast S128x2048 (l.Z b) shapeCasts_S1x128x2048_S128x2048))) bitsLt_bf16_f32) shapeCasts_S128x2048_S1x128x2048

end Cert.KernelIdeal.Mlstm
-- ==== Proof.MlstmRun.lean ====
module

public import proofs.«01_k».proof.Proof.MlstmStages
public import Idealize.ShloMosaic.Lib.Pointwise
public import Idealize.ShloMosaic.Lib.Pipeline.ReadBack
public import Idealize.ShloMosaic.Lib.Pipeline.ValueKit.Acc

@[expose] public section

noncomputable section

namespace Cert.KernelIdeal.Mlstm

open Idealize.ShloMosaic Idealize.SL.Sem Cert.KernelIdeal Cert.KernelIdeal.Gen

variable {F : FTy → Type} [FloatOps F] [Named F]

/-! ### Buffers that are stacks of rows -/

section rows

variable {Val : EltTy → Type} [∀ e, Nonempty (Val e)] {e : EltTy} {n a b : ℕ}

/-- Row `k` of a stack. -/
def blk (x : (⟨3, ![n, a, b]⟩ : Shape).Idx → Val e) (k : Fin n) : (⟨3, ![1, a, b]⟩ : Shape).Idx → Val e :=
  fun j => x (ix3 k (j 1) (j 2))

/-- The stack of the rows `G`. -/
def stack (G : Fin n → (⟨3, ![1, a, b]⟩ : Shape).Idx → Val e) : (⟨3, ![n, a, b]⟩ : Shape).Idx → Val e :=
  fun j => G (j 0) (ix3 0 (j 1) (j 2))

/-- Stores of the rows `ks`, the last one first. -/
def rowPieces (ks : List (Fin n)) (G : Fin n → (⟨3, ![1, a, b]⟩ : Shape).Idx → Val e) : List (View.Piece Val (⟨3, ![n, a, b]⟩ : Shape) e) :=
  ks.map fun k => ⟨Rect.unit (s := ⟨3, ![n, a, b]⟩) ![k.val, 0, 0] (⟨3, ![1, a, b]⟩ : Shape).size (inbRow k), G k⟩

/-- An index of a row's rectangle is the row's number and the two inner coordinates. -/
theorem row_emb (k : Fin n) (x : (⟨3, ![1, a, b]⟩ : Shape).Idx) :
    (Rect.unit (s := ⟨3, ![n, a, b]⟩) ![k.val, 0, 0] (⟨3, ![1, a, b]⟩ : Shape).size (inbRow k)).emb x = ix3 k (x 1) (x 2) := by
  funext d
  match d with
  | ⟨0, _⟩ => apply Fin.ext; have : (x 0).val < 1 := (x 0).isLt; show k.val + 1 * (x 0).val = k.val; omega
  | ⟨1, _⟩ => apply Fin.ext; show 0 + 1 * (x 1).val = (x 1).val; omega
  | ⟨2, _⟩ => apply Fin.ext; show 0 + 1 * (x 2).val = (x 2).val; omega

theorem row_idx (x : (⟨3, ![1, a, b]⟩ : Shape).Idx) : (ix3 0 (x 1) (x 2) : (⟨3, ![1, a, b]⟩ : Shape).Idx) = x := by
  funext d
  match d with
  | ⟨0, _⟩ => apply Fin.ext; have : (x 0).val < 1 := (x 0).isLt; show 0 = (x 0).val; omega
  | ⟨1, _⟩ => rfl
  | ⟨2, _⟩ => rfl

/-- Stores of all the rows, over anything stored before, leave the stack. -/
theorem canon_rowPieces (ks : List (Fin n)) (hk : ∀ k, k ∈ ks) (G : Fin n → (⟨3, ![1, a, b]⟩ : Shape).Idx → Val e)
    (L : List (View.Piece Val (⟨3, ![n, a, b]⟩ : Shape) e)) : View.canon (rowPieces ks G ++ L) = stack G := by
  funext y
  refine View.canon_append_of_pieces (stack G) L (rowPieces ks G) ?_ y ?_
  · intro p hp x
    obtain ⟨k, _, rfl⟩ := List.mem_map.1 hp
    rw [row_emb]
    exact congrArg (G k) (row_idx x).symm
  · refine ⟨_, List.mem_map.2 ⟨y 0, hk _, rfl⟩, ?_⟩
    rw [← Rect.map_emb_univ]
    refine Finset.mem_map.2 ⟨(ix3 0 (y 1) (y 2) : (⟨3, ![1, a, b]⟩ : Shape).Idx), Finset.mem_univ _, ?_⟩
    refine (row_emb (y 0) _).trans ?_
    funext d
    match d with
    | ⟨0, _⟩ => rfl
    | ⟨1, _⟩ => rfl
    | ⟨2, _⟩ => rfl

theorem ld_row (x : (⟨3, ![n, a, b]⟩ : Shape).Idx → Val e) (k : Fin n) :
    View.ld x (Rect.unit (s := ⟨3, ![n, a, b]⟩) ![k.val, 0, 0] (⟨3, ![1, a, b]⟩ : Shape).size (inbRow k)) = blk x k :=
  funext fun j => congrArg x (row_emb k j)

theorem inbWhole {n a b : ℕ} : ∀ x, (![0, 0, 0] : Fin 3 → ℕ) x + (⟨3, ![n, a, b]⟩ : Shape).size x ≤ (⟨3, ![n, a, b]⟩ : Shape).size x
  | ⟨0, _⟩ => by show 0 + n ≤ n; omega
  | ⟨1, _⟩ => by show 0 + a ≤ a; omega
  | ⟨2, _⟩ => by show 0 + b ≤ b; omega

theorem zeros3 : ∀ x : Fin 3, (![0, 0, 0] : Fin 3 → ℕ) x = 0 := by decide

/-- A load of a whole matrix. -/
theorem ld_whole (x : (⟨2, ![n, a]⟩ : Shape).Idx → Val e) (inb) :
    View.ld x (Rect.unit (s := ⟨2, ![n, a]⟩) ![0, 0] (⟨2, ![n, a]⟩ : Shape).size inb) = x :=
  View.ld_unit_lit' (S := ⟨2, ![n, a]⟩) (off := ![0, 0]) inb x (fun x => match x with | ⟨0, _⟩ => rfl | ⟨1, _⟩ => rfl)

theorem readAt_row {arg : Memref sig Kind.tc Space.vmem (⟨3, ![n, a, b]⟩ : Shape) e} (h : arg.IsWhole)
    (x : (⟨3, ![n, a, b]⟩ : Shape).Idx → Val e) (k : Fin n) :
    View.readAt Val arg.view (Rect.unit (s := ⟨3, ![n, a, b]⟩) ![k.val, 0, 0] (⟨3, ![1, a, b]⟩ : Shape).size (inbRow k)).toLoadRect (h.unread x)
      = blk x k := by
  rw [View.readAt_eq_ld, Memref.IsWhole.read_unread]
  exact ld_row x k

theorem readAt_whole {arg : Memref sig Kind.tc Space.vmem (⟨2, ![n, a]⟩ : Shape) e} (h : arg.IsWhole)
    (x : (⟨2, ![n, a]⟩ : Shape).Idx → Val e) (inb) :
    View.readAt Val arg.view (Rect.unit (s := ⟨2, ![n, a]⟩) ![0, 0] (⟨2, ![n, a]⟩ : Shape).size inb).toLoadRect (h.unread x) = x := by
  rw [View.readAt_eq_ld, Memref.IsWhole.read_unread]
  exact ld_whole x inb

/-- The store of the whole stack. -/
def wholePiece (z : (⟨3, ![n, a, b]⟩ : Shape).Idx → Val e) : View.Piece Val (⟨3, ![n, a, b]⟩ : Shape) e :=
  ⟨Rect.unit (s := ⟨3, ![n, a, b]⟩) ![0, 0, 0] (⟨3, ![n, a, b]⟩ : Shape).size inbWhole, z⟩

theorem readCov_whole {κ : Kind} {sp : Space} (v : View sig κ sp (⟨3, ![n, a, b]⟩ : Shape) e) (z : (⟨3, ![n, a, b]⟩ : Shape).Idx → Val e) (k : Fin n) :
    v.readCov [wholePiece z] (Rect.unit (s := ⟨3, ![n, a, b]⟩) ![k.val, 0, 0] (⟨3, ![1, a, b]⟩ : Shape).size (inbRow k)).toLoadRect = blk z k :=
  (View.readCov_fill v inbWhole z [] _ zeros3).trans (ld_row z k)

/-- The stores of the first `k` rows over a store of the whole: each row is computed from what it holds before it is
    stored. -/
def chain [NeZero n] {κ : Kind} {sp : Space} (v : View sig κ sp (⟨3, ![n, a, b]⟩ : Shape) e) (z : (⟨3, ![n, a, b]⟩ : Shape).Idx → Val e)
    (step : Fin n → ((⟨3, ![1, a, b]⟩ : Shape).Idx → Val e) → (⟨3, ![1, a, b]⟩ : Shape).Idx → Val e) :
    ℕ → List (View.Piece Val (⟨3, ![n, a, b]⟩ : Shape) e)
  | 0 => [wholePiece z]
  | k + 1 => ⟨Rect.unit (s := ⟨3, ![n, a, b]⟩) ![(Fin.ofNat n k).val, 0, 0] (⟨3, ![1, a, b]⟩ : Shape).size (inbRow (Fin.ofNat n k)),
      step (Fin.ofNat n k) (v.readCov (chain v z step k)
        (Rect.unit (s := ⟨3, ![n, a, b]⟩) ![(Fin.ofNat n k).val, 0, 0] (⟨3, ![1, a, b]⟩ : Shape).size (inbRow (Fin.ofNat n k))).toLoadRect)⟩
    :: chain v z step k

/-- A row that none of those stores touched holds the first store's values. -/
theorem readCov_chain [NeZero n] {κ : Kind} {sp : Space} (v : View sig κ sp (⟨3, ![n, a, b]⟩ : Shape) e) (z : (⟨3, ![n, a, b]⟩ : Shape).Idx → Val e)
    (step : Fin n → ((⟨3, ![1, a, b]⟩ : Shape).Idx → Val e) → (⟨3, ![1, a, b]⟩ : Shape).Idx → Val e) (k : Fin n) :
    ∀ j : ℕ, j ≤ k.val → v.readCov (chain v z step j)
      (Rect.unit (s := ⟨3, ![n, a, b]⟩) ![k.val, 0, 0] (⟨3, ![1, a, b]⟩ : Shape).size (inbRow k)).toLoadRect = blk z k
  | 0, _ => (View.readCov_fill v inbWhole z [] _ zeros3).trans (ld_row z k)
  | j + 1, hj => by
    refine (View.readCov_skip v _ _ _ _ ?_).trans (readCov_chain v z step k j (by omega))
    refine decide_eq_true ⟨0, .inr (.inr (.inl ?_))⟩
    have : (Fin.ofNat n j).val = j := Nat.mod_eq_of_lt (by have := k.isLt; omega)
    show (Fin.ofNat n j).val + 1 * (1 - 1) < k.val
    omega

end rows

/-- What the body reads, as rows of the staged blocks and of the state. -/
def loadsOf (x0 : Vec F S2x128x2048 .f32) (x1 : Vec F S2x128x2048 .f32) (x2 : Vec F S4x2048 .f32) (x3 : Vec F S1x2048 .f32) (x4 : Vec F S8x256x256 .bf16) (x5 :
  Vec F S8x256x256 .bf16) (x6 : Vec F S8x256x256 .bf16) (x7 : Vec F S3x2048x128 .bf16) (x8 : Vec F S1x128 .f32) (x9 : Vec F S1x2048 .f32) (x10 : Vec F
  S1x2048 .f32)
  (xs0 : Vec F S2x8x2048 .f32) (xs1 : Vec F S16x256x256 .f32) (xs2 : Vec F S16x1x256 .f32) (xs3 : Vec F S16x8x128 .f32) : Loads F where
  X := blk x0
  Z := blk x1
  T := blk xs0
  cw := x2
  cb := x3
  WQ := blk x4
  WK := blk x5
  WV := blk x6
  WG := blk x7
  bg := x8
  sk := x9
  gn := x10
  C := blk xs1
  C' := blk xs1
  N := blk xs2
  M := blk xs3

theorem loads_ext {l l' : Loads F} (h1 : l.X = l'.X) (h2 : l.Z = l'.Z) (h3 : l.T = l'.T) (h4 : l.cw = l'.cw) (h5 : l.cb = l'.cb)
    (h6 : l.WQ = l'.WQ) (h7 : l.WK = l'.WK) (h8 : l.WV = l'.WV) (h9 : l.WG = l'.WG) (h10 : l.bg = l'.bg) (h11 : l.sk = l'.sk)
    (h12 : l.gn = l'.gn) (h13 : l.C = l'.C) (h14 : l.C' = l'.C') (h15 : l.N = l'.N) (h16 : l.M = l'.M) : l = l' := by
  cases l; cases l'; cases h1; cases h2; cases h3; cases h4; cases h5; cases h6; cases h7; cases h8; cases h9; cases h10; cases h11
  cases h12; cases h13; cases h14; cases h15; cases h16; rfl

/-- The numbers of the sixteen pairs, the last first. -/
def allPairs : List (Fin 16) := [15, 14, 13, 12, 11, 10, 9, 8, 7, 6, 5, 4, 3, 2, 1, 0]

theorem mem_allPairs : ∀ k, k ∈ allPairs := by decide
theorem mem_both : ∀ k : Fin 2, k ∈ [1, 0] := by decide

variable (c : Dev nD) (i : grid0.Coords) (arg2 : Memref sig .tc .vmem S2x128x2048 .f32) (harg2 : arg2.IsWhole) (arg3 : Memref sig .tc .vmem S2x128x2048 .f32)
  (harg3 : arg3.IsWhole) (arg4 : Memref sig .tc .vmem S4x2048 .f32) (harg4 : arg4.IsWhole) (arg5 : Memref sig .tc .vmem S1x2048 .f32) (harg5 :
  arg5.IsWhole) (arg6 : Memref sig .tc .vmem S8x256x256 .bf16) (harg6 : arg6.IsWhole) (arg7 : Memref sig .tc .vmem S8x256x256 .bf16) (harg7 :
  arg7.IsWhole) (arg8 : Memref sig .tc .vmem S8x256x256 .bf16) (harg8 : arg8.IsWhole) (arg9 : Memref sig .tc .vmem S3x2048x128 .bf16) (harg9 :
  arg9.IsWhole) (arg10 : Memref sig .tc .vmem S1x128 .f32) (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S2x128x2048 .bf16) (harg13 : arg13.IsWhole) (arg14
  : Memref sig .tc .vmem S2x8x2048 .f32) (harg14 : arg14.IsWhole) (arg15 : Memref sig .tc .vmem S16x256x256 .f32) (harg15 : arg15.IsWhole) (arg16 :
  Memref sig .tc .vmem S16x1x256 .f32) (harg16 : arg16.IsWhole) (arg17 : Memref sig .tc .vmem S16x8x128 .f32) (harg17 : arg17.IsWhole)
  (x0 : Vec F S2x128x2048 .f32) (x1 : Vec F S2x128x2048 .f32) (x2 : Vec F S4x2048 .f32) (x3 : Vec F S1x2048 .f32) (x4 : Vec F S8x256x256 .bf16) (x5 :
  Vec F S8x256x256 .bf16) (x6 : Vec F S8x256x256 .bf16) (x7 : Vec F S3x2048x128 .bf16) (x8 : Vec F S1x128 .f32) (x9 : Vec F S1x2048 .f32) (x10 : Vec F
  S1x2048 .f32)

section continues

variable (xs0 : Vec F S2x8x2048 .f32) (xs1 : Vec F S16x256x256 .f32) (xs2 : Vec F S16x1x256 .f32) (xs3 : Vec F S16x8x128 .f32) (hc0 : ¬cond0_0 i)

/-- What the body reads at a point that continues a sequence, as the run states it. -/
def loadsB : Loads F where
  X k := View.readAt (Elt F) arg2.view (Rect.unit (s := S2x128x2048) ![k.val, 0, 0] S1x128x2048.size (inbRow k)).toLoadRect (harg2.unread x0)
  Z k := View.readAt (Elt F) arg3.view (Rect.unit (s := S2x128x2048) ![k.val, 0, 0] S1x128x2048.size (inbRow k)).toLoadRect (harg3.unread x1)
  cw := View.readAt (Elt F) arg4.view (Rect.unit (s := S4x2048) ![0, 0] S4x2048.size inb_S4x2048_S4x2048_0_0).toLoadRect (harg4.unread x2)
  cb := View.readAt (Elt F) arg5.view (Rect.unit (s := S1x2048) ![0, 0] S1x2048.size inb_S1x2048_S1x2048_0_0).toLoadRect (harg5.unread x3)
  WQ k := View.readAt (Elt F) arg6.view (Rect.unit (s := S8x256x256) ![k.val, 0, 0] S1x256x256.size (inbRow k)).toLoadRect (harg6.unread x4)
  WK k := View.readAt (Elt F) arg7.view (Rect.unit (s := S8x256x256) ![k.val, 0, 0] S1x256x256.size (inbRow k)).toLoadRect (harg7.unread x5)
  WV k := View.readAt (Elt F) arg8.view (Rect.unit (s := S8x256x256) ![k.val, 0, 0] S1x256x256.size (inbRow k)).toLoadRect (harg8.unread x6)
  WG k := View.readAt (Elt F) arg9.view (Rect.unit (s := S3x2048x128) ![k.val, 0, 0] S1x2048x128.size (inbRow k)).toLoadRect (harg9.unread x7)
  bg := View.readAt (Elt F) arg10.view (Rect.unit (s := S1x128) ![0, 0] S1x128.size inb_S1x128_S1x128_0_0).toLoadRect (harg10.unread x8)
  sk := View.readAt (Elt F) arg11.view (Rect.unit (s := S1x2048) ![0, 0] S1x2048.size inb_S1x2048_S1x2048_0_0).toLoadRect (harg11.unread x9)
  gn := View.readAt (Elt F) arg12.view (Rect.unit (s := S1x2048) ![0, 0] S1x2048.size inb_S1x2048_S1x2048_0_0).toLoadRect (harg12.unread x10)
  T k := View.readAt (Elt F) arg14.view (Rect.unit (s := S2x8x2048) ![k.val, 0, 0] S1x8x2048.size (inbRow k)).toLoadRect (harg14.unread xs0)
  C k := View.readAt (Elt F) arg15.view (Rect.unit (s := S16x256x256) ![k.val, 0, 0] S1x256x256.size (inbRow k)).toLoadRect (harg15.unread xs1)
  C' k := View.readAt (Elt F) arg15.view (Rect.unit (s := S16x256x256) ![k.val, 0, 0] S1x256x256.size (inbRow k)).toLoadRect (harg15.unread xs1)
  N k := View.readAt (Elt F) arg16.view (Rect.unit (s := S16x1x256) ![k.val, 0, 0] S1x1x256.size (inbRow k)).toLoadRect (harg16.unread xs2)
  M k := View.readAt (Elt F) arg17.view (Rect.unit (s := S16x8x128) ![k.val, 0, 0] S1x8x128.size (inbRow k)).toLoadRect (harg17.unread xs3)

theorem loadsB_eq : (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3) = (loadsOf x0 x1 x2 x3 x4 x5 x6 x7 x8 x9 x10 xs0 xs1 xs2 xs3) := by
  exact loads_ext (funext fun k => readAt_row harg2 x0 k) (funext fun k => readAt_row harg3 x1 k) (funext fun k => readAt_row harg14 xs0 k)
    (readAt_whole harg4 x2 _) (readAt_whole harg5 x3 _) (funext fun k => readAt_row harg6 x4 k) (funext fun k => readAt_row harg7 x5 k)
    (funext fun k => readAt_row harg8 x6 k) (funext fun k => readAt_row harg9 x7 k) (readAt_whole harg10 x8 _) (readAt_whole harg11 x9 _)
    (readAt_whole harg12 x10 _) (funext fun k => readAt_row harg15 xs1 k) (funext fun k => readAt_row harg15 xs1 k)
    (funext fun k => readAt_row harg16 xs2 k) (funext fun k => readAt_row harg17 xs3 k)

/-- The run's stores of the output block. -/
theorem outPiecesB : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3).1 = rowPieces [1, 0] (outB (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3)) := by
  sl_kernel_rfl

theorem run_out_B : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3 = stack (outB (loadsOf x0 x1 x2 x3 x4 x5 x6 x7 x8 x9 x10 xs0 xs1 xs2 xs3)) := by
  unfold out0_B_11
  rw [View.read_writes_junk_eq_canon, outPiecesB, loadsB_eq, ← List.append_nil (rowPieces _ _), canon_rowPieces _ mem_both]

/-- The run's stores of the last rows. -/
theorem tailPiecesB : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3).2.1 = rowPieces [1, 0] (tailNew (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3)) := by
  sl_kernel_rfl

theorem run_tail_B : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3 = stack (tailNew (loadsOf x0 x1 x2 x3 x4 x5 x6 x7 x8 x9 x10 xs0 xs1 xs2 xs3)) := by
  unfold sout0_B_0
  rw [View.read_writes_junk_eq_canon, tailPiecesB, loadsB_eq, ← List.append_nil (rowPieces _ _), canon_rowPieces _ mem_both]

/-- The run's stores of the matrix memories. -/
theorem cPiecesB : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3).2.2.1 = rowPieces allPairs (fun k => cNew (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3) (bOf k) (hOf k)) := by
  sl_kernel_rfl

theorem run_c_B : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3 = stack (fun k => cNew (loadsOf x0 x1 x2 x3 x4 x5 x6 x7 x8 x9 x10 xs0 xs1 xs2 xs3) (bOf k) (hOf k)) := by
  unfold sout0_B_1
  rw [View.read_writes_junk_eq_canon, cPiecesB, loadsB_eq, ← List.append_nil (rowPieces _ _), canon_rowPieces _ mem_allPairs]

/-- The run's stores of the normalisers. -/
theorem nPiecesB : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3).2.2.2.1 = rowPieces allPairs (fun k => nNew (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3) (bOf k) (hOf k)) := by
  sl_kernel_rfl

theorem run_n_B : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3 = stack (fun k => nNew (loadsOf x0 x1 x2 x3 x4 x5 x6 x7 x8 x9 x10 xs0 xs1 xs2 xs3) (bOf k) (hOf k)) := by
  unfold sout0_B_2
  rw [View.read_writes_junk_eq_canon, nPiecesB, loadsB_eq, ← List.append_nil (rowPieces _ _), canon_rowPieces _ mem_allPairs]

/-- The run's stores of the stabilisers. -/
theorem mPiecesB : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3).2.2.2.2.1 = rowPieces allPairs (fun k => mNew (loadsB arg2 harg2 arg3 harg3 arg4 harg4 arg5 harg5 arg6 harg6 arg7 harg7 arg8 harg8 arg9 harg9 arg10 harg10 arg11 harg11 arg12 harg12 arg14 harg14 arg15 harg15 arg16 harg16 arg17 harg17 x0 x1 x2 x3 x4 x5 x6 x7 x8 x9 x10 xs0 xs1 xs2 xs3) (bOf k) (hOf k)) := by
  sl_kernel_rfl

theorem run_m_B : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0 xs1 xs2 xs3 = stack (fun k => mNew (loadsOf x0 x1 x2 x3 x4 x5 x6 x7 x8 x9 x10 xs0 xs1 xs2 xs3) (bOf k) (hOf k)) := by
  unfold sout0_B_3
  rw [View.read_writes_junk_eq_canon, mPiecesB, loadsB_eq, ← List.append_nil (rowPieces _ _), canon_rowPieces _ mem_allPairs]

end continues

section starts

variable (hc0 : cond0_0 i)

/-- What a point that starts a sequence stores in the scratch before anything else. -/
def zero0 : Vec F S2x8x2048 .f32 := broadcast S2x8x2048 (Scalar.ofBits .f32 0x00000000#32)
def zero1 : Vec F S16x256x256 .f32 := broadcast S16x256x256 (Scalar.ofBits .f32 0x00000000#32)
def zero2 : Vec F S16x1x256 .f32 := broadcast S16x1x256 (Scalar.ofBits .f32 0x00000000#32)
def zero3 : Vec F S16x8x128 .f32 := broadcast S16x8x128 (Scalar.ofBits .f32 0x00000000#32)

/-- What the body reads at a point that starts a sequence, as the run states it: first what does not depend on the
    rows stored at this point, then (`loadsA`) the rows as they stand when they are read. -/
def baseA : Loads F where
  X k := View.readAt (Elt F) arg2.view (Rect.unit (s := S2x128x2048) ![k.val, 0, 0] S1x128x2048.size (inbRow k)).toLoadRect (harg2.unread x0)
  Z k := View.readAt (Elt F) arg3.view (Rect.unit (s := S2x128x2048) ![k.val, 0, 0] S1x128x2048.size (inbRow k)).toLoadRect (harg3.unread x1)
  cw := View.readAt (Elt F) arg4.view (Rect.unit (s := S4x2048) ![0, 0] S4x2048.size inb_S4x2048_S4x2048_0_0).toLoadRect (harg4.unread x2)
  cb := View.readAt (Elt F) arg5.view (Rect.unit (s := S1x2048) ![0, 0] S1x2048.size inb_S1x2048_S1x2048_0_0).toLoadRect (harg5.unread x3)
  WQ k := View.readAt (Elt F) arg6.view (Rect.unit (s := S8x256x256) ![k.val, 0, 0] S1x256x256.size (inbRow k)).toLoadRect (harg6.unread x4)
  WK k := View.readAt (Elt F) arg7.view (Rect.unit (s := S8x256x256) ![k.val, 0, 0] S1x256x256.size (inbRow k)).toLoadRect (harg7.unread x5)
  WV k := View.readAt (Elt F) arg8.view (Rect.unit (s := S8x256x256) ![k.val, 0, 0] S1x256x256.size (inbRow k)).toLoadRect (harg8.unread x6)
  WG k := View.readAt (Elt F) arg9.view (Rect.unit (s := S3x2048x128) ![k.val, 0, 0] S1x2048x128.size (inbRow k)).toLoadRect (harg9.unread x7)
  bg := View.readAt (Elt F) arg10.view (Rect.unit (s := S1x128) ![0, 0] S1x128.size inb_S1x128_S1x128_0_0).toLoadRect (harg10.unread x8)
  sk := View.readAt (Elt F) arg11.view (Rect.unit (s := S1x2048) ![0, 0] S1x2048.size inb_S1x2048_S1x2048_0_0).toLoadRect (harg11.unread x9)
  gn := View.readAt (Elt F) arg12.view (Rect.unit (s := S1x2048) ![0, 0] S1x2048.size inb_S1x2048_S1x2048_0_0).toLoadRect (harg12.unread x10)
  T k := arg14.view.readCov ([wholePiece zero0]) (Rect.unit (s := S2x8x2048) ![k.val, 0, 0] S1x8x2048.size (inbRow k)).toLoadRect
  C k := arg15.view.readCov ([wholePiece zero1]) (Rect.unit (s := S16x256x256) ![k.val, 0, 0] S1x256x256.size (inbRow k)).toLoadRect
  C' k := arg15.view.readCov ([wholePiece zero1]) (Rect.unit (s := S16x256x256) ![k.val, 0, 0] S1x256x256.size (inbRow k)).toLoadRect
  N k := arg16.view.readCov ([wholePiece zero2]) (Rect.unit (s := S16x1x256) ![k.val, 0, 0] S1x1x256.size (inbRow k)).toLoadRect
  M k := arg17.view.readCov ([wholePiece zero3]) (Rect.unit (s := S16x8x128) ![k.val, 0, 0] S1x8x128.size (inbRow k)).toLoadRect

/-- The same with the tail of the second batch entry as it is read. -/
def tailA : Loads F :=
  { (baseA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) with
    T := fun k => arg14.view.readCov (chain arg14.view zero0 (fun k _ => tailNew (baseA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) k) k.val) (Rect.unit (s := S2x8x2048) ![k.val, 0, 0] S1x8x2048.size (inbRow k)).toLoadRect }

/-- What the body reads at a point that starts a sequence. -/
def loadsA : Loads F :=
  { (tailA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) with
    C' := fun k => arg15.view.readCov (chain arg15.view zero1 (fun k x => cNew { (tailA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) with C' := fun _ => x } (bOf k) (hOf k)) k.val) (Rect.unit (s := S16x256x256) ![k.val, 0, 0] S1x256x256.size (inbRow k)).toLoadRect
    N := fun k => arg16.view.readCov (chain arg16.view zero2 (fun k x => nNew { (tailA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) with N := fun _ => x } (bOf k) (hOf k)) k.val) (Rect.unit (s := S16x1x256) ![k.val, 0, 0] S1x1x256.size (inbRow k)).toLoadRect }

theorem loadsA_eq : (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) = (loadsOf x0 x1 x2 x3 x4 x5 x6 x7 x8 x9 x10 zero0 zero1 zero2 zero3) := by
  exact loads_ext (funext fun k => readAt_row harg2 x0 k) (funext fun k => readAt_row harg3 x1 k) (funext fun k => readCov_chain _ _ _ k _ (Nat.le_refl _))
    (readAt_whole harg4 x2 _) (readAt_whole harg5 x3 _) (funext fun k => readAt_row harg6 x4 k) (funext fun k => readAt_row harg7 x5 k)
    (funext fun k => readAt_row harg8 x6 k) (funext fun k => readAt_row harg9 x7 k) (readAt_whole harg10 x8 _) (readAt_whole harg11 x9 _)
    (readAt_whole harg12 x10 _) (funext fun k => readCov_whole _ _ k) (funext fun k => readCov_chain _ _ _ k _ (Nat.le_refl _))
    (funext fun k => readCov_chain _ _ _ k _ (Nat.le_refl _)) (funext fun k => readCov_whole _ _ k)

/-- The run's stores of the output block. -/
theorem outPiecesA : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1 = rowPieces [1, 0] (outB (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10)) := by
  sl_kernel_rfl

theorem run_out_A : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = stack (outB (loadsOf x0 x1 x2 x3 x4 x5 x6 x7 x8 x9 x10 zero0 zero1 zero2 zero3)) := by
  unfold out0_A_11
  rw [View.read_writes_junk_eq_canon, outPiecesA, loadsA_eq, ← List.append_nil (rowPieces _ _), canon_rowPieces _ mem_both]

/-- The run's stores of the last rows. -/
theorem tailPiecesA : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1 = rowPieces [1, 0] (tailNew (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10)) ++ [wholePiece zero0] := by
  sl_kernel_rfl

theorem run_tail_A : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = stack (tailNew (loadsOf x0 x1 x2 x3 x4 x5 x6 x7 x8 x9 x10 zero0 zero1 zero2 zero3)) := by
  unfold sout0_A_0
  rw [View.read_writes_junk_eq_canon, tailPiecesA, loadsA_eq, canon_rowPieces _ mem_both]

/-- The run's stores of the matrix memories. -/
theorem cPiecesA : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1 = rowPieces allPairs (fun k => cNew (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) (bOf k) (hOf k)) ++ [wholePiece zero1] := by
  sl_kernel_rfl

theorem run_c_A : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = stack (fun k => cNew (loadsOf x0 x1 x2 x3 x4 x5 x6 x7 x8 x9 x10 zero0 zero1 zero2 zero3) (bOf k) (hOf k)) := by
  unfold sout0_A_1
  rw [View.read_writes_junk_eq_canon, cPiecesA, loadsA_eq, canon_rowPieces _ mem_allPairs]

/-- The run's stores of the normalisers. -/
theorem nPiecesA : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1 = rowPieces allPairs (fun k => nNew (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) (bOf k) (hOf k)) ++ [wholePiece zero2] := by
  sl_kernel_rfl

theorem run_n_A : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = stack (fun k => nNew (loadsOf x0 x1 x2 x3 x4 x5 x6 x7 x8 x9 x10 zero0 zero1 zero2 zero3) (bOf k) (hOf k)) := by
  unfold sout0_A_2
  rw [View.read_writes_junk_eq_canon, nPiecesA, loadsA_eq, canon_rowPieces _ mem_allPairs]

/-- The run's stores of the stabilisers. -/
theorem mPiecesA : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1 = rowPieces allPairs (fun k => mNew (loadsA arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10) (bOf k) (hOf k)) ++ [wholePiece zero3] := by
  sl_kernel_rfl

theorem run_m_A : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = stack (fun k => mNew (loadsOf x0 x1 x2 x3 x4 x5 x6 x7 x8 x9 x10 zero0 zero1 zero2 zero3) (bOf k) (hOf k)) := by
  unfold sout0_A_3
  rw [View.read_writes_junk_eq_canon, mPiecesA, loadsA_eq, canon_rowPieces _ mem_allPairs]

end starts

end Cert.KernelIdeal.Mlstm
-- ==== Proof.MlstmMath.lean ====
/- Extended-real facts that the mLSTM claim needs: a sum of split summands, a running sum as the host
   takes it, the logarithm of a sigmoid in two forms, a product with a block-diagonal matrix. -/
module

public import Idealize.ShloMosaic.Lib.Pointwise
public import Idealize.ShloMosaic.Lib.Tactic

@[expose] public section
noncomputable section
namespace Cert.KernelIdeal.Mlstm
open Idealize.ShloMosaic Idealize.SL.Sem

/-- The sum of the first entries, up to `t`. -/
def cum (x : Fin 128 → EReal) (t : Fin 128) : EReal := ∑ s, if s ≤ t then x s else 0

theorem cmpi_sle : ∀ s r : Fin 128, IntOp.cmpi .sle (BitVec.ofNat 32 s.val) (BitVec.ofNat 32 r.val) = if s ≤ r then 1#1 else 0#1 := by
  decide +kernel

theorem cmpi_sge : ∀ s r : Fin 128, IntOp.cmpi .sge (BitVec.ofNat 32 s.val) (BitVec.ofNat 32 r.val) = if r ≤ s then 1#1 else 0#1 := by
  decide +kernel

/-- An entry of the triangle of ones. -/
theorem tri_at (s r : Fin 128) :
    (FloatOps.sitofp .f32 (BitVec.setWidth 32 (IntOp.cmpi .sle (BitVec.ofNat 32 s.val) (BitVec.ofNat 32 r.val))) : Ideal .f32)
      = if s ≤ r then (1 : EReal) else 0 := by
  rw [cmpi_sle]
  show ((((BitVec.setWidth 32 _).toInt : ℝ) : EReal)) = _
  split
  · have : (BitVec.setWidth 32 1#1).toInt = 1 := by decide
    rw [this]; simp
  · have : (BitVec.setWidth 32 0#1).toInt = 0 := by decide
    rw [this]; simp

/-- A number that is at most zero is the sum of itself and of what two roundings lose, which is nothing. -/
theorem split_eq (x : EReal) (hx : x ≤ 0) : x + (x - x) + (x - x - (x - x)) = x := by
  induction x using EReal.rec with
  | bot => simp
  | top => exact absurd hx (by simp)
  | coe r => norm_cast; simp

theorem tri_split (x : Fin 128 → EReal) (hx : ∀ s, x s ≤ 0) (r : Fin 128) (T : Fin 128 → EReal)
    (hT : ∀ s, T s = if s ≤ r then (1 : EReal) else 0) :
    (∑ s, T s * x s) + (∑ s, T s * (x s - x s)) + (∑ s, T s * (x s - x s - (x s - x s))) = cum x r := by
  unfold cum
  rw [← Finset.sum_add_distrib, ← Finset.sum_add_distrib]
  refine Finset.sum_congr rfl fun s _ => ?_
  rw [hT]
  split
  · rw [one_mul, one_mul, one_mul]; exact split_eq _ (hx s)
  · simp

theorem log1p_exp_nonneg (y : EReal) : 0 ≤ Ideal.log1p (Ideal.exp y) := by
  unfold Ideal.log1p
  induction y using EReal.rec with
  | bot =>
    show (0 : EReal) ≤ Ideal.log (1 + 0)
    rw [add_zero]
    show (0 : EReal) ≤ if (1 : ℝ) ≤ 0 then ⊥ else ((Real.log 1 : ℝ) : EReal)
    rw [if_neg (by norm_num), Real.log_one]
    exact le_rfl
  | top =>
    show (0 : EReal) ≤ Ideal.log (1 + ⊤)
    rw [show (1 : EReal) + ⊤ = ⊤ from rfl]
    exact le_top
  | coe r =>
    show (0 : EReal) ≤ Ideal.log ((1 : EReal) + ((Real.exp r : ℝ) : EReal))
    have e : (1 : EReal) + ((Real.exp r : ℝ) : EReal) = ((1 + Real.exp r : ℝ) : EReal) := by norm_cast
    have h := Real.exp_pos r
    rw [e]
    show (0 : EReal) ≤ if (1 + Real.exp r) ≤ 0 then ⊥ else ((Real.log (1 + Real.exp r) : ℝ) : EReal)
    rw [if_neg (by linarith)]
    exact_mod_cast Real.log_nonneg (by linarith)

/-- The logarithm of the sigmoid, as the kernel computes it. -/
def logsig (g : EReal) : EReal := min g 0 - Ideal.log1p (Ideal.exp (0 - max g (-g)))

theorem logsig_nonpos (g : EReal) : logsig g ≤ 0 := by
  unfold logsig
  have h := log1p_exp_nonneg (0 - max g (-g))
  rw [sub_eq_add_neg]
  calc _ ≤ (0 : EReal) + 0 := add_le_add (min_le_right _ _) (by simpa using h)
    _ = 0 := by simp

/-- The same number as minus the softplus of minus the gate. -/
theorem logsig_eq (g : EReal) : -(max (-g) 0 + Ideal.log1p (Ideal.exp (-(max (-g) (-(-g)))))) = logsig g := by
  unfold logsig
  have h := log1p_exp_nonneg (0 - max g (-g))
  have e : -(max (-g) (-(-g))) = 0 - max g (-g) := by rw [neg_neg, max_comm, zero_sub]
  rw [e, EReal.neg_add (Or.inl (ne_of_gt (lt_of_lt_of_le EReal.bot_lt_zero (le_max_right _ _))))
    (Or.inr (ne_of_gt (lt_of_lt_of_le EReal.bot_lt_zero h)))]
  congr 1
  rcases le_total g 0 with hg | hg
  · rw [min_eq_left hg, max_eq_left (by simpa using hg), neg_neg]
  · rw [min_eq_right hg, max_eq_right (by simpa using hg), neg_zero]

/-- A list's left fold of additions. -/
theorem foldl_add {ι : Type*} (f : ι → EReal) (L : List ι) (v : EReal) :
    L.foldl (fun r n => r + f n) v = v + (L.map f).sum := by
  induction L generalizing v with
  | nil => simp
  | cons a L ih => rw [List.foldl_cons, ih, List.map_cons, List.sum_cons, add_assoc]

/-- The window of 128 entries that ends at `t`, padded below, sums the entries up to `t`. -/
theorem window_sum (x : Fin 128 → EReal) (t : Fin 128) :
    (∑ k : Fin 128, if h : 127 ≤ t.val + k.val ∧ t.val + k.val - 127 < 128 then x ⟨t.val + k.val - 127, h.2⟩ else 0) = cum x t := by
  unfold cum
  have e : ∀ k : Fin 128, (if h : 127 ≤ t.val + k.val ∧ t.val + k.val - 127 < 128 then x ⟨t.val + k.val - 127, h.2⟩ else 0)
      = if 127 ≤ t.val + k.val then x ⟨(t.val + k.val - 127) % 128, Nat.mod_lt _ (by omega)⟩ else 0 := by
    intro k
    by_cases h : 127 ≤ t.val + k.val
    · have h2 : t.val + k.val - 127 < 128 := by omega
      rw [dif_pos ⟨h, h2⟩, if_pos h]; congr 1; apply Fin.ext; show t.val + k.val - 127 = (t.val + k.val - 127) % 128; omega
    · rw [dif_neg (fun hh => h hh.1), if_neg h]
  simp only [e]
  rw [← Finset.sum_filter, ← Finset.sum_filter]
  refine Finset.sum_nbij' (fun k => ⟨(t.val + k.val - 127) % 128, Nat.mod_lt _ (by omega)⟩)
    (fun s => ⟨(s.val + 127 - t.val) % 128, Nat.mod_lt _ (by omega)⟩) ?_ ?_ ?_ ?_ ?_
  · intro k hk; simp only [Finset.mem_filter, Finset.mem_univ, true_and, Fin.le_def] at hk ⊢; omega
  · intro k hk; simp only [Finset.mem_filter, Finset.mem_univ, true_and, Fin.le_def] at hk ⊢; omega
  · intro k hk; simp only [Finset.mem_filter, Finset.mem_univ, true_and, Fin.le_def] at hk ⊢; apply Fin.ext; show _ % 128 = _; omega
  · intro k hk; simp only [Finset.mem_filter, Finset.mem_univ, true_and, Fin.le_def] at hk ⊢; apply Fin.ext; show _ % 128 = _; omega
  · intro k hk; rfl

/-- A row times a dense block whose entries vanish off the diagonal blocks of four. -/
theorem sum_block (x : Fin 256 → EReal) (w : Fin 4 → EReal) (d : Fin 256) (W : Fin 256 → EReal)
    (hW : ∀ c, W c = if c.val / 4 = d.val / 4 then w ⟨c.val % 4, Nat.mod_lt _ (by omega)⟩ else 0) :
    ∑ c, x c * W c = ∑ i : Fin 4, w i * x ⟨d.val / 4 * 4 + i.val, by omega⟩ := by
  have e : ∀ c, x c * W c = if c.val / 4 = d.val / 4 then w ⟨c.val % 4, Nat.mod_lt _ (by omega)⟩ * x c else 0 := by
    intro c; rw [hW]; split
    · rw [mul_comm]
    · rw [mul_zero]
  simp only [e]
  rw [← Finset.sum_filter]
  refine Finset.sum_nbij' (fun c => ⟨c.val % 4, Nat.mod_lt _ (by omega)⟩) (fun i => ⟨d.val / 4 * 4 + i.val, by omega⟩) ?_ ?_ ?_ ?_ ?_
  · intro c hc; simp
  · intro i hi; simp only [Finset.mem_filter, Finset.mem_univ, true_and]; omega
  · intro c hc; simp only [Finset.mem_filter, Finset.mem_univ, true_and] at hc; apply Fin.ext; show d.val / 4 * 4 + c.val % 4 = c.val; omega
  · intro i hi; apply Fin.ext; show (d.val / 4 * 4 + i.val) % 4 = i.val; omega
  · intro c hc
    simp only [Finset.mem_filter, Finset.mem_univ, true_and] at hc
    congr 2; apply Fin.ext; show c.val = d.val / 4 * 4 + c.val % 4; omega

/-- A sum over three stretches of 2048. -/
theorem sum_three (f : Fin 6144 → EReal) :
    ∑ j, f j = (∑ i : Fin 2048, f ⟨i.val, by omega⟩) + (∑ i : Fin 2048, f ⟨2048 + i.val, by omega⟩)
      + ∑ i : Fin 2048, f ⟨4096 + i.val, by omega⟩ := by
  have h := Fin.sum_univ_add (a := 4096) (b := 2048) (fun j => f j)
  have h2 := Fin.sum_univ_add (a := 2048) (b := 2048) (fun j : Fin 4096 => f ⟨j.val, by omega⟩)
  exact h.trans (congrArg₂ (· + ·) h2 rfl)

end Cert.KernelIdeal.Mlstm
-- ==== Proof.MlstmStep.lean ====
/- One chunk of the chunkwise mLSTM, as a function of its queries, keys, values and gates and of the state
   before it; and the kernel's stages read at an index, which compute that function. -/
module

public import proofs.«01_k».proof.Proof.MlstmStages
public import proofs.«01_k».proof.Proof.MlstmMath

@[expose] public section
noncomputable section
namespace Cert.KernelIdeal.Mlstm
open Idealize.ShloMosaic Idealize.SL.Sem Cert.KernelIdeal Cert.KernelIdeal.Gen

/-- What one head reads in a chunk of 128 positions: the rows of q, k (scaled) and v, the input gate, and
    the logarithm of the forget gate. -/
structure Chunk where
  q : Fin 128 → Fin 256 → EReal
  k : Fin 128 → Fin 256 → EReal
  v : Fin 128 → Fin 256 → EReal
  ig : Fin 128 → EReal
  lf : Fin 128 → EReal

/-- The state of one head: matrix memory, normaliser, stabiliser. -/
structure St where
  C : Fin 256 → Fin 256 → EReal
  n : Fin 256 → EReal
  m : EReal

namespace Chunk
variable (c : Chunk) (S : St)

def dm (t s : Fin 128) : EReal := if s ≤ t then cum c.lf t - cum c.lf s + c.ig s else ⊥
def minter (t : Fin 128) : EReal := cum c.lf t + S.m
def mt (t : Fin 128) : EReal := max (Finset.univ.fold max ⊥ fun s => c.dm t s) (c.minter S t)
def score (t s : Fin 128) : EReal := (∑ x, c.q t x * c.k s x) * Ideal.exp (c.dm t s - c.mt S t)
def inter (t : Fin 128) : EReal := Ideal.exp (c.minter S t - c.mt S t)
def num (t : Fin 128) (e : Fin 256) : EReal := (∑ s, c.score S t s * c.v s e) + c.inter S t * ∑ x, c.q t x * S.C x e
def den (t : Fin 128) : EReal := (∑ s, c.score S t s) + c.inter S t * ∑ x, c.q t x * S.n x

/-- The head's output. -/
def out (t : Fin 128) (e : Fin 256) : EReal :=
  Ideal.div (c.num S t e) (max (max (c.den S t) (-(c.den S t))) (Ideal.exp (-(c.mt S t))))

def g (s : Fin 128) : EReal := cum c.lf 127 - cum c.lf s + c.ig s
def mnew : EReal := max (cum c.lf 127 + S.m) (Finset.univ.fold max ⊥ fun s => c.g s)
def decay : EReal := Ideal.exp (cum c.lf 127 + S.m - c.mnew S)
def wt (s : Fin 128) : EReal := Ideal.exp (c.g s - c.mnew S)

/-- The state after the chunk. -/
def next : St where
  C := fun d e => c.decay S * S.C d e + ∑ s, c.k s d * c.wt S s * c.v s e
  n := fun d => c.decay S * S.n d + ∑ s, c.k s d * c.wt S s
  m := c.mnew S

end Chunk

section
variable (l : Loads Ideal) (b : Fin 2) (h : Fin 8)

/-- The gates before the logarithm. -/
def preOf : FVec Ideal S128x128 .f32 := pre (qAll l b) (kAll l b) (vAll l b) l.WG l.bg

/-- What head `h` of batch entry `b` reads. -/
def chunkOf : Chunk where
  q := fun t x => qAll l b (ix2 t ⟨h.val * 256 + x.val, by omega⟩)
  k := fun t x => kAll l b (ix2 t ⟨h.val * 256 + x.val, by omega⟩) * Ideal.ofBits .f32 0x3D800000#32
  v := fun t x => vAll l b (ix2 t ⟨h.val * 256 + x.val, by omega⟩)
  ig := fun t => preOf l b (ix2 t ⟨h.val, by omega⟩)
  lf := fun t => logsig (preOf l b (ix2 t ⟨8 + h.val, by omega⟩))

/-- The state of the pair in the buffers. -/
def stOf : St where
  C := fun d e => l.C (pr b h) (ix3 0 d e)
  n := fun d => l.N (pr b h) (ix3 0 0 d)
  m := l.M (pr b h) (ix3 0 0 0)

theorem ofBits_bot : (Ideal.ofBits .f32 0xFF800000#32 : EReal) = ⊥ := by
  simp [Ideal.ofBits, Ideal.ieee]

theorem cols_lf : ∀ h : Fin 8, IntOp.andi (IntOp.cmpi .sge (BitVec.ofNat 32 (8 + h.val)) 8#32)
    (IntOp.cmpi .slt (BitVec.ofNat 32 (8 + h.val)) 16#32) = 1#1 := by decide

theorem cols_ig : ∀ h : Fin 8, IntOp.cmpi .slt (BitVec.ofNat 32 h.val) 8#32 = 1#1 := by decide

theorem cols_b : ∀ h : Fin 8, IntOp.cmpi .slt (BitVec.ofNat 32 (8 + h.val)) 8#32 = 0#1 := by decide

theorem mask_val : (Named.named κ "mask" 0xF149F2CA#32 : Ideal .f32) = (⊥ : EReal) :=
  IdealRules.named_const.ideal_named_scalar _ _ _ _ rfl

theorem lf_at (g : FVec Ideal S128x128 .f32) (r : Fin 128) (h : Fin 8) :
    lf g (ix2 r ⟨8 + h.val, by omega⟩) = logsig (g (ix2 r ⟨8 + h.val, by omega⟩)) := by
  pointwise [lf]
  rw [cols_lf]
  rfl

theorem csum_at (x : FVec Ideal S128x128 .f32) (r : Fin 128) (k : Fin 128) (hx : ∀ s, x (ix2 s k) ≤ 0) :
    csum x (ix2 r k) = cum (fun s => x (ix2 s k)) r := by
  pointwise [csum, triDot, tri, rest, dot_S128x128_S128x128_S128x128_1_0_0_1_n_n]
  exact tri_split _ hx r _ (fun s => tri_at s r)

theorem gates_ig (g : FVec Ideal S128x128 .f32) (r : Fin 128) (h : Fin 8) :
    gates g (ix2 r ⟨h.val, by omega⟩) = g (ix2 r ⟨h.val, by omega⟩) := by
  pointwise [gates]
  rw [cols_ig]
  rfl

theorem gates_b (g : FVec Ideal S128x128 .f32) (r : Fin 128) (h : Fin 8) :
    gates g (ix2 r ⟨8 + h.val, by omega⟩) = cum (fun s => logsig (g (ix2 s ⟨8 + h.val, by omega⟩))) r := by
  have e : (fun s => logsig (g (ix2 s ⟨8 + h.val, by omega⟩))) = fun s => lf g (ix2 s ⟨8 + h.val, by omega⟩) :=
    funext fun s => (lf_at g s h).symm
  rw [e, ← csum_at _ r _ (fun s => by rw [lf_at]; exact logsig_nonpos _)]
  pointwise [gates]
  rw [cols_b]
  rfl

theorem bcol_at (r : Fin 128) : bcol l b h (ix2 r 0) = cum (chunkOf l b h).lf r := by
  refine Eq.trans ?_ (gates_b (preOf l b) r h)
  pointwise [bcol, col, gb, kF]
  rfl
theorem brow_at (r : Fin 128) : brow l b h (ix2 0 r) = cum (chunkOf l b h).lf r := by
  refine Eq.trans ?_ (gates_b (preOf l b) r h)
  pointwise [brow, row, gbt, gb, kF]
  rfl
theorem icol_at (r : Fin 128) : icol l b h (ix2 r 0) = (chunkOf l b h).ig r := by
  refine Eq.trans ?_ (gates_ig (preOf l b) r h)
  pointwise [icol, col, gb, kI]
  rfl
theorem irow_at (r : Fin 128) : irow l b h (ix2 0 r) = (chunkOf l b h).ig r := by
  refine Eq.trans ?_ (gates_ig (preOf l b) r h)
  pointwise [irow, row, gbt, gb, kI]
  rfl
theorem mprev_at : mprev l b h (ix2 0 0) = (stOf l b h).m := by
  pointwise [mprev]
  rfl
theorem dm_at (t s : Fin 128) : dm l b h (ix2 t s) = (chunkOf l b h).dm t s := by
  pointwise [dm]
  rw [bcol_at, brow_at, irow_at, cmpi_sle]
  rw [mask_val]
  unfold Chunk.dm Scalar.select
  split <;> rfl
theorem minter_at (t : Fin 128) : minter l b h (ix2 t 0) = (chunkOf l b h).minter (stOf l b h) t := by
  pointwise [minter]
  rw [bcol_at, mprev_at]
  rfl
theorem mt_at (t : Fin 128) : mt l b h (ix2 t 0) = (chunkOf l b h).mt (stOf l b h) t := by
  pointwise [mt]
  simp only [minter_at, dm_at, ofBits_bot]
  rfl
theorem sraw_at (t s : Fin 128) : sraw l b h (ix2 t s) = ∑ x, (chunkOf l b h).q t x * (chunkOf l b h).k s x := by
  pointwise [sraw, qb, kh, qf, head, dot_S128x256_S128x256_S128x128_1_1_0_0_n_n]
  rfl
theorem scores_at (t s : Fin 128) : scores l b h (ix2 t s) = (chunkOf l b h).score (stOf l b h) t s := by
  pointwise [scores, wgt]
  rw [sraw_at, dm_at, mt_at]
  rfl
theorem inter_at (t : Fin 128) : inter l b h (ix2 t 0) = (chunkOf l b h).inter (stOf l b h) t := by
  pointwise [inter]
  rw [minter_at, mt_at]
  rfl
theorem vb_at (s : Fin 128) (e : Fin 256) : vb l b h (ix2 s e) = (chunkOf l b h).v s e := by
  pointwise [vb, head]
  rfl
theorem num_at (t : Fin 128) (e : Fin 256) : num l b h (ix2 t e) = (chunkOf l b h).num (stOf l b h) t e := by
  pointwise [num, qc, qb, qf, head, dot_S128x256_S256x256_S128x256_1_0_0_1_n_n, dot_S128x128_S128x256_S128x256_1_0_0_1_n_n]
  simp only [scores_at, vb_at, inter_at]
  rfl
theorem den_at (t : Fin 128) : den l b h (ix2 t 0) = (chunkOf l b h).den (stOf l b h) t := by
  pointwise [den, qf, head, nvec]
  simp only [scores_at, inter_at]
  rfl
theorem hout_at (t : Fin 128) (e : Fin 256) : hout l b h (ix2 t e) = (chunkOf l b h).out (stOf l b h) t e := by
  pointwise [hout]
  rw [num_at, den_at, mt_at, zero_sub]
  rfl
theorem blast_at : blast l b h (ix2 0 0) = cum (chunkOf l b h).lf 127 := by
  pointwise [blast]
  exact bcol_at l b h 127
theorem mnew_at : mnew l b h (ix2 0 0) = (chunkOf l b h).mnew (stOf l b h) := by
  pointwise [mnew]
  simp only [blast_at, mprev_at, brow_at, irow_at, ofBits_bot]
  rfl
theorem decay_at : decay l b h (ix2 0 0) = (chunkOf l b h).decay (stOf l b h) := by
  pointwise [decay]
  rw [blast_at, mprev_at, mnew_at]
  rfl
theorem kw_at (s : Fin 128) (d : Fin 256) : kw l b h (ix2 s d) = (chunkOf l b h).k s d * (chunkOf l b h).wt (stOf l b h) s := by
  pointwise [kw, kh, head]
  rw [blast_at, bcol_at, icol_at, mnew_at]
  rfl
theorem cNew_at (hC : l.C' = l.C) (d e : Fin 256) : cNew l b h (ix3 0 d e) = ((chunkOf l b h).next (stOf l b h)).C d e := by
  pointwise [cNew, upd, dot_S128x256_S128x256_S256x256_0_0_1_1_n_n]
  simp only [decay_at, kw_at, vb_at, hC]
  rfl
theorem nNew_at (d : Fin 256) : nNew l b h (ix3 0 0 d) = ((chunkOf l b h).next (stOf l b h)).n d := by
  pointwise [nNew, nvec]
  simp only [decay_at, kw_at]
  rfl
theorem mNew_at (i : Fin 8) (j : Fin 128) : mNew l b h (ix3 0 i j) = ((chunkOf l b h).next (stOf l b h)).m := by
  pointwise [mNew]
  exact mnew_at l b h

end

end Cert.KernelIdeal.Mlstm
-- ==== Proof.MlstmGlobal.lean ====
/- The mLSTM layer's part between its input product and its output product, as a function of the arrays at
   every batch entry, position and channel; and the kernel's stages at one chunk, which compute it. -/
module

public import proofs.«01_k».proof.Proof.MlstmStep

@[expose] public section
noncomputable section
namespace Cert.KernelIdeal.Mlstm
open Idealize.ShloMosaic Idealize.SL.Sem Cert.KernelIdeal Cert.KernelIdeal.Gen

/-- The arrays: the input product `u`, the convolution's weight and bias, the block-diagonal weights of
    q, k, v, weight and bias of the two gates, the skip and the norm's gain. -/
structure Args where
  u : (⟨2, ![16384, 8192]⟩ : Shape).Idx → EReal
  cw : (⟨2, ![4, 2048]⟩ : Shape).Idx → EReal
  cb : (⟨1, ![2048]⟩ : Shape).Idx → EReal
  wq : (⟨3, ![512, 4, 4]⟩ : Shape).Idx → EReal
  wk : (⟨3, ![512, 4, 4]⟩ : Shape).Idx → EReal
  wv : (⟨3, ![512, 4, 4]⟩ : Shape).Idx → EReal
  wi : (⟨2, ![6144, 8]⟩ : Shape).Idx → EReal
  bi : (⟨1, ![8]⟩ : Shape).Idx → EReal
  wf : (⟨2, ![6144, 8]⟩ : Shape).Idx → EReal
  bf : (⟨1, ![8]⟩ : Shape).Idx → EReal
  sk : (⟨1, ![2048]⟩ : Shape).Idx → EReal
  gn : (⟨1, ![2048]⟩ : Shape).Idx → EReal

/-- Position `t` of chunk `n`. -/
def pos (n : ℕ) (t : Fin 128) : Fin 4096 := ⟨(n * 128 + t.val) % 4096, Nat.mod_lt _ (by omega)⟩

def siluE (x : EReal) : EReal := x * Ideal.div 1 (1 + Ideal.exp (-x))

def meanE (f : Fin 256 → EReal) : EReal := Ideal.div (∑ e, f e) (Ideal.ofBits .f32 0x43800000#32)

def normE (f : Fin 256 → EReal) (e : Fin 256) : EReal :=
  (f e - meanE f) * Ideal.rsqrt (meanE (fun e => (f e - meanE f) * (f e - meanE f)) + Ideal.ofBits .f32 0x358637BD#32)

/-- A row times a block-diagonal matrix with blocks of four. -/
def bd (w : (⟨3, ![512, 4, 4]⟩ : Shape).Idx → EReal) (x : Fin 2048 → EReal) (j : Fin 2048) : EReal :=
  ∑ i : Fin 4, w (ix3 ⟨j.val / 4, by omega⟩ i ⟨j.val % 4, by omega⟩) * x ⟨j.val / 4 * 4 + i.val, by omega⟩

namespace Args
variable (A : Args)

def xs (B : Fin 4) (p : Fin 4096) (d : Fin 2048) : EReal := A.u (ix2 ⟨B.val * 4096 + p.val, by omega⟩ ⟨4096 + d.val, by omega⟩)
def zs (B : Fin 4) (p : Fin 4096) (d : Fin 2048) : EReal := A.u (ix2 ⟨B.val * 4096 + p.val, by omega⟩ ⟨6144 + d.val, by omega⟩)

/-- The input `k` positions back, zero before the first. -/
def tap (k : ℕ) (B : Fin 4) (p : Fin 4096) (d : Fin 2048) : EReal :=
  if k ≤ p.val then A.xs B ⟨p.val - k, by omega⟩ d else 0

def conv (B : Fin 4) (p : Fin 4096) (d : Fin 2048) : EReal :=
  A.cb (ix1 d) + A.tap 3 B p d * A.cw (ix2 0 d) + A.tap 2 B p d * A.cw (ix2 1 d) + A.tap 1 B p d * A.cw (ix2 2 d)
    + A.xs B p d * A.cw (ix2 3 d)

def act (B : Fin 4) (p : Fin 4096) (d : Fin 2048) : EReal := siluE (A.conv B p d)
def q (B : Fin 4) (p : Fin 4096) : Fin 2048 → EReal := bd A.wq (A.act B p)
def k (B : Fin 4) (p : Fin 4096) : Fin 2048 → EReal := bd A.wk (A.act B p)
def v (B : Fin 4) (p : Fin 4096) : Fin 2048 → EReal := bd A.wv (A.xs B p)

/-- A gate: the product of q, k and v side by side with its weight, and its bias. -/
def gate (w : (⟨2, ![6144, 8]⟩ : Shape).Idx → EReal) (bias : (⟨1, ![8]⟩ : Shape).Idx → EReal) (B : Fin 4) (p : Fin 4096) (h : Fin 8) : EReal :=
  (∑ i : Fin 2048, A.q B p i * w (ix2 ⟨i.val, by omega⟩ h)) + (∑ i : Fin 2048, A.k B p i * w (ix2 ⟨2048 + i.val, by omega⟩ h))
    + (∑ i : Fin 2048, A.v B p i * w (ix2 ⟨4096 + i.val, by omega⟩ h)) + bias (ix1 h)

/-- What head `h` of batch entry `B` reads in chunk `n`. -/
def chunk (B : Fin 4) (h : Fin 8) (n : ℕ) : Chunk where
  q := fun t x => A.q B (pos n t) ⟨h.val * 256 + x.val, by omega⟩
  k := fun t x => A.k B (pos n t) ⟨h.val * 256 + x.val, by omega⟩ * Ideal.ofBits .f32 0x3D800000#32
  v := fun t x => A.v B (pos n t) ⟨h.val * 256 + x.val, by omega⟩
  ig := fun t => A.gate A.wi A.bi B (pos n t) h
  lf := fun t => logsig (A.gate A.wf A.bf B (pos n t) h)

/-- The state before chunk `n`. -/
def st (B : Fin 4) (h : Fin 8) : ℕ → St
  | 0 => ⟨fun _ _ => 0, fun _ => 0, 0⟩
  | n + 1 => (A.chunk B h n).next (st B h n)

/-- The recurrence's output. -/
def y (B : Fin 4) (h : Fin 8) (n : ℕ) (t : Fin 128) (e : Fin 256) : EReal := (A.chunk B h n).out (A.st B h n) t e

/-- The result at position `t` of chunk `n`. -/
def res (B : Fin 4) (n : ℕ) (t : Fin 128) (d : Fin 2048) : EReal :=
  (normE (A.y B ⟨d.val / 256, by omega⟩ n t) ⟨d.val % 256, by omega⟩ * A.gn (ix1 d) + A.sk (ix1 d) * A.act B (pos n t) d)
    * siluE (A.zs B (pos n t) d)

end Args

/-- What the kernel reads at chunk `n` for batch entry `b` of its pair, which is batch entry `B`. -/
structure Reads (A : Args) (B : Fin 4) (n : ℕ) (l : Loads Ideal) (b : Fin 2) : Prop where
  X : ∀ r d, l.X b (ix3 0 r d) = A.xs B (pos n r) d
  Z : ∀ r d, l.Z b (ix3 0 r d) = A.zs B (pos n r) d
  T : ∀ (j : Fin 8) d, l.T b (ix3 0 j d) = if n = 0 then 0 else A.xs B (pos (n - 1) ⟨120 + j.val, by omega⟩) d
  cw : ∀ k d, l.cw (ix2 k d) = A.cw (ix2 k d)
  cb : ∀ d, l.cb (ix2 0 d) = A.cb (ix1 d)
  WQ : ∀ g a c, l.WQ g (ix3 0 a c) = if a.val / 4 = c.val / 4 then A.wq (ix3 ⟨g.val * 64 + c.val / 4, by omega⟩ ⟨a.val % 4, by omega⟩ ⟨c.val % 4, by omega⟩) else 0
  WK : ∀ g a c, l.WK g (ix3 0 a c) = if a.val / 4 = c.val / 4 then A.wk (ix3 ⟨g.val * 64 + c.val / 4, by omega⟩ ⟨a.val % 4, by omega⟩ ⟨c.val % 4, by omega⟩) else 0
  WV : ∀ g a c, l.WV g (ix3 0 a c) = if a.val / 4 = c.val / 4 then A.wv (ix3 ⟨g.val * 64 + c.val / 4, by omega⟩ ⟨a.val % 4, by omega⟩ ⟨c.val % 4, by omega⟩) else 0
  WI : ∀ k i (h : Fin 8), l.WG k (ix3 0 i ⟨h.val, by omega⟩) = A.wi (ix2 ⟨k.val * 2048 + i.val, by omega⟩ h)
  WF : ∀ k i (h : Fin 8), l.WG k (ix3 0 i ⟨8 + h.val, by omega⟩) = A.wf (ix2 ⟨k.val * 2048 + i.val, by omega⟩ h)
  bi : ∀ h : Fin 8, l.bg (ix2 0 ⟨h.val, by omega⟩) = A.bi (ix1 h)
  bf : ∀ h : Fin 8, l.bg (ix2 0 ⟨8 + h.val, by omega⟩) = A.bf (ix1 h)
  sk : ∀ d, l.sk (ix2 0 d) = A.sk (ix1 d)
  gn : ∀ d, l.gn (ix2 0 d) = A.gn (ix1 d)

theorem join_at (f : Fin 8 → FVec Ideal S128x256 .f32) (r : Fin 128) (d : Fin 2048) :
    join f (ix2 r d) = f ⟨d.val / 256, by omega⟩ (ix2 r ⟨d.val % 256, by omega⟩) := by
  have e : ∀ (g g' : Fin 8) (c c' : Fin 256), g.val = g'.val → c.val = c'.val → f g (ix2 r c) = f g' (ix2 r c') := by
    intro g g' c c' h1 h2
    rw [Fin.ext h1, Fin.ext h2]
  pointwise [join]
  split_ifs <;> refine e _ _ _ _ ?_ ?_ <;> simp <;> omega

theorem blocks_at (x : FVec Ideal S128x2048 .bf16) (W : Fin 8 → Vec Ideal S1x256x256 .bf16) (w : (⟨3, ![512, 4, 4]⟩ : Shape).Idx → EReal)
    (X : Fin 2048 → EReal) (r : Fin 128) (hX : ∀ d, x (ix2 r d) = X d)
    (hW : ∀ g a c, W g (ix3 0 a c) = if a.val / 4 = c.val / 4 then w (ix3 ⟨g.val * 64 + c.val / 4, by omega⟩ ⟨a.val % 4, by omega⟩ ⟨c.val % 4, by omega⟩) else 0)
    (d : Fin 2048) : blocks x W (ix2 r d) = bd w X d := by
  unfold blocks
  rw [join_at]
  pointwise [head, dot_S128x256_S256x256_S128x256_1_0_0_1_n_n]
  simp only [hX]
  refine (sum_block (fun c => X ⟨d.val / 256 * 256 + c.val, by omega⟩)
    (fun i => w (ix3 ⟨d.val / 4, by omega⟩ i ⟨d.val % 4, by omega⟩)) ⟨d.val % 256, by omega⟩ _ ?_).trans ?_
  · intro c
    rw [hW]
    have e1 : d.val / 256 * 64 + d.val % 256 / 4 = d.val / 4 := by omega
    have e2 : d.val % 256 % 4 = d.val % 4 := by omega
    simp only [e1, e2]
  · unfold bd
    refine Finset.sum_congr rfl fun i _ => ?_
    congr 2
    apply Fin.ext
    show d.val / 256 * 256 + (d.val % 256 / 4 * 4 + i.val) = d.val / 4 * 4 + i.val
    omega

theorem silu_at (x : FVec Ideal S128x2048 .f32) (r : Fin 128) (d : Fin 2048) : silu x (ix2 r d) = siluE (x (ix2 r d)) := by
  pointwise [silu]
  rw [zero_sub]
  rfl

theorem cmpi_slt_nat (r : Fin 128) (k : Fin 8) : IntOp.cmpi .slt (BitVec.ofNat 32 r.val) (BitVec.ofNat 32 k.val) = if r.val < k.val then 1#1 else 0#1 := by
  revert r k
  decide +kernel

theorem conv_comm (a b c d e : EReal) : a + b + c + d + e = a + e + d + c + b := by
  abel

/-- A shifted row is one of the tail's rows or one of the chunk's own. -/
theorem shift_sel (k : Fin 8) (hk : 0 < k.val) (T : Fin 8 → EReal) (X : Fin 128 → EReal) (r : Fin 128) :
    (if h : r.val < 8 then Scalar.select (IntOp.cmpi .slt (BitVec.ofNat 32 r.val) (BitVec.ofNat 32 k.val))
        (T ⟨(r.val + 8 - k.val) % 8, Nat.mod_lt _ (by omega)⟩) (X ⟨(r.val + 128 - k.val) % 128, Nat.mod_lt _ (by omega)⟩)
      else X ⟨(8 + (r.val - 8) + 128 - k.val) % 128, Nat.mod_lt _ (by omega)⟩) =
    if r.val < k.val then T ⟨(r.val + 8 - k.val) % 8, Nat.mod_lt _ (by omega)⟩ else X ⟨(r.val + 128 - k.val) % 128, Nat.mod_lt _ (by omega)⟩ := by
  by_cases h : r.val < 8
  · rw [dif_pos h, cmpi_slt_nat]
    by_cases h' : r.val < k.val
    · rw [if_pos h', if_pos h']; rfl
    · rw [if_neg h', if_neg h']; rfl
  · rw [dif_neg h, if_neg (by omega)]
    congr 2
    omega

theorem normed_at (x : FVec Ideal S128x256 .f32) (r : Fin 128) (e : Fin 256) : normed x (ix2 r e) = normE (fun e => x (ix2 r e)) e := by
  pointwise [normed, cen, mean]
  rfl

section
variable {A : Args} {B : Fin 4} {n : ℕ} {l : Loads Ideal} {b : Fin 2} (hn : n < 32) (R : Reads A B n l b)
include R

theorem rows_at (r : Fin 128) (d : Fin 2048) : rows l b (ix2 r d) = A.xs B (pos n r) d := by
  pointwise [rows]
  exact R.X r d

/-- The rows of the chunk and the tail before it hold the inputs `k` positions back. -/
theorem back (hn : n < 32) (k : ℕ) (hk : k < 8) (r : Fin 128) (d : Fin 2048) :
    A.tap k B (pos n r) d = if r.val < k then l.T b (ix3 0 ⟨(r.val + 8 - k) % 8, Nat.mod_lt _ (by omega)⟩ d)
      else l.X b (ix3 0 ⟨(r.val + 128 - k) % 128, Nat.mod_lt _ (by omega)⟩ d) := by
  have hp : (pos n r).val = n * 128 + r.val := by show (n * 128 + r.val) % 4096 = _; omega
  unfold Args.tap
  by_cases hr : r.val < k
  · rw [if_pos hr, R.T]
    by_cases h0 : n = 0
    · rw [if_pos h0, if_neg (by omega)]
    · rw [if_neg h0, if_pos (by omega)]
      congr 1
      apply Fin.ext
      show (pos n r).val - k = ((n - 1) * 128 + (120 + (r.val + 8 - k) % 8)) % 4096
      have : (r.val + 8 - k) % 8 = r.val + 8 - k := Nat.mod_eq_of_lt (by omega)
      omega
  · rw [if_neg hr, R.X, if_pos (by omega)]
    congr 1
    apply Fin.ext
    show (pos n r).val - k = (n * 128 + (r.val + 128 - k) % 128) % 4096
    omega

theorem shifted1_at (hn : n < 32) (r : Fin 128) (d : Fin 2048) : shifted 1#32 (rows l b) (tailOf l b) (ix2 r d) = A.tap 1 B (pos n r) d := by
  rw [back R hn 1 (by omega)]
  pointwise [shifted, rows, tailOf]
  exact shift_sel 1 (by omega) (fun j => l.T b (ix3 0 j d)) (fun j => l.X b (ix3 0 j d)) r

theorem shifted2_at (hn : n < 32) (r : Fin 128) (d : Fin 2048) : shifted 2#32 (rows l b) (tailOf l b) (ix2 r d) = A.tap 2 B (pos n r) d := by
  rw [back R hn 2 (by omega)]
  pointwise [shifted, rows, tailOf]
  exact shift_sel 2 (by omega) (fun j => l.T b (ix3 0 j d)) (fun j => l.X b (ix3 0 j d)) r

theorem shifted3_at (hn : n < 32) (r : Fin 128) (d : Fin 2048) : shifted 3#32 (rows l b) (tailOf l b) (ix2 r d) = A.tap 3 B (pos n r) d := by
  rw [back R hn 3 (by omega)]
  pointwise [shifted, rows, tailOf]
  exact shift_sel 3 (by omega) (fun j => l.T b (ix3 0 j d)) (fun j => l.X b (ix3 0 j d)) r

theorem act_at (hn : n < 32) (r : Fin 128) (d : Fin 2048) : act l b (ix2 r d) = A.act B (pos n r) d := by
  unfold act
  rw [silu_at]
  unfold Args.act Args.conv
  congr 1
  pointwise [conv]
  rw [shifted1_at R hn, shifted2_at R hn, shifted3_at R hn, rows_at R, R.cb, R.cw, R.cw, R.cw, R.cw]
  exact conv_comm _ _ _ _ _

theorem qAll_at (hn : n < 32) (r : Fin 128) (d : Fin 2048) : qAll l b (ix2 r d) = A.q B (pos n r) d :=
  blocks_at _ _ _ _ r (fun d => by pointwise; exact act_at R hn r d) R.WQ d

theorem kAll_at (hn : n < 32) (r : Fin 128) (d : Fin 2048) : kAll l b (ix2 r d) = A.k B (pos n r) d :=
  blocks_at _ _ _ _ r (fun d => by pointwise; exact act_at R hn r d) R.WK d

theorem vAll_at (r : Fin 128) (d : Fin 2048) : vAll l b (ix2 r d) = A.v B (pos n r) d :=
  blocks_at _ _ _ _ r (fun d => by pointwise; exact rows_at R r d) R.WV d

theorem ig_at (hn : n < 32) (r : Fin 128) (h : Fin 8) : preOf l b (ix2 r ⟨h.val, by omega⟩) = A.gate A.wi A.bi B (pos n r) h := by
  pointwise [preOf, pre, gateDot, dot_S128x2048_S2048x128_S128x128_1_0_0_1_n_n]
  simp only [qAll_at R hn, kAll_at R hn, vAll_at R, R.WI, R.bi]
  unfold Args.gate
  simp

theorem fg_at (hn : n < 32) (r : Fin 128) (h : Fin 8) : preOf l b (ix2 r ⟨8 + h.val, by omega⟩) = A.gate A.wf A.bf B (pos n r) h := by
  pointwise [preOf, pre, gateDot, dot_S128x2048_S2048x128_S128x128_1_0_0_1_n_n]
  simp only [qAll_at R hn, kAll_at R hn, vAll_at R, R.WF, R.bf]
  unfold Args.gate
  simp

/-- The kernel's chunk is the chunk of the arrays. -/
theorem chunkOf_eq (hn : n < 32) (h : Fin 8) : chunkOf l b h = A.chunk B h n := by
  unfold chunkOf Args.chunk
  simp only [qAll_at R hn, kAll_at R hn, vAll_at R, ig_at R hn, fg_at R hn]

/-- What the body writes, once the state is the recurrence's. -/
theorem outB_at (hn : n < 32) (hS : ∀ h, stOf l b h = A.st B h n) (r : Fin 128) (d : Fin 2048) :
    outB l b (ix3 0 r d) = A.res B n r d := by
  pointwise [outB]
  rw [join_at, normed_at, silu_at, act_at R hn, R.gn, R.sk]
  simp only [hout_at, chunkOf_eq R hn, hS]
  pointwise
  rw [R.Z]
  rfl

theorem tailNew_at (j : Fin 8) (d : Fin 2048) : tailNew l b (ix3 0 j d) = A.xs B (pos n ⟨120 + j.val, by omega⟩) d := by
  pointwise [tailNew]
  exact rows_at R _ d

end

end Cert.KernelIdeal.Mlstm
-- ==== Proof.MlstmTables.lean ====
/- The three tables of the block-diagonal weights' masks: entry `256 * a + b` is one exactly when `a` and `b`
   lie in the same block of four. -/
module

public import proofs.«01_k».proof.KernelIdeal
public import Idealize.ShloMosaic.Lib.Tactic

@[expose] public section
namespace Cert.KernelIdeal.Mlstm
open Idealize.ShloMosaic Cert.KernelIdeal

/-- The entry at `n` of a list of 128 values given by a function. -/
def pick (v : ℕ → BitVec 1) (n : ℕ) : BitVec 1 := match n with
  | 0 => v 0
  | 1 => v 1
  | 2 => v 2
  | 3 => v 3
  | 4 => v 4
  | 5 => v 5
  | 6 => v 6
  | 7 => v 7
  | 8 => v 8
  | 9 => v 9
  | 10 => v 10
  | 11 => v 11
  | 12 => v 12
  | 13 => v 13
  | 14 => v 14
  | 15 => v 15
  | 16 => v 16
  | 17 => v 17
  | 18 => v 18
  | 19 => v 19
  | 20 => v 20
  | 21 => v 21
  | 22 => v 22
  | 23 => v 23
  | 24 => v 24
  | 25 => v 25
  | 26 => v 26
  | 27 => v 27
  | 28 => v 28
  | 29 => v 29
  | 30 => v 30
  | 31 => v 31
  | 32 => v 32
  | 33 => v 33
  | 34 => v 34
  | 35 => v 35
  | 36 => v 36
  | 37 => v 37
  | 38 => v 38
  | 39 => v 39
  | 40 => v 40
  | 41 => v 41
  | 42 => v 42
  | 43 => v 43
  | 44 => v 44
  | 45 => v 45
  | 46 => v 46
  | 47 => v 47
  | 48 => v 48
  | 49 => v 49
  | 50 => v 50
  | 51 => v 51
  | 52 => v 52
  | 53 => v 53
  | 54 => v 54
  | 55 => v 55
  | 56 => v 56
  | 57 => v 57
  | 58 => v 58
  | 59 => v 59
  | 60 => v 60
  | 61 => v 61
  | 62 => v 62
  | 63 => v 63
  | 64 => v 64
  | 65 => v 65
  | 66 => v 66
  | 67 => v 67
  | 68 => v 68
  | 69 => v 69
  | 70 => v 70
  | 71 => v 71
  | 72 => v 72
  | 73 => v 73
  | 74 => v 74
  | 75 => v 75
  | 76 => v 76
  | 77 => v 77
  | 78 => v 78
  | 79 => v 79
  | 80 => v 80
  | 81 => v 81
  | 82 => v 82
  | 83 => v 83
  | 84 => v 84
  | 85 => v 85
  | 86 => v 86
  | 87 => v 87
  | 88 => v 88
  | 89 => v 89
  | 90 => v 90
  | 91 => v 91
  | 92 => v 92
  | 93 => v 93
  | 94 => v 94
  | 95 => v 95
  | 96 => v 96
  | 97 => v 97
  | 98 => v 98
  | 99 => v 99
  | 100 => v 100
  | 101 => v 101
  | 102 => v 102
  | 103 => v 103
  | 104 => v 104
  | 105 => v 105
  | 106 => v 106
  | 107 => v 107
  | 108 => v 108
  | 109 => v 109
  | 110 => v 110
  | 111 => v 111
  | 112 => v 112
  | 113 => v 113
  | 114 => v 114
  | 115 => v 115
  | 116 => v 116
  | 117 => v 117
  | 118 => v 118
  | 119 => v 119
  | 120 => v 120
  | 121 => v 121
  | 122 => v 122
  | 123 => v 123
  | 124 => v 124
  | 125 => v 125
  | 126 => v 126
  | 127 => v 127
  | _ => 0#1

theorem pick_eq (v : ℕ → BitVec 1) (n : ℕ) (hn : n < 128) : pick v n = v n := by
  interval_cases n <;> rfl

/-- Whether the row and the column that entry `n` stands for lie in the same block of four. -/
def same (n : ℕ) : BitVec 1 := bif n / 256 / 4 == n % 256 / 4 then 1#1 else 0#1

/-- The table as the masks are printed: by the index's digits to the base 128. -/
def table (i : ℕ) : BitVec 1 := match i / 16384 with
  | 0 => pick (fun a => pick (fun m => same (a * 128 + m)) (i % 128)) (i / 128 % 128)
  | 1 => pick (fun a => pick (fun m => same ((128 + a) * 128 + m)) (i % 128)) (i / 128 % 128)
  | 2 => pick (fun a => pick (fun m => same ((256 + a) * 128 + m)) (i % 128)) (i / 128 % 128)
  | 3 => pick (fun a => pick (fun m => same ((384 + a) * 128 + m)) (i % 128)) (i / 128 % 128)
  | _ => 0#1

theorem table_eq (n : ℕ) (hn : n < 65536) : table n = same n := by
  have h1 : n / 16384 < 4 := by omega
  have e : ∀ k, n / 16384 = k →
      pick (fun a => pick (fun m => same ((k * 128 + a) * 128 + m)) (n % 128)) (n / 128 % 128) = same n := by
    intro k hk
    rw [pick_eq _ _ (by omega), pick_eq _ _ (by omega)]
    congr 1; omega
  obtain h | h | h | h : n / 16384 = 0 ∨ n / 16384 = 1 ∨ n / 16384 = 2 ∨ n / 16384 = 3 := by omega
  all_goals
    have := e _ h
    unfold table
    rw [h]
    simpa using this

theorem same_eq (a b : ℕ) (hb : b < 256) : same (256 * a + b) = if a / 4 = b / 4 then 1#1 else 0#1 := by
  have h1 : (256 * a + b) / 256 = a := by omega
  have h2 : (256 * a + b) % 256 = b := by omega
  unfold same
  rw [h1, h2]
  by_cases h : a / 4 = b / 4
  · rw [if_pos h, h, beq_self_eq_true]; rfl
  · rw [if_neg h, beq_eq_false_iff_ne.mpr h]; rfl

theorem lit0_table (i : ℕ) : lit0t i = table i := by sl_kernel_rfl
theorem lit1_table (i : ℕ) : lit1t i = table i := by sl_kernel_rfl
theorem lit2_table (i : ℕ) : lit2t i = table i := by sl_kernel_rfl

end Cert.KernelIdeal.Mlstm
-- ==== Proof.MlstmHost.lean ====
/- The arrays that the kernel's host operations prepare for its launch, at an index: the input product cut by
   batch entries, the block-diagonal weights spread to dense blocks, the two gates' weights side by side,
   and the rows of the bias, the skip and the gain. -/
module

public import proofs.«01_k».proof.Proof.MlstmGlobal
public import proofs.«01_k».proof.Proof.MlstmTables
public import proofs.«01_k».proof.Proof.Gen.KernelIdeal.Value
public import Idealize.ShloMosaic.Lib.Pointwise
public import Idealize.ShloMosaic.Lib.StableHlo.RunClose
public import Idealize.ShloMosaic.Lib.ValueIdxRank6

@[expose] public section
noncomputable section
namespace Cert.KernelIdeal.Mlstm
open Idealize.ShloMosaic Idealize.ShloMosaic.TcCoe Idealize.SL.Sem Idealize.ShloMosaic.StableHlo Cert.KernelIdeal Cert.KernelIdeal.Gen

/-! ## The arrays -/

/-- The gates' weights: input and forget gate side by side, padded with zero columns, cut into the rows that meet q, k and v. -/
def wgA (a b : FVec Ideal S6144x8 .f32) : FVec Ideal S3x2048x128 .bf16 :=
  truncf .bf16 (shapeCast S3x2048x128
    (pad S6144x128 ![0, 0] ![0, 112] ![0, 0] (concatenate S6144x16 1 [⟨S6144x8, a⟩, ⟨S6144x8, b⟩] concatenates_S6144x8_S6144x8_S6144x16_d1)
      (sitofp .f32 (broadcast S_ 0#32)) pads_S6144x16_S6144x128_000_01120 h_S_) shapeCasts_S6144x128_S3x2048x128) bitsLt_bf16_f32

/-- The gates' biases, likewise. -/
def bgA (a b : FVec Ideal S8 .f32) : FVec Ideal S1x128 .f32 :=
  pad S1x128 ![0, 0] ![0, 112] ![0, 0] (shapeCast S1x16 (concatenate S16 0 [⟨S8, a⟩, ⟨S8, b⟩] concatenates_S8_S8_S16_d0) shapeCasts_S16_S1x16)
    (sitofp .f32 (broadcast S_ 0#32)) pads_S1x16_S1x128_000_01120 h_S_

/-- A block-diagonal weight with every block of four repeated along the row of its slab. -/
def spreadA (w : FVec Ideal S512x4x4 .f32) : FVec Ideal S8x256x256 .f32 :=
  shapeCast S8x256x256 (broadcastInDim S1x8x1x256x64x4 ![0, 1, 2, 3, 4, 5] bcast_S1x8x1x256x1x4_S1x8x1x256x64x4_0_1_2_3_4_5
    (shapeCast S1x8x1x256x1x4 (shapeCast S8x256x4 w shapeCasts_S512x4x4_S8x256x4) shapeCasts_S8x256x4_S1x8x1x256x1x4)) shapeCasts_S1x8x1x256x64x4_S8x256x256

/-- A block-diagonal weight as dense slabs: zero off the diagonal blocks. -/
def denseA (T : IVec S256x256 1) (w : FVec Ideal S512x4x4 .f32) : FVec Ideal S8x256x256 .bf16 :=
  truncf .bf16 (select (broadcastInDim S8x256x256 ![1, 2] bcast_S256x256_S8x256x256_1_2 T) (spreadA w)
    (broadcastInDim S8x256x256 ![] bcast_S_S8x256x256 (broadcast S_ (Scalar.ofBits (F := Ideal) .f32 0x00000000#32)))) bitsLt_bf16_f32

/-! ## At an index -/

theorem spreadA_at (w : FVec Ideal S512x4x4 .f32) (g : Fin 8) (a c : Fin 256) :
    spreadA w (ix3 g a c) = w (ix3 ⟨g.val * 64 + a.val / 4, by omega⟩ ⟨a.val % 4, by omega⟩ ⟨c.val % 4, by omega⟩) := by
  unfold spreadA
  rw [shapeCast_apply (s := S1x8x1x256x64x4) _ _ (ix3 g a c) (ix6 0 g 0 a ⟨c.val / 4, by omega⟩ ⟨c.val % 4, by omega⟩) (by
    rewrite [Shape.rowMajor_val_three, Shape.rowMajor_val_six]
    show ((((0 * 8 + g.val) * 1 + 0) * 256 + a.val) * 64 + c.val / 4) * 4 + c.val % 4 = (g.val * 256 + a.val) * 256 + c.val
    omega)]
  show shapeCast S1x8x1x256x1x4 (shapeCast S8x256x4 w shapeCasts_S512x4x4_S8x256x4) shapeCasts_S8x256x4_S1x8x1x256x1x4 _ = _
  rw [shapeCast_apply (s := S8x256x4) _ _ _ (ix3 g a ⟨c.val % 4, by omega⟩) (by
    rewrite [Shape.rowMajor_val_three, Shape.rowMajor_val_six]
    show (g.val * 256 + a.val) * 4 + c.val % 4 = ((((0 * 8 + g.val) * 1 + 0) * 256 + a.val) * 1 + 0) * 4 + c.val % 4
    omega)]
  exact shapeCast_apply (s := S512x4x4) _ _ _ _ (by
    rewrite [Shape.rowMajor_val_three, Shape.rowMajor_val_three]
    show ((g.val * 64 + a.val / 4) * 4 + a.val % 4) * 4 + c.val % 4 = (g.val * 256 + a.val) * 4 + c.val % 4
    omega)

theorem denseA_at (T : IVec S256x256 1) (hT : ∀ a c : Fin 256, T (ix2 a c) = if a.val / 4 = c.val / 4 then 1#1 else 0#1)
    (w : FVec Ideal S512x4x4 .f32) (g : Fin 8) (a c : Fin 256) :
    denseA T w (ix3 g a c) = if a.val / 4 = c.val / 4 then w (ix3 ⟨g.val * 64 + c.val / 4, by omega⟩ ⟨a.val % 4, by omega⟩ ⟨c.val % 4, by omega⟩) else 0 := by
  have e : denseA T w (ix3 g a c) = if T (ix2 a c) = 1#1 then spreadA w (ix3 g a c) else 0 := by
    pointwise [denseA]
    rfl
  rw [e, hT]
  by_cases h : a.val / 4 = c.val / 4
  · simp only [h, if_true]
    rw [spreadA_at]
    simp only [h]
  · simp only [h, if_false]; rfl

theorem wgA_wi (a b : FVec Ideal S6144x8 .f32) (k : Fin 3) (i : Fin 2048) (h : Fin 8) :
    wgA a b (ix3 k i ⟨h.val, by omega⟩) = a (ix2 ⟨k.val * 2048 + i.val, by omega⟩ h) := by
  pointwise [wgA]
  exact dif_pos (by omega)

theorem wgA_wf (a b : FVec Ideal S6144x8 .f32) (k : Fin 3) (i : Fin 2048) (h : Fin 8) :
    wgA a b (ix3 k i ⟨8 + h.val, by omega⟩) = b (ix2 ⟨k.val * 2048 + i.val, by omega⟩ h) := by
  pointwise [wgA]
  exact dif_pos (by omega)

theorem bgA_bi (a b : FVec Ideal S8 .f32) (h : Fin 8) : bgA a b (ix2 0 ⟨h.val, by omega⟩) = a (ix1 h) := by
  pointwise [bgA]
  exact dif_pos (by omega)

theorem bgA_bf (a b : FVec Ideal S8 .f32) (h : Fin 8) : bgA a b (ix2 0 ⟨8 + h.val, by omega⟩) = b (ix1 h) := by
  pointwise [bgA]
  exact dif_pos (by omega)

theorem cut_at (u : FVec Ideal S16384x8192 .f32) (B : Fin 4) (p : Fin 4096) (d : Fin 8192) :
    shapeCast S4x4096x8192 u shapeCasts_S16384x8192_S4x4096x8192 (ix3 B p d) = u (ix2 ⟨B.val * 4096 + p.val, by omega⟩ d) :=
  shapeCast_apply _ _ _ _ (by
    rewrite [Shape.rowMajor_val_two, Shape.rowMajor_val_three]
    show (B.val * 4096 + p.val) * 8192 + d.val = (B.val * 4096 + p.val) * 8192 + d.val
    omega)

theorem row_at (x : FVec Ideal S2048 .f32) (d : Fin 2048) : shapeCast S1x2048 x shapeCasts_S2048_S1x2048 (ix2 0 d) = x (ix1 d) :=
  shapeCast_apply _ _ _ _ (by
    rewrite [Shape.rowMajor_val_two, Shape.rowMajor_val_one]
    show d.val = 0 * 2048 + d.val
    omega)

/-- The masks of the diagonal blocks. -/
def maskA (l : Fin 65536 → BitVec 1) : IVec S256x256 1 := fun i => l (S256x256.rowMajor i)

theorem mask_at (l : Fin 65536 → BitVec 1) (hl : ∀ i, l i = same i.val) (a c : Fin 256) :
    maskA l (ix2 a c) = if a.val / 4 = c.val / 4 then 1#1 else 0#1 := by
  unfold maskA
  refine (hl _).trans ?_
  have e : (S256x256.rowMajor (ix2 a c)).val = a.val * 256 + c.val := Shape.rowMajor_val_two _
  show same (S256x256.rowMajor (ix2 a c)).val = _
  rw [e]
  rw [Nat.mul_comm]
  exact same_eq _ _ c.isLt

theorem lit0_same (i : Fin 65536) : lit0 i = same i.val := (lit0_table i.val).trans (table_eq _ i.isLt)
theorem lit1_same (i : Fin 65536) : lit1 i = same i.val := (lit1_table i.val).trans (table_eq _ i.isLt)
theorem lit2_same (i : Fin 65536) : lit2 i = same i.val := (lit2_table i.val).trans (table_eq _ i.isLt)

/-! ## What the host operations leave in the launch's arrays -/

variable (m : (ℓ : Loc nD τ sig) → Buf (Elt Ideal) ℓ)

theorem V_u (c : Dev nD) : @Eq (FVec Ideal S4x4096x8192 .f32) (V m c main_v28)
    (shapeCast S4x4096x8192 (m ((c.tc : Thread nD τ).loc main_arg0)) shapeCasts_S16384x8192_S4x4096x8192) := by
  unfold V
  simp only [List.flatten_cons, List.flatten_nil, List.append_nil, after_append]
  after_results_entrywise (rounds := 1) [cast_eq]
theorem V_cb (c : Dev nD) : @Eq (FVec Ideal S1x2048 .f32) (V m c main_v7)
    (shapeCast S1x2048 (m ((c.tc : Thread nD τ).loc main_arg2)) shapeCasts_S2048_S1x2048) := by
  unfold V
  simp only [List.flatten_cons, List.flatten_nil, List.append_nil, after_append]
  after_results_entrywise (rounds := 1) [cast_eq]
theorem V_sk (c : Dev nD) : @Eq (FVec Ideal S1x2048 .f32) (V m c main_v26)
    (shapeCast S1x2048 (m ((c.tc : Thread nD τ).loc main_arg10)) shapeCasts_S2048_S1x2048) := by
  unfold V
  simp only [List.flatten_cons, List.flatten_nil, List.append_nil, after_append]
  after_results_entrywise (rounds := 1) [cast_eq]
theorem V_gn (c : Dev nD) : @Eq (FVec Ideal S1x2048 .f32) (V m c main_v27)
    (shapeCast S1x2048 (m ((c.tc : Thread nD τ).loc main_arg11)) shapeCasts_S2048_S1x2048) := by
  unfold V
  simp only [List.flatten_cons, List.flatten_nil, List.append_nil, after_append]
  after_results_entrywise (rounds := 1) [cast_eq]
theorem V_wg (c : Dev nD) : @Eq (FVec Ideal S3x2048x128 .bf16) (V m c main_v3)
    (wgA (m ((c.tc : Thread nD τ).loc main_arg6)) (m ((c.tc : Thread nD τ).loc main_arg8))) := by
  unfold V wgA
  simp only [List.flatten_cons, List.flatten_nil, List.append_nil, after_append]
  after_results_entrywise (rounds := 1) [cast_eq]
theorem V_bg (c : Dev nD) : @Eq (FVec Ideal S1x128 .f32) (V m c main_v6)
    (bgA (m ((c.tc : Thread nD τ).loc main_arg7)) (m ((c.tc : Thread nD τ).loc main_arg9))) := by
  unfold V bgA
  simp only [List.flatten_cons, List.flatten_nil, List.append_nil, after_append]
  after_results_entrywise (rounds := 1) [cast_eq]
theorem V_wq (c : Dev nD) : @Eq (FVec Ideal S8x256x256 .bf16) (V m c main_v13)
    (denseA (maskA lit0) (m ((c.tc : Thread nD τ).loc main_arg3))) := by
  unfold V denseA spreadA maskA
  simp only [List.flatten_cons, List.flatten_nil, List.append_nil, after_append]
  after_results_entrywise (rounds := 1) [cast_eq]
theorem V_wk (c : Dev nD) : @Eq (FVec Ideal S8x256x256 .bf16) (V m c main_v19)
    (denseA (maskA lit1) (m ((c.tc : Thread nD τ).loc main_arg4))) := by
  unfold V denseA spreadA maskA
  simp only [List.flatten_cons, List.flatten_nil, List.append_nil, after_append]
  after_results_entrywise (rounds := 1) [cast_eq]
theorem V_wv (c : Dev nD) : @Eq (FVec Ideal S8x256x256 .bf16) (V m c main_v25)
    (denseA (maskA lit2) (m ((c.tc : Thread nD τ).loc main_arg5))) := by
  unfold V denseA spreadA maskA
  simp only [List.flatten_cons, List.flatten_nil, List.append_nil, after_append]
  after_results_entrywise (rounds := 1) [cast_eq]

end Cert.KernelIdeal.Mlstm
end
-- ==== Proof.MlstmBlocks.lean ====
/- What the launch's blocks hold at each of its points: the arrays of two batch entries at one chunk. -/
module

public import proofs.«01_k».proof.Proof.MlstmRun
public import proofs.«01_k».proof.Proof.MlstmGlobal
public import proofs.«01_k».proof.Proof.MlstmHost
public import proofs.«01_k».proof.Proof.Gen.KernelIdeal.Value
public import Idealize.ShloMosaic.Lib.Pointwise
public import Idealize.ShloMosaic.Lib.StableHlo.RunClose
public import Idealize.ShloMosaic.Lib.ValueIdxRank6

@[expose] public section
noncomputable section
namespace Cert.KernelIdeal.Mlstm
open Idealize.ShloMosaic Idealize.ShloMosaic.TcCoe Idealize.SL.Sem Idealize.ShloMosaic.StableHlo Cert.KernelIdeal Cert.KernelIdeal.Gen

open Idealize.ShloMosaic.ValueIdx (eq_ix3)
variable (m : (ℓ : Loc nD τ sig) → Buf (Elt Ideal) ℓ)

/-! ## The blocks -/

/-- The kernel's arrays. -/
abbrev argsK (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩

theorem idx_act : ∀ t : Fin cfg0.N, (win0_0.index t (0 : Fin 3) = t.val / 32 ∧ win0_0.index t (1 : Fin 3) = t.val % 32 ∧ win0_0.index t (2 : Fin 3) = 2)
    ∧ (win0_1.index t (0 : Fin 3) = t.val / 32 ∧ win0_1.index t (1 : Fin 3) = t.val % 32 ∧ win0_1.index t (2 : Fin 3) = 3) :=
  (by decide +kernel : ∀ t : Fin grid0.N, _)

theorem idx_flat : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem idx_slab : ∀ t : Fin cfg0.N, (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0) :=
  (by decide +kernel : ∀ t : Fin grid0.N, _)
theorem blk_x (c : Dev nD) (t : Fin cfg0.N) (b : Fin 2) (r : Fin 128) (d : Fin 2048) (B : Fin 4) (h : B.val = 2 * (t.val / 32) + b.val) :
    (iblk m c 0 t : FVec Ideal S2x128x2048 .f32) (ix3 b r d) = (argsK m c).xs B (pos (t.val % 32) r) d := by
  refine Eq.trans ?_ ((congrFun (V_u m c) (ix3 B (pos (t.val % 32) r) ⟨4096 + d.val, by omega⟩)).trans (cut_at _ B _ _))
  unfold iblk
  rw [View.read_apply]
  show V m c main_v28 _ = V m c main_v28 _
  congr 1
  funext ax; apply Fin.ext
  obtain ⟨⟨e0, e1, e2⟩, -⟩ := idx_act t
  match ax with
  | ⟨0, _⟩ => show win0_0.index t (0 : Fin 3) * 2 + 1 * b.val = B.val; omega
  | ⟨1, _⟩ => show win0_0.index t (1 : Fin 3) * 128 + 1 * r.val = (t.val % 32 * 128 + r.val) % 4096; omega
  | ⟨2, _⟩ => show win0_0.index t (2 : Fin 3) * 2048 + 1 * d.val = 4096 + d.val; omega

theorem blk_z (c : Dev nD) (t : Fin cfg0.N) (b : Fin 2) (r : Fin 128) (d : Fin 2048) (B : Fin 4) (h : B.val = 2 * (t.val / 32) + b.val) :
    (iblk m c 1 t : FVec Ideal S2x128x2048 .f32) (ix3 b r d) = (argsK m c).zs B (pos (t.val % 32) r) d := by
  refine Eq.trans ?_ ((congrFun (V_u m c) (ix3 B (pos (t.val % 32) r) ⟨6144 + d.val, by omega⟩)).trans (cut_at _ B _ _))
  unfold iblk
  rw [View.read_apply]
  show V m c main_v28 _ = V m c main_v28 _
  congr 1
  funext ax; apply Fin.ext
  obtain ⟨-, e0, e1, e2⟩ := idx_act t
  match ax with
  | ⟨0, _⟩ => show win0_1.index t (0 : Fin 3) * 2 + 1 * b.val = B.val; omega
  | ⟨1, _⟩ => show win0_1.index t (1 : Fin 3) * 128 + 1 * r.val = (t.val % 32 * 128 + r.val) % 4096; omega
  | ⟨2, _⟩ => show win0_1.index t (2 : Fin 3) * 2048 + 1 * d.val = 6144 + d.val; omega

theorem blk_cw (c : Dev nD) (t : Fin cfg0.N) (k : Fin 4) (d : Fin 2048) :
    (iblk m c 2 t : FVec Ideal S4x2048 .f32) (ix2 k d) = (argsK m c).cw (ix2 k d) := by
  refine Eq.trans ?_ (congrFun (V_main_arg1 m c) (ix2 k d))
  unfold iblk
  rw [View.read_apply]
  show V m c main_arg1 _ = V m c main_arg1 _
  congr 1
  funext ax; apply Fin.ext
  obtain ⟨⟨e0, e1⟩, -⟩ := idx_flat t
  match ax with
  | ⟨0, _⟩ => show win0_2.index t (0 : Fin 2) * 4 + 1 * k.val = k.val; omega
  | ⟨1, _⟩ => show win0_2.index t (1 : Fin 2) * 2048 + 1 * d.val = d.val; omega

theorem blk_cb (c : Dev nD) (t : Fin cfg0.N) (d : Fin 2048) :
    (iblk m c 3 t : FVec Ideal S1x2048 .f32) (ix2 0 d) = (argsK m c).cb (ix1 d) := by
  refine Eq.trans ?_ ((congrFun (V_cb m c) (ix2 0 d)).trans (row_at _ d))
  unfold iblk
  rw [View.read_apply]
  show V m c main_v7 _ = V m c main_v7 _
  congr 1
  funext ax; apply Fin.ext
  obtain ⟨-, ⟨e0, e1⟩, -⟩ := idx_flat t
  match ax with
  | ⟨0, _⟩ => show win0_3.index t (0 : Fin 2) * 1 + 1 * 0 = 0; omega
  | ⟨1, _⟩ => show win0_3.index t (1 : Fin 2) * 2048 + 1 * d.val = d.val; omega

theorem blk_bg (c : Dev nD) (t : Fin cfg0.N) (d : Fin 128) :
    (iblk m c 8 t : FVec Ideal S1x128 .f32) (ix2 0 d) = bgA (argsK m c).bi (argsK m c).bf (ix2 0 d) := by
  refine Eq.trans ?_ (congrFun (V_bg m c) (ix2 0 d))
  unfold iblk
  rw [View.read_apply]
  show V m c main_v6 _ = V m c main_v6 _
  congr 1
  funext ax; apply Fin.ext
  obtain ⟨-, -, ⟨e0, e1⟩, -⟩ := idx_flat t
  match ax with
  | ⟨0, _⟩ => show win0_8.index t (0 : Fin 2) * 1 + 1 * 0 = 0; omega
  | ⟨1, _⟩ => show win0_8.index t (1 : Fin 2) * 128 + 1 * d.val = d.val; omega

theorem blk_sk (c : Dev nD) (t : Fin cfg0.N) (d : Fin 2048) :
    (iblk m c 9 t : FVec Ideal S1x2048 .f32) (ix2 0 d) = (argsK m c).sk (ix1 d) := by
  refine Eq.trans ?_ ((congrFun (V_sk m c) (ix2 0 d)).trans (row_at _ d))
  unfold iblk
  rw [View.read_apply]
  show V m c main_v26 _ = V m c main_v26 _
  congr 1
  funext ax; apply Fin.ext
  obtain ⟨-, -, -, ⟨e0, e1⟩, -⟩ := idx_flat t
  match ax with
  | ⟨0, _⟩ => show win0_9.index t (0 : Fin 2) * 1 + 1 * 0 = 0; omega
  | ⟨1, _⟩ => show win0_9.index t (1 : Fin 2) * 2048 + 1 * d.val = d.val; omega

theorem blk_gn (c : Dev nD) (t : Fin cfg0.N) (d : Fin 2048) :
    (iblk m c 10 t : FVec Ideal S1x2048 .f32) (ix2 0 d) = (argsK m c).gn (ix1 d) := by
  refine Eq.trans ?_ ((congrFun (V_gn m c) (ix2 0 d)).trans (row_at _ d))
  unfold iblk
  rw [View.read_apply]
  show V m c main_v27 _ = V m c main_v27 _
  congr 1
  funext ax; apply Fin.ext
  obtain ⟨-, -, -, -, e0, e1⟩ := idx_flat t
  match ax with
  | ⟨0, _⟩ => show win0_10.index t (0 : Fin 2) * 1 + 1 * 0 = 0; omega
  | ⟨1, _⟩ => show win0_10.index t (1 : Fin 2) * 2048 + 1 * d.val = d.val; omega

theorem blk_wq (c : Dev nD) (t : Fin cfg0.N) (g : Fin 8) (a : Fin 256) (c' : Fin 256) :
    (iblk m c 4 t : FVec Ideal S8x256x256 .bf16) (ix3 g a c') = denseA (maskA lit0) (argsK m c).wq (ix3 g a c') := by
  refine Eq.trans ?_ (congrFun (V_wq m c) (ix3 g a c'))
  unfold iblk
  rw [View.read_apply]
  show V m c main_v13 _ = V m c main_v13 _
  congr 1
  funext ax; apply Fin.ext
  obtain ⟨⟨e0, e1, e2⟩, -⟩ := idx_slab t
  match ax with
  | ⟨0, _⟩ => show win0_4.index t (0 : Fin 3) * 8 + 1 * g.val = g.val; omega
  | ⟨1, _⟩ => show win0_4.index t (1 : Fin 3) * 256 + 1 * a.val = a.val; omega
  | ⟨2, _⟩ => show win0_4.index t (2 : Fin 3) * 256 + 1 * c'.val = c'.val; omega

theorem blk_wk (c : Dev nD) (t : Fin cfg0.N) (g : Fin 8) (a : Fin 256) (c' : Fin 256) :
    (iblk m c 5 t : FVec Ideal S8x256x256 .bf16) (ix3 g a c') = denseA (maskA lit1) (argsK m c).wk (ix3 g a c') := by
  refine Eq.trans ?_ (congrFun (V_wk m c) (ix3 g a c'))
  unfold iblk
  rw [View.read_apply]
  show V m c main_v19 _ = V m c main_v19 _
  congr 1
  funext ax; apply Fin.ext
  obtain ⟨-, ⟨e0, e1, e2⟩, -⟩ := idx_slab t
  match ax with
  | ⟨0, _⟩ => show win0_5.index t (0 : Fin 3) * 8 + 1 * g.val = g.val; omega
  | ⟨1, _⟩ => show win0_5.index t (1 : Fin 3) * 256 + 1 * a.val = a.val; omega
  | ⟨2, _⟩ => show win0_5.index t (2 : Fin 3) * 256 + 1 * c'.val = c'.val; omega

theorem blk_wv (c : Dev nD) (t : Fin cfg0.N) (g : Fin 8) (a : Fin 256) (c' : Fin 256) :
    (iblk m c 6 t : FVec Ideal S8x256x256 .bf16) (ix3 g a c') = denseA (maskA lit2) (argsK m c).wv (ix3 g a c') := by
  refine Eq.trans ?_ (congrFun (V_wv m c) (ix3 g a c'))
  unfold iblk
  rw [View.read_apply]
  show V m c main_v25 _ = V m c main_v25 _
  congr 1
  funext ax; apply Fin.ext
  obtain ⟨-, -, ⟨e0, e1, e2⟩, -⟩ := idx_slab t
  match ax with
  | ⟨0, _⟩ => show win0_6.index t (0 : Fin 3) * 8 + 1 * g.val = g.val; omega
  | ⟨1, _⟩ => show win0_6.index t (1 : Fin 3) * 256 + 1 * a.val = a.val; omega
  | ⟨2, _⟩ => show win0_6.index t (2 : Fin 3) * 256 + 1 * c'.val = c'.val; omega

theorem blk_wg (c : Dev nD) (t : Fin cfg0.N) (g : Fin 3) (a : Fin 2048) (c' : Fin 128) :
    (iblk m c 7 t : FVec Ideal S3x2048x128 .bf16) (ix3 g a c') = wgA (argsK m c).wi (argsK m c).wf (ix3 g a c') := by
  refine Eq.trans ?_ (congrFun (V_wg m c) (ix3 g a c'))
  unfold iblk
  rw [View.read_apply]
  show V m c main_v3 _ = V m c main_v3 _
  congr 1
  funext ax; apply Fin.ext
  obtain ⟨-, -, -, e0, e1, e2⟩ := idx_slab t
  match ax with
  | ⟨0, _⟩ => show win0_7.index t (0 : Fin 3) * 3 + 1 * g.val = g.val; omega
  | ⟨1, _⟩ => show win0_7.index t (1 : Fin 3) * 2048 + 1 * a.val = a.val; omega
  | ⟨2, _⟩ => show win0_7.index t (2 : Fin 3) * 128 + 1 * c'.val = c'.val; omega

/-- The loads of point `t`, over what the point before left in the state's buffers. -/
abbrev loadsAt (c : Dev nD) (t : Fin cfg0.N) (s0 : Vec Ideal S2x8x2048 .f32) (s1 : Vec Ideal S16x256x256 .f32) (s2 : Vec Ideal S16x1x256 .f32) (s3 : Vec Ideal S16x8x128 .f32) : Loads Ideal :=
  loadsOf (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 s2 s3

/-- Loads whose buffers hold the arrays `A` of batch entry `B` at chunk `n`. -/
theorem reads_of (A : Args) (B : Fin 4) (n : ℕ) (b : Fin 2) (x0 x1 : Vec Ideal S2x128x2048 .f32) (x2 : Vec Ideal S4x2048 .f32) (x3 : Vec Ideal S1x2048 .f32)
    (x4 x5 x6 : Vec Ideal S8x256x256 .bf16) (x7 : Vec Ideal S3x2048x128 .bf16) (x8 : Vec Ideal S1x128 .f32) (x9 x10 : Vec Ideal S1x2048 .f32)
    (s0 : Vec Ideal S2x8x2048 .f32) (s1 : Vec Ideal S16x256x256 .f32) (s2 : Vec Ideal S16x1x256 .f32) (s3 : Vec Ideal S16x8x128 .f32)
    (h0 : ∀ r d, x0 (ix3 b r d) = A.xs B (pos n r) d) (h1 : ∀ r d, x1 (ix3 b r d) = A.zs B (pos n r) d)
    (h2 : ∀ k d, x2 (ix2 k d) = A.cw (ix2 k d)) (h3 : ∀ d, x3 (ix2 0 d) = A.cb (ix1 d))
    (h4 : ∀ g a c', x4 (ix3 g a c') = denseA (maskA lit0) A.wq (ix3 g a c')) (h5 : ∀ g a c', x5 (ix3 g a c') = denseA (maskA lit1) A.wk (ix3 g a c'))
    (h6 : ∀ g a c', x6 (ix3 g a c') = denseA (maskA lit2) A.wv (ix3 g a c')) (h7 : ∀ g a c', x7 (ix3 g a c') = wgA A.wi A.wf (ix3 g a c'))
    (h8 : ∀ d, x8 (ix2 0 d) = bgA A.bi A.bf (ix2 0 d)) (h9 : ∀ d, x9 (ix2 0 d) = A.sk (ix1 d)) (h10 : ∀ d, x10 (ix2 0 d) = A.gn (ix1 d))
    (hT : ∀ (j : Fin 8) d, s0 (ix3 b j d) = if n = 0 then 0 else A.xs B (pos (n - 1) ⟨120 + j.val, by omega⟩) d) :
    Reads A B n (loadsOf x0 x1 x2 x3 x4 x5 x6 x7 x8 x9 x10 s0 s1 s2 s3) b where
  X r d := h0 r d
  Z r d := h1 r d
  T j d := hT j d
  cw k d := h2 k d
  cb d := h3 d
  WQ g a c' := (h4 g a c').trans (denseA_at _ (mask_at _ lit0_same) _ g a c')
  WK g a c' := (h5 g a c').trans (denseA_at _ (mask_at _ lit1_same) _ g a c')
  WV g a c' := (h6 g a c').trans (denseA_at _ (mask_at _ lit2_same) _ g a c')
  WI k i h := (h7 k i ⟨h.val, by omega⟩).trans (wgA_wi _ _ k i h)
  WF k i h := (h7 k i ⟨8 + h.val, by omega⟩).trans (wgA_wf _ _ k i h)
  bi h := (h8 ⟨h.val, by omega⟩).trans (bgA_bi _ _ h)
  bf h := (h8 ⟨8 + h.val, by omega⟩).trans (bgA_bf _ _ h)
  sk d := h9 d
  gn d := h10 d

/-- Point `t` reads the arrays of its two batch entries at chunk `t % 32`. -/
theorem reads_at (c : Dev nD) (t : Fin cfg0.N) (b : Fin 2) (B : Fin 4) (h : B.val = 2 * (t.val / 32) + b.val)
    (s0 : Vec Ideal S2x8x2048 .f32) (s1 : Vec Ideal S16x256x256 .f32) (s2 : Vec Ideal S16x1x256 .f32) (s3 : Vec Ideal S16x8x128 .f32)
    (hT : ∀ (j : Fin 8) d, s0 (ix3 b j d) = if t.val % 32 = 0 then 0 else (argsK m c).xs B (pos (t.val % 32 - 1) ⟨120 + j.val, by omega⟩) d) :
    Reads (argsK m c) B (t.val % 32) (loadsAt m c t s0 s1 s2 s3) b :=
  reads_of (argsK m c) B (t.val % 32) b _ _ _ _ _ _ _ _ _ _ _ s0 s1 s2 s3 (fun r d => blk_x m c t b r d B h) (fun r d => blk_z m c t b r d B h)
    (blk_cw m c t) (blk_cb m c t) (blk_wq m c t) (blk_wk m c t) (blk_wv m c t) (blk_wg m c t) (blk_bg m c t) (blk_sk m c t) (blk_gn m c t) hT

end Cert.KernelIdeal.Mlstm
end
-- ==== Proof.MlstmArrays.lean ====
/- The whole-array operations of the reference around its loop, read at an index: the arrays of the layer. -/
module

public import proofs.«01_k».proof.Proof.MlstmGlobal
public import proofs.«01_k».proof.Proof.Gen.ReferenceIdeal.Run
public import Idealize.ShloMosaic.Lib.Pointwise

@[expose] public section
noncomputable section
namespace Cert.ReferenceIdeal.Mlstm
open Idealize.ShloMosaic Idealize.ShloMosaic.TcCoe Idealize.SL.Sem Idealize.ShloMosaic.StableHlo
open Cert.ReferenceIdeal Cert.ReferenceIdeal.Gen Cert.ReferenceIdeal.Value
open Cert.KernelIdeal.Mlstm (Args Chunk St cum logsig pos siluE normE meanE bd foldl_add window_sum sum_three logsig_eq)

set_option maxRecDepth 8192

def flatA (U : FVec Ideal S16384x8192 .f32) : FVec Ideal S4x4096x8192 .f32 := shapeCast _ U shapeCasts_S16384x8192_S4x4096x8192

def xA (U : FVec Ideal S16384x8192 .f32) : FVec Ideal S4x4096x2048 .f32 :=
  extractStridedSlice S4x4096x2048 ![0, 0, 4096] (flatA U) slices_S4x4096x8192_S4x4096x2048_0_0_4096

def zA (U : FVec Ideal S16384x8192 .f32) : FVec Ideal S4x4096x2048 .f32 :=
  extractStridedSlice S4x4096x2048 ![0, 0, 6144] (flatA U) slices_S4x4096x8192_S4x4096x2048_0_0_6144

def padA (X : FVec Ideal S4x4096x2048 .f32) : FVec Ideal S4x4099x2048 .f32 :=
  pad S4x4099x2048 ![0, 3, 0] ![0, 0, 0] ![0, 0, 0] X (sitofp .f32 (constantI S_ 32 0#32)) pads_S4x4096x2048_S4x4099x2048_000_300_000 h_S_

def rowA (c : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 c)

/-- The causal convolution of a padded input. -/
def convA (P : FVec Ideal S4x4099x2048 .f32) (w : FVec Ideal S4x2048 .f32) (c : FVec Ideal S2048 .f32) : FVec Ideal S4x4096x2048 .f32 :=
  addf (addf (addf (addf (rowA c)
    (mulf (extractStridedSlice S4x4096x2048 ![0, 0, 0] P slices_S4x4099x2048_S4x4096x2048_0_0_0) (rowA (shapeCast _ (extractStridedSlice S1x2048 ![0, 0] w slices_S4x2048_S1x2048_0_0) shapeCasts_S1x2048_S2048))))
    (mulf (extractStridedSlice S4x4096x2048 ![0, 1, 0] P slices_S4x4099x2048_S4x4096x2048_0_1_0) (rowA (shapeCast _ (extractStridedSlice S1x2048 ![1, 0] w slices_S4x2048_S1x2048_1_0) shapeCasts_S1x2048_S2048))))
    (mulf (extractStridedSlice S4x4096x2048 ![0, 2, 0] P slices_S4x4099x2048_S4x4096x2048_0_2_0) (rowA (shapeCast _ (extractStridedSlice S1x2048 ![2, 0] w slices_S4x2048_S1x2048_2_0) shapeCasts_S1x2048_S2048))))
    (mulf (extractStridedSlice S4x4096x2048 ![0, 3, 0] P slices_S4x4099x2048_S4x4096x2048_0_3_0) (rowA (shapeCast _ (extractStridedSlice S1x2048 ![3, 0] w slices_S4x2048_S1x2048_3_0) shapeCasts_S1x2048_S2048)))

def siluA (x : FVec Ideal S4x4096x2048 .f32) : FVec Ideal S4x4096x2048 .f32 :=
  mulf x (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf x))))

theorem flatA_at (U : FVec Ideal S16384x8192 .f32) (B : Fin 4) (p : Fin 4096) (j : Fin 8192) :
    flatA U (ix3 B p j) = U (ix2 ⟨B.val * 4096 + p.val, by omega⟩ j) := by
  unfold flatA
  exact shapeCast_apply _ _ _ _ (by rewrite [Shape.rowMajor_val_three, Shape.rowMajor_val_two]; show (B.val * 4096 + p.val) * 8192 + j.val = (B.val * 4096 + p.val) * 8192 + j.val; omega)

theorem xA_at (U : FVec Ideal S16384x8192 .f32) (B : Fin 4) (p : Fin 4096) (d : Fin 2048) :
    xA U (ix3 B p d) = U (ix2 ⟨B.val * 4096 + p.val, by omega⟩ ⟨4096 + d.val, by omega⟩) := by
  rw [← flatA_at U B p ⟨4096 + d.val, by omega⟩]
  pointwise [xA]

theorem zA_at (U : FVec Ideal S16384x8192 .f32) (B : Fin 4) (p : Fin 4096) (d : Fin 2048) :
    zA U (ix3 B p d) = U (ix2 ⟨B.val * 4096 + p.val, by omega⟩ ⟨6144 + d.val, by omega⟩) := by
  rw [← flatA_at U B p ⟨6144 + d.val, by omega⟩]
  pointwise [zA]

theorem padA_at (X : FVec Ideal S4x4096x2048 .f32) (B : Fin 4) (p : Fin 4099) (d : Fin 2048) :
    padA X (ix3 B p d) = if h : 3 ≤ p.val then X (ix3 B ⟨p.val - 3, by omega⟩ d) else (0 : EReal) := by
  unfold padA
  pointwise
  by_cases h : 3 ≤ p.val
  · rw [dif_pos ⟨h, by omega⟩, dif_pos h]
  · rw [dif_neg (fun h' => h h'.1), dif_neg h]
    show ((((0#32 : BitVec 32).toInt : ℝ)) : EReal) = 0
    norm_num

theorem siluA_at (x : FVec Ideal S4x4096x2048 .f32) (B : Fin 4) (p : Fin 4096) (d : Fin 2048) :
    siluA x (ix3 B p d) = siluE (x (ix3 B p d)) := by
  pointwise [siluA]
  rfl
theorem convA_at (P : FVec Ideal S4x4099x2048 .f32) (w : FVec Ideal S4x2048 .f32) (c : FVec Ideal S2048 .f32) (B : Fin 4) (p : Fin 4096) (d : Fin 2048) :
    convA P w c (ix3 B p d) = c (ix1 d) + P (ix3 B ⟨p.val, by omega⟩ d) * w (ix2 0 d) + P (ix3 B ⟨1 + p.val, by omega⟩ d) * w (ix2 1 d)
      + P (ix3 B ⟨2 + p.val, by omega⟩ d) * w (ix2 2 d) + P (ix3 B ⟨3 + p.val, by omega⟩ d) * w (ix2 3 d) := by
  pointwise [convA, rowA]

/-- The convolution of the padded input, of the arrays' input. -/
theorem tap_at (A : Args) (k : ℕ) (hk : k ≤ 3) (B : Fin 4) (p : Fin 4096) (d : Fin 2048) (P : Fin 4099) (hP : P.val = 3 - k + p.val) :
    padA (xA A.u) (ix3 B P d) = A.tap k B p d := by
  rw [padA_at]
  unfold Args.tap
  by_cases h : k ≤ p.val
  · rw [dif_pos (by omega), if_pos h, xA_at]
    unfold Args.xs
    congr 2
    apply Fin.ext
    show B.val * 4096 + (P.val - 3) = B.val * 4096 + (p.val - k)
    omega
  · rw [dif_neg (by omega), if_neg h]

theorem actA_at (A : Args) (B : Fin 4) (p : Fin 4096) (d : Fin 2048) :
    siluA (convA (padA (xA A.u)) A.cw A.cb) (ix3 B p d) = A.act B p d := by
  rw [siluA_at, convA_at, tap_at A 3 (by omega) B p d _ (by show p.val = _; omega), tap_at A 2 (by omega) B p d _ rfl,
    tap_at A 1 (by omega) B p d _ rfl, tap_at A 0 (by omega) B p d _ rfl]
  rfl

def bdA (w : FVec Ideal S512x4x4 .f32) (x : FVec Ideal S4x4096x2048 .f32) : FVec Ideal S4x4096x2048 .f32 :=
  shapeCast _ (transpose S4x4096x512x4 [2, 3, 0, 1] (Host.dotGeneral dot_S512x4x4_S4x4096x512x4_S512x4x4x4096_1_3_2_01_0_2 none w
    (shapeCast _ x shapeCasts_S4x4096x2048_S4x4096x512x4)) transposes_S512x4x4x4096_S4x4096x512x4_2_3_0_1) shapeCasts_S4x4096x512x4_S4x4096x2048

def toC (x : FVec Ideal S4x4096x2048 .f32) : FVec Ideal S32x4x8x128x256 .f32 :=
  transpose S32x4x8x128x256 [1, 0, 3, 2, 4] (shapeCast S4x32x128x8x256 x shapeCasts_S4x4096x2048_S4x32x128x8x256) transposes_S4x32x128x8x256_S32x4x8x128x256_1_0_3_2_4

def toG (x : FVec Ideal S4x4096x8 .f32) : FVec Ideal S32x4x8x128 .f32 :=
  transpose S32x4x8x128 [1, 0, 3, 2] (shapeCast S4x32x128x8 x shapeCasts_S4x4096x8_S4x32x128x8) transposes_S4x32x128x8_S32x4x8x128_1_0_3_2

def joinA (q k v : FVec Ideal S4x4096x2048 .f32) : FVec Ideal S4x4096x6144 .f32 :=
  concatenate S4x4096x6144 2 [⟨S4x4096x2048, q⟩, ⟨S4x4096x2048, k⟩, ⟨S4x4096x2048, v⟩] concatenates_S4x4096x2048_S4x4096x2048_S4x4096x2048_S4x4096x6144_d2

def gateA (x : FVec Ideal S4x4096x6144 .f32) (w : FVec Ideal S6144x8 .f32) (c : FVec Ideal S8 .f32) : FVec Ideal S4x4096x8 .f32 :=
  addf (Host.dotGeneral dot_S4x4096x6144_S6144x8_S4x4096x8_2_0_01_1_n_n none x w)
    (broadcastInDim S4x4096x8 ![0, 1, 2] bcast_S1x1x8_S4x4096x8_0_1_2 (broadcastInDim S1x1x8 ![2] bcast_S8_S1x1x8_2 c))

def splitA (x : FVec Ideal S4x4096x2048 .f32) : FVec Ideal S4x4096x512x4 .f32 := shapeCast _ x shapeCasts_S4x4096x2048_S4x4096x512x4

theorem splitA_at (x : FVec Ideal S4x4096x2048 .f32) (B : Fin 4) (p : Fin 4096) (g : Fin 512) (i : Fin 4) :
    splitA x (ix4 B p g i) = x (ix3 B p ⟨g.val * 4 + i.val, by omega⟩) := by
  unfold splitA
  exact shapeCast_apply _ _ _ _ (by rewrite [Shape.rowMajor_val_four, Shape.rowMajor_val_three]; show (B.val * 4096 + p.val) * 2048 + (g.val * 4 + i.val) = ((B.val * 4096 + p.val) * 512 + g.val) * 4 + i.val; omega)

theorem bdA_at (w : FVec Ideal S512x4x4 .f32) (x : FVec Ideal S4x4096x2048 .f32) (B : Fin 4) (p : Fin 4096) (j : Fin 2048) :
    bdA w x (ix3 B p j) = bd w (fun d => x (ix3 B p d)) j := by
  have e : bdA w x (ix3 B p j) = transpose S4x4096x512x4 [2, 3, 0, 1] (Host.dotGeneral dot_S512x4x4_S4x4096x512x4_S512x4x4x4096_1_3_2_01_0_2 none w
      (splitA x)) transposes_S512x4x4x4096_S4x4096x512x4_2_3_0_1 (ix4 B p ⟨j.val / 4, by omega⟩ ⟨j.val % 4, by omega⟩) := by
    unfold bdA splitA
    exact shapeCast_apply _ _ _ _ (by rewrite [Shape.rowMajor_val_four, Shape.rowMajor_val_three]; show ((B.val * 4096 + p.val) * 512 + j.val / 4) * 4 + j.val % 4 = (B.val * 4096 + p.val) * 2048 + j.val; omega)
  rw [e]
  pointwise [dot_S512x4x4_S4x4096x512x4_S512x4x4x4096_1_3_2_01_0_2]
  unfold bd
  refine Finset.sum_congr rfl fun i _ => ?_
  rw [splitA_at]

theorem toC_at (x : FVec Ideal S4x4096x2048 .f32) (n : Fin 32) (B : Fin 4) (h : Fin 8) (t : Fin 128) (e : Fin 256) :
    toC x (ix5 n B h t e) = x (ix3 B (pos n.val t) ⟨h.val * 256 + e.val, by omega⟩) := by
  have e1 : toC x (ix5 n B h t e) = shapeCast S4x32x128x8x256 x shapeCasts_S4x4096x2048_S4x32x128x8x256 (ix5 B n t h e) := by
    pointwise [toC]
  rw [e1]
  exact shapeCast_apply _ _ _ _ (by
    rewrite [Shape.rowMajor_val_five, Shape.rowMajor_val_three]
    show (B.val * 4096 + (n.val * 128 + t.val) % 4096) * 2048 + (h.val * 256 + e.val) = (((B.val * 32 + n.val) * 128 + t.val) * 8 + h.val) * 256 + e.val
    omega)

theorem toG_at (x : FVec Ideal S4x4096x8 .f32) (n : Fin 32) (B : Fin 4) (h : Fin 8) (t : Fin 128) :
    toG x (ix4 n B h t) = x (ix3 B (pos n.val t) h) := by
  have e1 : toG x (ix4 n B h t) = shapeCast S4x32x128x8 x shapeCasts_S4x4096x8_S4x32x128x8 (ix4 B n t h) := by
    pointwise [toG]
  rw [e1]
  exact shapeCast_apply _ _ _ _ (by
    rewrite [Shape.rowMajor_val_four, Shape.rowMajor_val_three]
    show (B.val * 4096 + (n.val * 128 + t.val) % 4096) * 8 + h.val = ((B.val * 32 + n.val) * 128 + t.val) * 8 + h.val
    omega)

theorem joinA_at (q k v : FVec Ideal S4x4096x2048 .f32) (B : Fin 4) (p : Fin 4096) (j : Fin 6144) :
    joinA q k v (ix3 B p j) = if h : j.val < 2048 then q (ix3 B p ⟨j.val, h⟩) else if h' : j.val - 2048 < 2048 then k (ix3 B p ⟨j.val - 2048, by omega⟩)
      else v (ix3 B p ⟨j.val - 2048 - 2048, by omega⟩) := by
  pointwise [joinA]

theorem gateA_at (x : FVec Ideal S4x4096x6144 .f32) (w : FVec Ideal S6144x8 .f32) (c : FVec Ideal S8 .f32) (B : Fin 4) (p : Fin 4096) (h : Fin 8) :
    gateA x w c (ix3 B p h) = (∑ j : Fin 6144, x (ix3 B p j) * w (ix2 j h)) + c (ix1 h) := by
  pointwise [gateA, dot_S4x4096x6144_S6144x8_S4x4096x8_2_0_01_1_n_n]

section
variable (A : Args)

/-- The reference's q, k and v, and a gate, of the arrays. -/
def qW : FVec Ideal S4x4096x2048 .f32 := bdA A.wq (siluA (convA (padA (xA A.u)) A.cw A.cb))
def kW : FVec Ideal S4x4096x2048 .f32 := bdA A.wk (siluA (convA (padA (xA A.u)) A.cw A.cb))
def vW : FVec Ideal S4x4096x2048 .f32 := bdA A.wv (xA A.u)

theorem qW_at (B : Fin 4) (p : Fin 4096) (j : Fin 2048) : qW A (ix3 B p j) = A.q B p j := by
  unfold qW
  rw [bdA_at]
  simp only [actA_at]
  rfl

theorem kW_at (B : Fin 4) (p : Fin 4096) (j : Fin 2048) : kW A (ix3 B p j) = A.k B p j := by
  unfold kW
  rw [bdA_at]
  simp only [actA_at]
  rfl

theorem vW_at (B : Fin 4) (p : Fin 4096) (j : Fin 2048) : vW A (ix3 B p j) = A.v B p j := by
  unfold vW
  rw [bdA_at]
  simp only [xA_at]
  rfl

theorem gateW_at (w : FVec Ideal S6144x8 .f32) (c : FVec Ideal S8 .f32) (B : Fin 4) (p : Fin 4096) (h : Fin 8) :
    gateA (joinA (qW A) (kW A) (vW A)) w c (ix3 B p h) = A.gate w c B p h := by
  rw [gateA_at, sum_three]
  have h1 : ∀ i : Fin 2048, joinA (qW A) (kW A) (vW A) (ix3 B p ⟨i.val, by omega⟩) = A.q B p i := fun i => by
    rw [joinA_at, dif_pos (show i.val < 2048 from i.isLt), qW_at]
  have h2 : ∀ i : Fin 2048, joinA (qW A) (kW A) (vW A) (ix3 B p ⟨2048 + i.val, by omega⟩) = A.k B p i := fun i => by
    rw [joinA_at, dif_neg (by show ¬ 2048 + i.val < 2048; omega), dif_pos (by show 2048 + i.val - 2048 < 2048; omega), kW_at]
    exact congrArg (A.k B p) (Fin.ext (by show 2048 + i.val - 2048 = i.val; omega))
  have h3 : ∀ i : Fin 2048, joinA (qW A) (kW A) (vW A) (ix3 B p ⟨4096 + i.val, by omega⟩) = A.v B p i := fun i => by
    rw [joinA_at, dif_neg (by show ¬ 4096 + i.val < 2048; omega), dif_neg (by show ¬ 4096 + i.val - 2048 < 2048; omega), vW_at]
    exact congrArg (A.v B p) (Fin.ext (by show 4096 + i.val - 2048 - 2048 = i.val; omega))
  simp only [h1, h2, h3]
  rfl
end

def spA (x : FVec Ideal S32x4x8x128 .f32) : FVec Ideal S32x4x8x128 .f32 :=
  select (cmpf .une (subf x (broadcastInDim S32x4x8x128 ![] bcast_S_S32x4x8x128 (constant S_ .f32 0x00000000#32)))
      (subf x (broadcastInDim S32x4x8x128 ![] bcast_S_S32x4x8x128 (constant S_ .f32 0x00000000#32))))
    (addf x (broadcastInDim S32x4x8x128 ![] bcast_S_S32x4x8x128 (constant S_ .f32 0x00000000#32)))
    (addf (maximumf x (broadcastInDim S32x4x8x128 ![] bcast_S_S32x4x8x128 (constant S_ .f32 0x00000000#32)))
      (Host.log1p (Host.exp (Host.negf (Host.absf (subf x (broadcastInDim S32x4x8x128 ![] bcast_S_S32x4x8x128 (constant S_ .f32 0x00000000#32))))))))

theorem lfA_at (x : FVec Ideal S32x4x8x128 .f32) (n : Fin 32) (B : Fin 4) (h : Fin 8) (t : Fin 128) :
    (Host.negf (spA (Host.negf x)) : FVec Ideal S32x4x8x128 .f32) (ix4 n B h t) = logsig (x (ix4 n B h t)) := by
  rw [← logsig_eq]
  pointwise [spA]
  rw [if_neg (by simp)]
  rfl

def trilA : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

theorem trilA_at (t s : Fin 128) : trilA (ix2 t s) = if s ≤ t then 1#1 else 0#1 := by
  pointwise [trilA]
  have e : IntOp.cmpi .sge (IntOp.addi (BitVec.ofNat 32 t.val) 0#32) (BitVec.ofNat 32 s.val) = if s ≤ t then 1#1 else 0#1 := by
    revert t s
    decide +kernel
  rw [e]
  by_cases h : s ≤ t
  · rw [if_pos h]
    rfl
  · rw [if_neg h]
    rfl

/-- The head norm of the recurrence's output. -/
def headsA (y : FVec Ideal S32x4x8x128x256 .f32) : FVec Ideal S4x4096x8x256 .f32 :=
  shapeCast _ (shapeCast S4x4096x2048 (transpose S4x32x128x8x256 [1, 0, 3, 2, 4] y transposes_S32x4x8x128x256_S4x32x128x8x256_1_0_3_2_4) shapeCasts_S4x32x128x8x256_S4x4096x2048) shapeCasts_S4x4096x2048_S4x4096x8x256

theorem headsA_at (y : FVec Ideal S32x4x8x128x256 .f32) (B : Fin 4) (p : Fin 4096) (h : Fin 8) (e : Fin 256) :
    headsA y (ix4 B p h e) = y (ix5 ⟨p.val / 128, by omega⟩ B h ⟨p.val % 128, by omega⟩ e) := by
  unfold headsA
  refine (shapeCast_apply _ _ _ (ix3 B p ⟨h.val * 256 + e.val, by omega⟩) (by
    rewrite [Shape.rowMajor_val_four, Shape.rowMajor_val_three]
    show (B.val * 4096 + p.val) * 2048 + (h.val * 256 + e.val) = ((B.val * 4096 + p.val) * 8 + h.val) * 256 + e.val
    omega)).trans ?_
  refine (shapeCast_apply _ _ _ (ix5 B ⟨p.val / 128, by omega⟩ ⟨p.val % 128, by omega⟩ h e) (by
    rewrite [Shape.rowMajor_val_five, Shape.rowMajor_val_three]
    show (((B.val * 32 + p.val / 128) * 128 + p.val % 128) * 8 + h.val) * 256 + e.val = (B.val * 4096 + p.val) * 2048 + (h.val * 256 + e.val)
    omega)).trans ?_
  pointwise

def muA (x : FVec Ideal S4x4096x8x256 .f32) : FVec Ideal S4x4096x8x1 .f32 :=
  Host.divf (broadcastInDim S4x4096x8x1 ![0, 1, 2] bcast_S4x4096x8_S4x4096x8x1_0_1_2 (Host.reduceAdd x (constant S_ .f32 0x00000000#32) reducesTo_S4x4096x8x256_S4x4096x8_d3 h_S_))
    (broadcastInDim S4x4096x8x1 ![] bcast_S_S4x4096x8x1 (constant S_ .f32 0x43800000#32))

theorem muA_at (x : FVec Ideal S4x4096x8x256 .f32) (B : Fin 4) (p : Fin 4096) (h : Fin 8) :
    muA x (ix4 B p h 0) = meanE fun e => x (ix4 B p h e) := by
  pointwise [muA]
  rfl

def centA (x : FVec Ideal S4x4096x8x256 .f32) : FVec Ideal S4x4096x8x256 .f32 :=
  subf x (broadcastInDim S4x4096x8x256 ![0, 1, 2, 3] bcast_S4x4096x8x1_S4x4096x8x256_0_1_2_3 (muA x))

def normA (x : FVec Ideal S4x4096x8x256 .f32) : FVec Ideal S4x4096x8x256 .f32 :=
  mulf (centA x) (broadcastInDim S4x4096x8x256 ![0, 1, 2, 3] bcast_S4x4096x8x1_S4x4096x8x256_0_1_2_3
    (Host.rsqrt (addf (muA (mulf (centA x) (centA x))) (broadcastInDim S4x4096x8x1 ![] bcast_S_S4x4096x8x1 (constant S_ .f32 0x358637BD#32)))))

theorem centA_at (x : FVec Ideal S4x4096x8x256 .f32) (B : Fin 4) (p : Fin 4096) (h : Fin 8) (e : Fin 256) :
    centA x (ix4 B p h e) = x (ix4 B p h e) - meanE fun e => x (ix4 B p h e) := by
  rw [← muA_at]
  pointwise [centA]

theorem normA_at (x : FVec Ideal S4x4096x8x256 .f32) (B : Fin 4) (p : Fin 4096) (h : Fin 8) (e : Fin 256) :
    normA x (ix4 B p h e) = normE (fun e => x (ix4 B p h e)) e := by
  have e1 : normA x (ix4 B p h e) = centA x (ix4 B p h e) * Ideal.rsqrt (muA (mulf (centA x) (centA x)) (ix4 B p h 0) + Ideal.ofBits .f32 0x358637BD#32) := by
    pointwise [normA]
  rw [e1, muA_at, centA_at]
  have e2 : (fun e => mulf (centA x) (centA x) (ix4 B p h e)) = fun e => (x (ix4 B p h e) - meanE fun e => x (ix4 B p h e)) * (x (ix4 B p h e) - meanE fun e => x (ix4 B p h e)) := by
    funext e
    show centA x (ix4 B p h e) * centA x (ix4 B p h e) = _
    rw [centA_at]
  rw [e2]
  rfl

/-- What follows the loop. -/
def postA (y : FVec Ideal S32x4x8x128x256 .f32) (A : Args) : FVec Ideal S4x4096x2048 .bf16 :=
  truncf .bf16 (mulf (addf (mulf (shapeCast _ (normA (headsA y)) shapeCasts_S4x4096x8x256_S4x4096x2048) (rowA A.gn))
    (mulf (rowA A.sk) (siluA (convA (padA (xA A.u)) A.cw A.cb)))) (siluA (zA A.u)))

theorem postA_at (y : FVec Ideal S32x4x8x128x256 .f32) (A : Args) (hy : ∀ n B h t e, y (ix5 n B h t e) = A.y B h n.val t e)
    (B : Fin 4) (p : Fin 4096) (d : Fin 2048) :
    postA y A (ix3 B p d) = A.res B (p.val / 128) ⟨p.val % 128, by omega⟩ d := by
  have e2 : postA y A (ix3 B p d) = (normA (headsA y) (ix4 B p ⟨d.val / 256, by omega⟩ ⟨d.val % 256, by omega⟩) * A.gn (ix1 d)
      + A.sk (ix1 d) * siluA (convA (padA (xA A.u)) A.cw A.cb) (ix3 B p d)) * siluA (zA A.u) (ix3 B p d) := by
    pointwise [postA, rowA]
  have e3 : pos (p.val / 128) ⟨p.val % 128, by omega⟩ = p := Fin.ext (by show (p.val / 128 * 128 + p.val % 128) % 4096 = p.val; omega)
  rw [e2, normA_at, actA_at, siluA_at, zA_at]
  unfold Args.res
  simp only [headsA_at, hy, e3]
  rfl

theorem post_eq (V : Valuation τ sig (Elt Ideal)) : out_main_v144 V = postA (V (Proc.devRef .tc main_v77_10))
    ⟨V (Proc.devRef .tc main_arg0), V (Proc.devRef .tc main_arg1), V (Proc.devRef .tc main_arg2), V (Proc.devRef .tc main_arg3),
      V (Proc.devRef .tc main_arg4), V (Proc.devRef .tc main_arg5), V (Proc.devRef .tc main_arg6), V (Proc.devRef .tc main_arg7),
      V (Proc.devRef .tc main_arg8), V (Proc.devRef .tc main_arg9), V (Proc.devRef .tc main_arg10), V (Proc.devRef .tc main_arg11)⟩ := by
  unfold out_main_v144
  rfl
end Cert.ReferenceIdeal.Mlstm
-- ==== Proof.MlstmRef.lean ====
/- The reference's loop: one trip is one chunk of the recurrence for every batch entry and head, so after
   `n` trips the carried buffers hold the recurrence's state before chunk `n` and the outputs of the chunks
   before it. -/
module

public import proofs.«01_k».proof.Proof.MlstmGlobal
public import proofs.«01_k».proof.Proof.Gen.ReferenceIdeal.Run
public import Idealize.ShloMosaic.Lib.Pointwise
public import Idealize.ShloMosaic.Lib.WordCmp

@[expose] public section
noncomputable section
namespace Cert.ReferenceIdeal.Mlstm
open Idealize.ShloMosaic Idealize.ShloMosaic.TcCoe Idealize.SL.Sem Idealize.ShloMosaic.StableHlo
open Cert.ReferenceIdeal Cert.ReferenceIdeal.Gen Cert.ReferenceIdeal.Value
open Cert.KernelIdeal.Mlstm (Args Chunk St cum logsig pos siluE normE meanE bd foldl_add window_sum)

/-- The positions of a window of 128 entries along the last axis. -/
def winEquiv : (⟨3, ![1, 1, 128]⟩ : Shape).Idx ≃ Fin 128 where
  toFun w := w 2
  invFun k := ix3 0 0 k
  left_inv w := by
    funext a
    match a with
    | ⟨0, _⟩ => exact Subsingleton.elim (α := Fin 1) _ _
    | ⟨1, _⟩ => exact Subsingleton.elim (α := Fin 1) _ _
    | ⟨2, _⟩ => rfl
  right_inv k := rfl

theorem sum_window (f : (⟨3, ![1, 1, 128]⟩ : Shape).Idx → EReal) :
    (∑ n, f ((⟨3, ![1, 1, 128]⟩ : Shape).rowMajor.symm n)) = ∑ k : Fin 128, f (ix3 0 0 k) :=
  (Equiv.sum_comp (⟨3, ![1, 1, 128]⟩ : Shape).rowMajor.symm f).trans (Equiv.sum_comp winEquiv.symm f).symm

theorem cumsum_at (x : FVec Ideal S4x8x128 .f32) (z : FVec Ideal S_ .f32) (hz : z (Shape.Idx.first h_S_) = 0) (B : Fin 4) (h : Fin 8) (t : Fin 128) :
    Host.reduceWindowAdd (F := Ideal) ![1, 1, 128] ![1, 1, 1] ![0, 0, 127] ![0, 0, 0] x z reduceWindows_S4x8x128_S4x8x128_w1s1p0_0_w1s1p0_0_w128s1p127_0 h_S_ (ix3 B h t) =
    cum (fun s => x (ix3 B h s)) t := by
  simp only [Host.reduceWindowAdd]
  rw [hz, Ideal.hostReduceWindowAdd_def]
  unfold Ideal.hostReduceWindowAdd Host.reduceWindow
  dsimp only
  rw [foldl_add, zero_add, ← Fin.sum_univ_def, ← window_sum]
  refine Eq.trans (Finset.sum_congr rfl fun n _ => by congr) ((sum_window (fun w => if hin : ∀ a : Fin 3, (![0, 0, 127] : Fin 3 → ℕ) a ≤ ((ix3 B h t : S4x8x128.Idx) a).val * (![1, 1, 1] : Fin 3 → ℕ) a + (w a).val ∧
      ((ix3 B h t : S4x8x128.Idx) a).val * (![1, 1, 1] : Fin 3 → ℕ) a + (w a).val - (![0, 0, 127] : Fin 3 → ℕ) a < S4x8x128.size a then
      x (fun a => ⟨_, (hin a).2⟩) else 0)).trans ?_)
  refine Finset.sum_congr rfl fun k _ => ?_
  by_cases hk : 127 ≤ t.val + k.val ∧ t.val + k.val - 127 < 128
  · rw [dif_pos hk, dif_pos]
    · congr 1
      funext a
      apply Fin.ext
      match a with
      | ⟨0, _⟩ => show B.val * 1 + 0 - 0 = B.val; omega
      | ⟨1, _⟩ => show h.val * 1 + 0 - 0 = h.val; omega
      | ⟨2, _⟩ => show t.val * 1 + k.val - 127 = t.val + k.val - 127; omega
    · intro a
      match a with
      | ⟨0, _⟩ => show 0 ≤ B.val * 1 + 0 ∧ B.val * 1 + 0 - 0 < 4; omega
      | ⟨1, _⟩ => show 0 ≤ h.val * 1 + 0 ∧ h.val * 1 + 0 - 0 < 8; omega
      | ⟨2, _⟩ => show 127 ≤ t.val * 1 + k.val ∧ t.val * 1 + k.val - 127 < 128; omega
  · rw [dif_neg hk, dif_neg]
    intro hin
    have e : 127 ≤ t.val * 1 + k.val ∧ t.val * 1 + k.val - 127 < 128 := hin 2
    omega

theorem toInt_at : ∀ n : Fin 32, (BitVec.ofNat 32 n.val).toInt = n.val := by decide

/-- The trip's slice of an array with the chunks as first axis. -/
theorem slice5 (n : Fin 32) (ctr : S_.Idx → BitVec 32) (hc : ctr = fun _ => BitVec.ofNat 32 n.val) (x : FVec Ideal S32x4x8x128x256 .f32)
    (B : Fin 4) (h : Fin 8) (t : Fin 128) (e : Fin 256) :
    Host.dynamicSlice S1x4x8x128x256 x (fun k => ((![ctr, constantI S_ 32 0#32, constantI S_ 32 0#32, constantI S_ 32 0#32, constantI S_ 32 0#32] : Fin 5 → S_.Idx → BitVec 32) k (Shape.Idx.first h_S_)).toInt)
      sliceFits_S32x4x8x128x256_S1x4x8x128x256 (ix5 0 B h t e) = x (ix5 n B h t e) := by
  have hk : S32x4x8x128x256.Slices ![n.val, 0, 0, 0, 0] S1x4x8x128x256 := ⟨rfl, fun a => by
    have := n.isLt
    match a with
    | ⟨0, _⟩ => show n.val + 1 ≤ 32; omega
    | ⟨1, _⟩ => show 0 + 4 ≤ 4; omega
    | ⟨2, _⟩ => show 0 + 8 ≤ 8; omega
    | ⟨3, _⟩ => show 0 + 128 ≤ 128; omega
    | ⟨4, _⟩ => show 0 + 256 ≤ 256; omega⟩
  rw [WordCmp.dynamicSlice_eq_extract _ _ _ _ ![n.val, 0, 0, 0, 0] hk]
  · pointwise
  · subst hc
    intro a
    match a with
    | ⟨0, _⟩ => exact toInt_at n
    | ⟨1, _⟩ => rfl
    | ⟨2, _⟩ => rfl
    | ⟨3, _⟩ => rfl
    | ⟨4, _⟩ => rfl

theorem slice4 (n : Fin 32) (ctr : S_.Idx → BitVec 32) (hc : ctr = fun _ => BitVec.ofNat 32 n.val) (x : FVec Ideal S32x4x8x128 .f32)
    (B : Fin 4) (h : Fin 8) (t : Fin 128) :
    Host.dynamicSlice S1x4x8x128 x (fun k => ((![ctr, constantI S_ 32 0#32, constantI S_ 32 0#32, constantI S_ 32 0#32] : Fin 4 → S_.Idx → BitVec 32) k (Shape.Idx.first h_S_)).toInt)
      sliceFits_S32x4x8x128_S1x4x8x128 (ix4 0 B h t) = x (ix4 n B h t) := by
  have hk : S32x4x8x128.Slices ![n.val, 0, 0, 0] S1x4x8x128 := ⟨rfl, fun a => by
    have := n.isLt
    match a with
    | ⟨0, _⟩ => show n.val + 1 ≤ 32; omega
    | ⟨1, _⟩ => show 0 + 4 ≤ 4; omega
    | ⟨2, _⟩ => show 0 + 8 ≤ 8; omega
    | ⟨3, _⟩ => show 0 + 128 ≤ 128; omega⟩
  rw [WordCmp.dynamicSlice_eq_extract _ _ _ _ ![n.val, 0, 0, 0] hk]
  · pointwise
  · subst hc
    intro a
    match a with
    | ⟨0, _⟩ => exact toInt_at n
    | ⟨1, _⟩ => rfl
    | ⟨2, _⟩ => rfl
    | ⟨3, _⟩ => rfl

/-- The trip's row written into an array with the chunks as first axis. -/
theorem upd5 (n : Fin 32) (ctr : S_.Idx → BitVec 32) (hc : ctr = fun _ => BitVec.ofNat 32 n.val) (x : FVec Ideal S32x4x8x128x256 .f32)
    (u : FVec Ideal S1x4x8x128x256 .f32) (j : Fin 32) (B : Fin 4) (h : Fin 8) (t : Fin 128) (e : Fin 256) :
    Host.dynamicUpdateSlice x u (fun k => ((![ctr, constantI S_ 32 0#32, constantI S_ 32 0#32, constantI S_ 32 0#32, constantI S_ 32 0#32] : Fin 5 → S_.Idx → BitVec 32) k (Shape.Idx.first h_S_)).toInt)
      updateFits_S32x4x8x128x256_S1x4x8x128x256 (ix5 j B h t e) = if j = n then u (ix5 0 B h t e) else x (ix5 j B h t e) := by
  have hk : S32x4x8x128x256.Slices ![n.val, 0, 0, 0, 0] S1x4x8x128x256 := ⟨rfl, fun a => by
    have := n.isLt
    match a with
    | ⟨0, _⟩ => show n.val + 1 ≤ 32; omega
    | ⟨1, _⟩ => show 0 + 4 ≤ 4; omega
    | ⟨2, _⟩ => show 0 + 8 ≤ 8; omega
    | ⟨3, _⟩ => show 0 + 128 ≤ 128; omega
    | ⟨4, _⟩ => show 0 + 256 ≤ 256; omega⟩
  rw [WordCmp.dynamicUpdateSlice_eq_update _ _ _ _ ![n.val, 0, 0, 0, 0] hk]
  · unfold updateSlice
    by_cases hj : j = n
    · subst hj
      rw [if_pos rfl, dif_pos]
      · congr 1
        funext a
        apply Fin.ext
        match a with
        | ⟨0, _⟩ => show j.val - j.val = 0; omega
        | ⟨1, _⟩ => rfl
        | ⟨2, _⟩ => rfl
        | ⟨3, _⟩ => rfl
        | ⟨4, _⟩ => rfl
      · intro a
        match a with
        | ⟨0, _⟩ => show j.val ≤ j.val ∧ j.val < j.val + 1; omega
        | ⟨1, _⟩ => show 0 ≤ B.val ∧ B.val < 0 + 4; omega
        | ⟨2, _⟩ => show 0 ≤ h.val ∧ h.val < 0 + 8; omega
        | ⟨3, _⟩ => show 0 ≤ t.val ∧ t.val < 0 + 128; omega
        | ⟨4, _⟩ => show 0 ≤ e.val ∧ e.val < 0 + 256; omega
    · rw [if_neg hj, dif_neg]
      intro hin
      have h0 : n.val ≤ j.val ∧ j.val < n.val + 1 := hin 0
      exact hj (Fin.ext (by omega))
  · subst hc
    intro a
    match a with
    | ⟨0, _⟩ => exact toInt_at n
    | ⟨1, _⟩ => rfl
    | ⟨2, _⟩ => rfl
    | ⟨3, _⟩ => rfl
    | ⟨4, _⟩ => rfl

/-- The greatest entry along the last axis. -/
theorem max4 (x : FVec Ideal S4x8x128x128 .f32) (B : Fin 4) (h : Fin 8) (t : Fin 128) :
    Host.reduce FloatOps.maximumf x (constant S_ .f32 0xFF800000#32) reducesTo_S4x8x128x128_S4x8x128_d3 h_S_ (ix3 B h t)
      = Finset.univ.fold max ⊥ fun s => x (ix4 B h t s) := by
  pointwise
  rw [Cert.KernelIdeal.Mlstm.ofBits_bot]

theorem max3 (x : FVec Ideal S4x8x128 .f32) (B : Fin 4) (h : Fin 8) :
    Host.reduce FloatOps.maximumf x (constant S_ .f32 0xFF800000#32) reducesTo_S4x8x128_S4x8_d2 h_S_ (ix2 B h)
      = Finset.univ.fold max ⊥ fun s => x (ix3 B h s) := by
  pointwise
  rw [Cert.KernelIdeal.Mlstm.ofBits_bot]

section
variable (V : Valuation τ sig (Elt Ideal))

abbrev Q : FVec Ideal S32x4x8x128x256 .f32 := V (Proc.devRef .tc main_v77_0)
abbrev K : FVec Ideal S32x4x8x128x256 .f32 := V (Proc.devRef .tc main_v77_1)
abbrev W : FVec Ideal S32x4x8x128x256 .f32 := V (Proc.devRef .tc main_v77_2)
abbrev I : FVec Ideal S32x4x8x128 .f32 := V (Proc.devRef .tc main_v77_3)
abbrev L : FVec Ideal S32x4x8x128 .f32 := V (Proc.devRef .tc main_v77_4)
abbrev Tr : S128x128.Idx → BitVec 1 := V (Proc.devRef .tc main_v77_5)
abbrev Ctr : S_.Idx → BitVec 32 := V (Proc.devRef .tc main_v77_6)
abbrev Cm : FVec Ideal S4x8x256x256 .f32 := V (Proc.devRef .tc main_v77_7)
abbrev Nv : FVec Ideal S4x8x256 .f32 := V (Proc.devRef .tc main_v77_8)
abbrev Ms : FVec Ideal S4x8 .f32 := V (Proc.devRef .tc main_v77_9)
abbrev Out : FVec Ideal S32x4x8x128x256 .f32 := V (Proc.devRef .tc main_v77_10)

/-- What a head reads in the trip at `n`. -/
def chunkAt (n : Fin 32) (B : Fin 4) (h : Fin 8) : Chunk where
  q := fun t x => Q V (ix5 n B h t x)
  k := fun t x => K V (ix5 n B h t x)
  v := fun t x => W V (ix5 n B h t x)
  ig := fun t => I V (ix4 n B h t)
  lf := fun t => L V (ix4 n B h t)

/-- The carried state of a head. -/
def stAt (B : Fin 4) (h : Fin 8) : St where
  C := fun d e => Cm V (ix4 B h d e)
  n := fun d => Nv V (ix3 B h d)
  m := Ms V (ix2 B h)

variable (n : Fin 32) (hc : Ctr V = fun _ => BitVec.ofNat 32 n.val) (htr : ∀ t s, Tr V (ix2 t s) = if s ≤ t then 1#1 else 0#1)
  (B : Fin 4) (h : Fin 8)

include hc in
theorem q_at (t : Fin 128) (x : Fin 256) : res_main_while0b_v145 V (ix4 B h t x) = (chunkAt V n B h).q t x := by
  unfold res_main_while0b_v145
  refine (shapeCast_apply _ _ (ix4 B h t x) (ix5 0 B h t x) ?_).trans (slice5 n _ hc _ B h t x)
  rw [Shape.rowMajor_val_five, Shape.rowMajor_val_four]
  show (((0 * 4 + B.val) * 8 + h.val) * 128 + t.val) * 256 + x.val = ((B.val * 8 + h.val) * 128 + t.val) * 256 + x.val
  omega

include hc in
theorem k_at (t : Fin 128) (x : Fin 256) : res_main_while0b_v146 V (ix4 B h t x) = (chunkAt V n B h).k t x := by
  unfold res_main_while0b_v146
  refine (shapeCast_apply _ _ (ix4 B h t x) (ix5 0 B h t x) ?_).trans (slice5 n _ hc _ B h t x)
  rw [Shape.rowMajor_val_five, Shape.rowMajor_val_four]
  show (((0 * 4 + B.val) * 8 + h.val) * 128 + t.val) * 256 + x.val = ((B.val * 8 + h.val) * 128 + t.val) * 256 + x.val
  omega

include hc in
theorem v_at (t : Fin 128) (x : Fin 256) : res_main_while0b_v147 V (ix4 B h t x) = (chunkAt V n B h).v t x := by
  unfold res_main_while0b_v147
  refine (shapeCast_apply _ _ (ix4 B h t x) (ix5 0 B h t x) ?_).trans (slice5 n _ hc _ B h t x)
  rw [Shape.rowMajor_val_five, Shape.rowMajor_val_four]
  show (((0 * 4 + B.val) * 8 + h.val) * 128 + t.val) * 256 + x.val = ((B.val * 8 + h.val) * 128 + t.val) * 256 + x.val
  omega

theorem cast34 (x : FVec Ideal S1x4x8x128 .f32) (t : Fin 128) : shapeCast S4x8x128 x shapeCasts_S1x4x8x128_S4x8x128 (ix3 B h t) = x (ix4 0 B h t) := by
  refine shapeCast_apply _ _ (ix3 B h t) (ix4 0 B h t) ?_
  rw [Shape.rowMajor_val_four, Shape.rowMajor_val_three]
  show ((0 * 4 + B.val) * 8 + h.val) * 128 + t.val = (B.val * 8 + h.val) * 128 + t.val
  omega

include hc in
theorem ig_at (t : Fin 128) : res_main_while0b_v148 V (ix3 B h t) = (chunkAt V n B h).ig t :=
  (cast34 B h _ t).trans (slice4 n _ hc _ B h t)

include hc in
theorem b_at (t : Fin 128) : res_main_while0b_v150 V (ix3 B h t) = cum (chunkAt V n B h).lf t := by
  unfold res_main_while0b_v150
  refine (cumsum_at _ _ ?_ B h t).trans ?_
  · pointwise
  · congr 1
    funext s
    exact (cast34 B h _ s).trans (slice4 n _ hc _ B h s)

include hc htr in
theorem dm_at (t s : Fin 128) : res_main_while0b_v159 V (ix4 B h t s) = (chunkAt V n B h).dm t s := by
  pointwise [res_main_while0b_v159]
  rw [b_at V n hc, b_at V n hc, ig_at V n hc]
  have e := htr t s
  show Scalar.select (Tr V (ix2 t s)) _ (Ideal.ofBits .f32 0xFF800000#32) = _
  unfold Chunk.dm
  by_cases hs : s ≤ t
  · rw [if_pos hs] at e ⊢
    rw [e]; rfl
  · rw [if_neg hs] at e ⊢
    rw [e]; exact Cert.KernelIdeal.Mlstm.ofBits_bot

include hc in
theorem minter_at (t : Fin 128) : res_main_while0b_v162 V (ix3 B h t) = (chunkAt V n B h).minter (stAt V B h) t := by
  pointwise [res_main_while0b_v162]
  rw [b_at V n hc]
  rfl

include hc htr in
theorem mt_at (t : Fin 128) : res_main_while0b_v164 V (ix3 B h t) = (chunkAt V n B h).mt (stAt V B h) t := by
  refine congrArg₂ (max : EReal → EReal → EReal) ((max4 _ B h t).trans ?_) (minter_at V n hc B h t)
  simp only [dm_at V n hc htr]

include hc htr in
theorem score_at (t s : Fin 128) : res_main_while0b_v170 V (ix4 B h t s) = (chunkAt V n B h).score (stAt V B h) t s := by
  pointwise [res_main_while0b_v170, dot_S4x8x128x256_S4x8x128x256_S4x8x128x128_3_3_2_2_01_01]
  simp only [q_at V n hc, k_at V n hc, dm_at V n hc htr, mt_at V n hc htr]
  rfl

include hc htr in
theorem inter_at (t : Fin 128) : res_main_while0b_v172 V (ix3 B h t) = (chunkAt V n B h).inter (stAt V B h) t := by
  pointwise [res_main_while0b_v172]
  simp only [minter_at V n hc, mt_at V n hc htr]
  rfl

include hc in
theorem bl_at : res_main_while0b_v191 V (ix2 B h) = cum (chunkAt V n B h).lf 127 := by
  pointwise [res_main_while0b_v191]
  exact b_at V n hc B h 127

include hc in
theorem g_at (s : Fin 128) : res_main_while0b_v195 V (ix3 B h s) = (chunkAt V n B h).g s := by
  pointwise [res_main_while0b_v195]
  rw [bl_at V n hc, b_at V n hc, ig_at V n hc]
  rfl

include hc in
theorem mnew_at : res_main_while0b_v198 V (ix2 B h) = (chunkAt V n B h).mnew (stAt V B h) := by
  refine congrArg₂ (max : EReal → EReal → EReal) (congrArg (fun x : EReal => x + Ms V (ix2 B h)) (bl_at V n hc B h)) ((max3 _ B h).trans ?_)
  simp only [g_at V n hc]

include hc in
theorem decay_at : res_main_while0b_v201 V (ix2 B h) = (chunkAt V n B h).decay (stAt V B h) := by
  pointwise [res_main_while0b_v201]
  rw [bl_at V n hc, mnew_at V n hc]
  rfl

include hc in
theorem wt_at (s : Fin 128) : res_main_while0b_v205 V (ix3 B h s) = (chunkAt V n B h).wt (stAt V B h) s := by
  pointwise [res_main_while0b_v205]
  rw [g_at V n hc, mnew_at V n hc]
  rfl

include hc in
theorem step7 (d e : Fin 256) : (step_main_v77_7 V : FVec Ideal S4x8x256x256 .f32) (ix4 B h d e) = ((chunkAt V n B h).next (stAt V B h)).C d e := by
  unfold step_main_v77_7
  simp only [id_eq]
  pointwise [dot_S4x8x128x256_S4x8x128x256_S4x8x256x256_2_2_3_3_01_01]
  simp only [decay_at V n hc, wt_at V n hc, k_at V n hc, v_at V n hc]
  exact congrArg (_ + ·) (Finset.sum_congr rfl fun s _ => by rw [mul_comm ((chunkAt V n B h).wt _ s)])

include hc in
theorem step8 (d : Fin 256) : (step_main_v77_8 V : FVec Ideal S4x8x256 .f32) (ix3 B h d) = ((chunkAt V n B h).next (stAt V B h)).n d := by
  unfold step_main_v77_8
  simp only [id_eq]
  pointwise [dot_S4x8x128_S4x8x128x256_S4x8x256_2_2_n_3_01_01]
  simp only [decay_at V n hc, wt_at V n hc, k_at V n hc]
  exact congrArg (_ + ·) (Finset.sum_congr rfl fun s _ => mul_comm _ _)

include hc in
theorem step9 : (step_main_v77_9 V : FVec Ideal S4x8 .f32) (ix2 B h) = ((chunkAt V n B h).next (stAt V B h)).m :=
  mnew_at V n hc B h

include hc htr in
theorem step10 (j : Fin 32) (t : Fin 128) (e : Fin 256) : (step_main_v77_10 V : FVec Ideal S32x4x8x128x256 .f32) (ix5 j B h t e)
    = if j = n then (chunkAt V n B h).out (stAt V B h) t e else Out V (ix5 j B h t e) := by
  refine (upd5 n _ hc _ _ j B h t e).trans ?_
  by_cases hj : j = n
  · rw [if_pos hj, if_pos hj]
    pointwise [dot_S4x8x128x128_S4x8x128x256_S4x8x128x256_3_2_2_3_01_01, dot_S4x8x128x256_S4x8x256x256_S4x8x128x256_3_2_2_3_01_01, dot_S4x8x128x256_S4x8x256_S4x8x128_3_2_2_n_01_01]
    simp only [score_at V n hc htr, inter_at V n hc htr, q_at V n hc, v_at V n hc, mt_at V n hc htr]
    rfl
  · rw [if_neg hj, if_neg hj]

end
end Cert.ReferenceIdeal.Mlstm
-- ==== Proof.MlstmEntry.lean ====
/- What the reference's operations before its loop leave in the carried buffers, at an index: the chunked
   q, k, v and gates of the arrays. -/
module

public import proofs.«01_k».proof.Proof.MlstmArrays
public import proofs.«01_k».proof.Proof.MlstmRef
public import proofs.«01_k».proof.Proof.Gen.ReferenceIdeal.Run
public import Idealize.ShloMosaic.Lib.Pointwise

@[expose] public section
noncomputable section
namespace Cert.ReferenceIdeal.Mlstm
open Idealize.ShloMosaic Idealize.ShloMosaic.TcCoe Idealize.SL.Sem Idealize.ShloMosaic.StableHlo
open Cert.ReferenceIdeal Cert.ReferenceIdeal.Gen Cert.ReferenceIdeal.Value
open Cert.KernelIdeal.Mlstm (Args Chunk St cum logsig pos siluE normE meanE bd foldl_add window_sum sum_three logsig_eq)

set_option maxRecDepth 8192

variable (V : Valuation τ sig (Elt Ideal))

/-- The reference's arrays in a valuation. -/
abbrev argsOf : Args :=
  ⟨V (Proc.devRef .tc main_arg0), V (Proc.devRef .tc main_arg1), V (Proc.devRef .tc main_arg2), V (Proc.devRef .tc main_arg3),
      V (Proc.devRef .tc main_arg4), V (Proc.devRef .tc main_arg5), V (Proc.devRef .tc main_arg6), V (Proc.devRef .tc main_arg7),
      V (Proc.devRef .tc main_arg8), V (Proc.devRef .tc main_arg9), V (Proc.devRef .tc main_arg10), V (Proc.devRef .tc main_arg11)⟩

/-- The buffers before the projections. -/
abbrev V3 : Valuation τ sig (Elt Ideal) := after hostOps0_3 (after hostOps0_2 (after hostOps0_1 (after hostOps0 V)))

theorem x_read : @Eq (FVec Ideal S4x4096x2048 .f32) (V3 V (Proc.devRef .tc main_v1)) (xA (V (Proc.devRef .tc main_arg0))) := by
  after_results_entrywise [cast_eq]

theorem act_read : @Eq (FVec Ideal S4x4096x2048 .f32) (V3 V (Proc.devRef .tc main_v34))
    (siluA (convA (padA (xA (V (Proc.devRef .tc main_arg0)))) (V (Proc.devRef .tc main_arg1)) (V (Proc.devRef .tc main_arg2)))) := by
  after_results_entrywise [cast_eq]

theorem keep3 : V3 V (Proc.devRef .tc main_arg3) = V (Proc.devRef .tc main_arg3) :=
  (keep_main_arg3_hostOps0_3 _).trans ((keep_main_arg3_hostOps0_2 _).trans ((keep_main_arg3_hostOps0_1 _).trans (keep_main_arg3_hostOps0 _)))
theorem keep4 : V3 V (Proc.devRef .tc main_arg4) = V (Proc.devRef .tc main_arg4) :=
  (keep_main_arg4_hostOps0_3 _).trans ((keep_main_arg4_hostOps0_2 _).trans ((keep_main_arg4_hostOps0_1 _).trans (keep_main_arg4_hostOps0 _)))
theorem keep5 : V3 V (Proc.devRef .tc main_arg5) = V (Proc.devRef .tc main_arg5) :=
  (keep_main_arg5_hostOps0_3 _).trans ((keep_main_arg5_hostOps0_2 _).trans ((keep_main_arg5_hostOps0_1 _).trans (keep_main_arg5_hostOps0 _)))
theorem keep6 : V3 V (Proc.devRef .tc main_arg6) = V (Proc.devRef .tc main_arg6) :=
  (keep_main_arg6_hostOps0_3 _).trans ((keep_main_arg6_hostOps0_2 _).trans ((keep_main_arg6_hostOps0_1 _).trans (keep_main_arg6_hostOps0 _)))
theorem keep7 : V3 V (Proc.devRef .tc main_arg7) = V (Proc.devRef .tc main_arg7) :=
  (keep_main_arg7_hostOps0_3 _).trans ((keep_main_arg7_hostOps0_2 _).trans ((keep_main_arg7_hostOps0_1 _).trans (keep_main_arg7_hostOps0 _)))
theorem keep8 : V3 V (Proc.devRef .tc main_arg8) = V (Proc.devRef .tc main_arg8) :=
  (keep_main_arg8_hostOps0_3 _).trans ((keep_main_arg8_hostOps0_2 _).trans ((keep_main_arg8_hostOps0_1 _).trans (keep_main_arg8_hostOps0 _)))
theorem keep9 : V3 V (Proc.devRef .tc main_arg9) = V (Proc.devRef .tc main_arg9) :=
  (keep_main_arg9_hostOps0_3 _).trans ((keep_main_arg9_hostOps0_2 _).trans ((keep_main_arg9_hostOps0_1 _).trans (keep_main_arg9_hostOps0 _)))

theorem q4 : @Eq (FVec Ideal S32x4x8x128x256 .f32) (after hostOps0_4 V (Proc.devRef .tc main_v57)) (toC (bdA (V (Proc.devRef .tc main_arg3)) (V (Proc.devRef .tc main_v34)))) := by
  after_results_entrywise [cast_eq]

theorem k4 : @Eq (FVec Ideal S32x4x8x128x256 .f32) (after hostOps0_4 V (Proc.devRef .tc main_v61))
    (mulf (toC (bdA (V (Proc.devRef .tc main_arg4)) (V (Proc.devRef .tc main_v34)))) (broadcastInDim S32x4x8x128x256 ![] bcast_S_S32x4x8x128x256 (constant S_ .f32 0x3D800000#32))) := by
  after_results_entrywise [cast_eq]

theorem v4 : @Eq (FVec Ideal S32x4x8x128x256 .f32) (after hostOps0_4 V (Proc.devRef .tc main_v63)) (toC (bdA (V (Proc.devRef .tc main_arg5)) (V (Proc.devRef .tc main_v1)))) := by
  after_results_entrywise [cast_eq]

theorem ig4 : @Eq (FVec Ideal S32x4x8x128 .f32) (after hostOps0_4 V (Proc.devRef .tc main_v65))
    (toG (gateA (joinA (bdA (V (Proc.devRef .tc main_arg3)) (V (Proc.devRef .tc main_v34))) (bdA (V (Proc.devRef .tc main_arg4)) (V (Proc.devRef .tc main_v34))) (bdA (V (Proc.devRef .tc main_arg5)) (V (Proc.devRef .tc main_v1)))) (V (Proc.devRef .tc main_arg6)) (V (Proc.devRef .tc main_arg7)))) := by
  after_results_entrywise (rounds := 1) [cast_eq]

theorem fg4 : @Eq (FVec Ideal S32x4x8x128 .f32) (after hostOps0_4 V (Proc.devRef .tc main_v68))
    (Host.negf (toG (gateA (joinA (bdA (V (Proc.devRef .tc main_arg3)) (V (Proc.devRef .tc main_v34))) (bdA (V (Proc.devRef .tc main_arg4)) (V (Proc.devRef .tc main_v34))) (bdA (V (Proc.devRef .tc main_arg5)) (V (Proc.devRef .tc main_v1)))) (V (Proc.devRef .tc main_arg8)) (V (Proc.devRef .tc main_arg9))))) := by
  after_results_entrywise (rounds := 1) [cast_eq]

/-- The buffers at the loop's entry, of those after the projections. -/
abbrev V8 : Valuation τ sig (Elt Ideal) := after hostOps0_8 (after hostOps0_7 (after hostOps0_6 (after hostOps0_5 V)))

theorem q8 : @Eq (FVec Ideal S32x4x8x128x256 .f32) (V8 V (Proc.devRef .tc main_v77_0)) (V (Proc.devRef .tc main_v57)) := by
  after_results_entrywise [cast_eq]

theorem k8 : @Eq (FVec Ideal S32x4x8x128x256 .f32) (V8 V (Proc.devRef .tc main_v77_1)) (V (Proc.devRef .tc main_v61)) := by
  after_results_entrywise [cast_eq]

theorem v8 : @Eq (FVec Ideal S32x4x8x128x256 .f32) (V8 V (Proc.devRef .tc main_v77_2)) (V (Proc.devRef .tc main_v63)) := by
  after_results_entrywise [cast_eq]

theorem ig8 : @Eq (FVec Ideal S32x4x8x128 .f32) (V8 V (Proc.devRef .tc main_v77_3)) (V (Proc.devRef .tc main_v65)) := by
  after_results_entrywise [cast_eq]

theorem lf8 : @Eq (FVec Ideal S32x4x8x128 .f32) (V8 V (Proc.devRef .tc main_v77_4)) (Host.negf (spA (V (Proc.devRef .tc main_v68)))) := by
  after_results_entrywise [cast_eq]

theorem tril8 : @Eq (IVec S128x128 1) (V8 V (Proc.devRef .tc main_v77_5)) trilA := by
  after_results_entrywise [cast_eq]

theorem c8 : @Eq (FVec Ideal S4x8x256x256 .f32) (V8 V (Proc.devRef .tc main_v77_7)) (broadcastInDim S4x8x256x256 ![] bcast_S_S4x8x256x256 (constant S_ .f32 0x00000000#32)) := by
  after_results_entrywise [cast_eq]

theorem n8 : @Eq (FVec Ideal S4x8x256 .f32) (V8 V (Proc.devRef .tc main_v77_8)) (broadcastInDim S4x8x256 ![] bcast_S_S4x8x256 (constant S_ .f32 0x00000000#32)) := by
  after_results_entrywise [cast_eq]

theorem m8 : @Eq (FVec Ideal S4x8 .f32) (V8 V (Proc.devRef .tc main_v77_9)) (broadcastInDim S4x8 ![] bcast_S_S4x8 (constant S_ .f32 0x00000000#32)) := by
  after_results_entrywise [cast_eq]

/-- The buffers at the loop's entry. -/
abbrev entry : Valuation τ sig (Elt Ideal) := V8 (after hostOps0_4 (V3 V))

theorem q_read : @Eq (FVec Ideal S32x4x8x128x256 .f32) (entry V (Proc.devRef .tc main_v77_0)) (toC (qW (argsOf V))) := by
  unfold entry
  rw [q8, q4, keep3, act_read]
  rfl

theorem k_read : @Eq (FVec Ideal S32x4x8x128x256 .f32) (entry V (Proc.devRef .tc main_v77_1))
    (mulf (toC (kW (argsOf V))) (broadcastInDim S32x4x8x128x256 ![] bcast_S_S32x4x8x128x256 (constant S_ .f32 0x3D800000#32))) := by
  unfold entry
  rw [k8, k4, keep4, act_read]
  rfl

theorem v_read : @Eq (FVec Ideal S32x4x8x128x256 .f32) (entry V (Proc.devRef .tc main_v77_2)) (toC (vW (argsOf V))) := by
  unfold entry
  rw [v8, v4, keep5, x_read]
  rfl

theorem ig_read : @Eq (FVec Ideal S32x4x8x128 .f32) (entry V (Proc.devRef .tc main_v77_3))
    (toG (gateA (joinA (qW (argsOf V)) (kW (argsOf V)) (vW (argsOf V))) (argsOf V).wi (argsOf V).bi)) := by
  unfold entry
  rw [ig8, ig4, keep3, keep4, keep5, keep6, keep7, act_read, x_read]
  rfl

theorem lf_read : @Eq (FVec Ideal S32x4x8x128 .f32) (entry V (Proc.devRef .tc main_v77_4))
    (Host.negf (spA (Host.negf (toG (gateA (joinA (qW (argsOf V)) (kW (argsOf V)) (vW (argsOf V))) (argsOf V).wf (argsOf V).bf))))) := by
  unfold entry
  rw [lf8, fg4, keep3, keep4, keep5, keep8, keep9, act_read, x_read]
  rfl

/-! ## The loop -/

/-- What holds before trip `n`: the counter, the mask, every chunk, the state after `n` chunks, and the outputs of the chunks before `n`. -/
structure Inv (A : Args) (n : ℕ) (S : Valuation τ sig (Elt Ideal)) : Prop where
  ctr : Ctr S = fun _ => BitVec.ofNat 32 n
  tr : ∀ t s, Tr S (ix2 t s) = if s ≤ t then 1#1 else 0#1
  chunk : ∀ (j : Fin 32) B h, chunkAt S j B h = A.chunk B h j.val
  st : ∀ B h, stAt S B h = A.st B h n
  out : ∀ (j : Fin 32) B h t e, j.val < n → Out S (ix5 j B h t e) = A.y B h j.val t e

theorem chunkAt_STEP (S : Valuation τ sig (Elt Ideal)) (j : Fin 32) (B : Fin 4) (h : Fin 8) : chunkAt (STEP S) j B h = chunkAt S j B h := by
  have e0 : Q (STEP S) = Q S := STEP_main_v77_0 S
  have e1 : K (STEP S) = K S := STEP_main_v77_1 S
  have e2 : W (STEP S) = W S := STEP_main_v77_2 S
  have e3 : I (STEP S) = I S := STEP_main_v77_3 S
  have e4 : L (STEP S) = L S := STEP_main_v77_4 S
  unfold chunkAt
  rw [e0, e1, e2, e3, e4]

theorem inv_step (A : Args) (n : ℕ) (hn : n < 32) (S : Valuation τ sig (Elt Ideal)) (H : Inv A n S) : Inv A (n + 1) (STEP S) where
  ctr := by
    have e : Ctr (STEP S) = step_main_v77_6 S := STEP_main_v77_6 S
    rw [e]
    unfold step_main_v77_6
    funext i
    show IntOp.addi (Ctr S i) 1#32 = _
    rw [H.ctr]
    interval_cases n <;> rfl
  tr := fun t s => (congrFun (STEP_main_v77_5 S) (ix2 t s)).trans (H.tr t s)
  chunk := fun j B h => (chunkAt_STEP S j B h).trans (H.chunk j B h)
  st := fun B h => by
    have hc : Ctr S = fun _ => BitVec.ofNat 32 (⟨n, hn⟩ : Fin 32).val := H.ctr
    have e : A.st B h (n + 1) = (chunkAt S ⟨n, hn⟩ B h).next (stAt S B h) := by
      rw [H.chunk, H.st]
      rfl
    rw [e]
    have e7 : Cm (STEP S) = step_main_v77_7 S := STEP_main_v77_7 S
    have e8 : Nv (STEP S) = step_main_v77_8 S := STEP_main_v77_8 S
    have e9 : Ms (STEP S) = step_main_v77_9 S := STEP_main_v77_9 S
    unfold stAt
    rw [e7, e8, e9]
    simp only [step7 S ⟨n, hn⟩ hc, step8 S ⟨n, hn⟩ hc, step9 S ⟨n, hn⟩ hc]
    rfl
  out := fun j B h t e hj => by
    have hc : Ctr S = fun _ => BitVec.ofNat 32 (⟨n, hn⟩ : Fin 32).val := H.ctr
    have e10 : Out (STEP S) = step_main_v77_10 S := STEP_main_v77_10 S
    rw [e10, step10 S ⟨n, hn⟩ hc H.tr]
    by_cases h' : j = ⟨n, hn⟩
    · rw [if_pos h', H.chunk, H.st, h']
      rfl
    · rw [if_neg h']
      exact H.out j B h t e (by have : j.val ≠ n := fun e => h' (Fin.ext e); omega)

theorem inv_entry (S : Valuation τ sig (Elt Ideal)) (h6 : S (Proc.devRef .tc main_v77_6) = fun _ => (0#32 : BitVec 32)) (hS : S = entry V) :
    Inv (argsOf V) 0 S where
  ctr := h6
  tr := fun t s => by
    have e : Tr (entry V) = trilA := tril8 _
    rw [hS, e]
    exact trilA_at t s
  chunk := fun j B h => by
    subst hS
    have e0 : Q (entry V) = _ := q_read V
    have e1 : K (entry V) = _ := k_read V
    have e2 : W (entry V) = _ := v_read V
    have e3 : I (entry V) = _ := ig_read V
    have e4 : L (entry V) = _ := lf_read V
    have e5 : ∀ t x, mulf (toC (kW (argsOf V))) (broadcastInDim S32x4x8x128x256 ![] bcast_S_S32x4x8x128x256 (constant S_ .f32 0x3D800000#32)) (ix5 j B h t x)
        = toC (kW (argsOf V)) (ix5 j B h t x) * Ideal.ofBits .f32 0x3D800000#32 := fun t x => by pointwise
    unfold chunkAt
    rw [e0, e1, e2, e3, e4]
    simp only [e5, toC_at, toG_at, lfA_at, qW_at, kW_at, vW_at, gateW_at]
    rfl
  st := fun B h => by
    subst hS
    have e7 : Cm (entry V) = _ := c8 _
    have e8 : Nv (entry V) = _ := n8 _
    have e9 : Ms (entry V) = _ := m8 _
    have z7 : ∀ d e, broadcastInDim S4x8x256x256 ![] bcast_S_S4x8x256x256 (constant (F := Ideal) S_ .f32 0x00000000#32) (ix4 B h d e) = (0 : EReal) := fun d e => by pointwise
    have z8 : ∀ d, broadcastInDim S4x8x256 ![] bcast_S_S4x8x256 (constant (F := Ideal) S_ .f32 0x00000000#32) (ix3 B h d) = (0 : EReal) := fun d => by pointwise
    have z9 : broadcastInDim S4x8 ![] bcast_S_S4x8 (constant (F := Ideal) S_ .f32 0x00000000#32) (ix2 B h) = (0 : EReal) := by pointwise
    unfold stAt
    rw [e7, e8, e9]
    simp only [z7, z8, z9]
    rfl
  out := fun j B h t e hj => absurd hj (by omega)

variable (m : (ℓ : Loc nD τ sig) → Buf (Elt Ideal) ℓ) (c : Dev nD)

theorem inv_iter (A : Args) (hA : argsOf (launchContents m c) = A) : ∀ n ≤ 32, Inv A n (STEP^[n] (entryContents preI m c))
  | 0, _ => by
    rw [← hA]
    exact inv_entry (launchContents m c) _ (ctr_entry m c) rfl
  | n + 1, h => by
    rw [Function.iterate_succ_apply']
    exact inv_step A n (by omega) _ (inv_iter A hA n (by omega))

/-- The reference's arrays. -/
abbrev argsM : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10), m ((c.tc : Thread nD τ).loc main_arg11)⟩

theorem args_iter (n : ℕ) : argsOf (STEP^[n] (entryContents preI m c)) = argsM m c := by
  unfold argsOf
  rw [iter_main_arg0, iter_main_arg1, iter_main_arg2, iter_main_arg3, iter_main_arg4, iter_main_arg5, iter_main_arg6, iter_main_arg7,
    iter_main_arg8, iter_main_arg9, iter_main_arg10, iter_main_arg11]

/-- THE REFERENCE'S RESULT: the layer's part at every batch entry, position and channel. -/
theorem out_at (B : Fin 4) (p : Fin 4096) (d : Fin 2048) :
    (out_main_v144 (STEP^[32] (entryContents preI m c)) : FVec Ideal S4x4096x2048 .bf16) (ix3 B p d)
      = (argsM m c).res B (p.val / 128) ⟨p.val % 128, by omega⟩ d := by
  have H := inv_iter m c (argsM m c) rfl 32 (le_refl _)
  have e : out_main_v144 (STEP^[32] (entryContents preI m c)) = postA (Out (STEP^[32] (entryContents preI m c))) (argsM m c) :=
    (post_eq _).trans (congrArg (postA _) (args_iter m c 32))
  rw [e]
  exact postA_at _ _ (fun n B h t e => H.out n B h t e n.isLt) B p d
end Cert.ReferenceIdeal.Mlstm
-- ==== Proof.MlstmValue.lean ====
/- The state that the launch's points hand on, and the array that they write back: the mLSTM part of the layer
   at every batch entry, position and channel, which is the reference's result. -/
module

public import proofs.«01_k».proof.Defs
public import proofs.«01_k».proof.Proof.MlstmBlocks
public import proofs.«01_k».proof.Proof.MlstmEntry

@[expose] public section
noncomputable section
namespace Cert.KernelIdeal.Mlstm
open Idealize.ShloMosaic Idealize.ShloMosaic.TcCoe Idealize.SL.Sem Cert.KernelIdeal Cert.KernelIdeal.Gen Cert.KernelIdeal.Value

/-- What chunk `n` of the batch entries `2 j` and `2 j + 1` leaves in the output block and in the state's buffers: the
    layer's part at that chunk, the last rows of the chunk, and the recurrence's state after it. -/
structure Left (A : Args) (j n : ℕ) (o : Vec Ideal S2x128x2048 .bf16) (s0 : Vec Ideal S2x8x2048 .f32) (s1 : Vec Ideal S16x256x256 .f32)
    (s2 : Vec Ideal S16x1x256 .f32) (s3 : Vec Ideal S16x8x128 .f32) : Prop where
  out : ∀ (b : Fin 2) (B : Fin 4), B.val = 2 * j + b.val → ∀ r d, o (ix3 b r d) = A.res B n r d
  tail : ∀ (b : Fin 2) (B : Fin 4), B.val = 2 * j + b.val → ∀ (i : Fin 8) d, s0 (ix3 b i d) = A.xs B (pos n ⟨120 + i.val, by omega⟩) d
  C : ∀ (b : Fin 2) (B : Fin 4), B.val = 2 * j + b.val → ∀ h d e, s1 (ix3 (pr b h) d e) = (A.st B h (n + 1)).C d e
  N : ∀ (b : Fin 2) (B : Fin 4), B.val = 2 * j + b.val → ∀ h d, s2 (ix3 (pr b h) 0 d) = (A.st B h (n + 1)).n d
  M : ∀ (b : Fin 2) (B : Fin 4), B.val = 2 * j + b.val → ∀ h i d, s3 (ix3 (pr b h) i d) = (A.st B h (n + 1)).m

theorem bOf_pr (b : Fin 2) (h : Fin 8) : bOf (pr b h) = b := Fin.ext (by show (b.val * 8 + h.val) / 8 = b.val; omega)
theorem hOf_pr (b : Fin 2) (h : Fin 8) : hOf (pr b h) = h := Fin.ext (by show (b.val * 8 + h.val) % 8 = h.val; omega)

/-- Loads of chunk `n` over the state after the chunks before it leave the state after chunk `n`. -/
theorem left_of (A : Args) (j n : ℕ) (hn : n < 32) (l : Loads Ideal) (hR : ∀ (b : Fin 2) (B : Fin 4), B.val = 2 * j + b.val → Reads A B n l b)
    (hS : ∀ (b : Fin 2) (B : Fin 4), B.val = 2 * j + b.val → ∀ h, stOf l b h = A.st B h n) (hC : l.C' = l.C) :
    Left A j n (stack (outB l)) (stack (tailNew l)) (stack (fun k => cNew l (bOf k) (hOf k))) (stack (fun k => nNew l (bOf k) (hOf k)))
      (stack (fun k => mNew l (bOf k) (hOf k))) := by
  have e : ∀ (b : Fin 2) (B : Fin 4), B.val = 2 * j + b.val → ∀ h, (chunkOf l b h).next (stOf l b h) = A.st B h (n + 1) := by
    intro b B hB h
    rw [chunkOf_eq (hR b B hB) hn h, hS b B hB h]; rfl
  refine ⟨?_, ?_, ?_, ?_, ?_⟩
  · intro b B hB r d
    exact outB_at (hR b B hB) hn (hS b B hB) r d
  · intro b B hB i d
    exact tailNew_at (hR b B hB) i d
  · intro b B hB h d e'
    show cNew l (bOf (pr b h)) (hOf (pr b h)) (ix3 0 d e') = _
    rw [bOf_pr, hOf_pr, cNew_at l b h hC, e b B hB]
  · intro b B hB h d
    show nNew l (bOf (pr b h)) (hOf (pr b h)) (ix3 0 0 d) = _
    rw [bOf_pr, hOf_pr, nNew_at l b h, e b B hB]
  · intro b B hB h i d
    show mNew l (bOf (pr b h)) (hOf (pr b h)) (ix3 0 i d) = _
    rw [bOf_pr, hOf_pr, mNew_at l b h, e b B hB]

theorem zero0_at (i) : zero0 (F := Ideal) i = (0 : EReal) := Ideal.ofBits_zero_f32
theorem zero1_at (i) : zero1 (F := Ideal) i = (0 : EReal) := Ideal.ofBits_zero_f32
theorem zero2_at (i) : zero2 (F := Ideal) i = (0 : EReal) := Ideal.ofBits_zero_f32
theorem zero3_at (i) : zero3 (F := Ideal) i = (0 : EReal) := Ideal.ofBits_zero_f32

/-- Before a batch pair's first chunk the state is zero. -/
theorem st_zero (x0 x1 : Vec Ideal S2x128x2048 .f32) (x2 : Vec Ideal S4x2048 .f32) (x3 : Vec Ideal S1x2048 .f32)
    (x4 x5 x6 : Vec Ideal S8x256x256 .bf16) (x7 : Vec Ideal S3x2048x128 .bf16) (x8 : Vec Ideal S1x128 .f32) (x9 x10 : Vec Ideal S1x2048 .f32)
    (A : Args) (b : Fin 2) (B : Fin 4) (h : Fin 8) :
    stOf (loadsOf x0 x1 x2 x3 x4 x5 x6 x7 x8 x9 x10 zero0 zero1 zero2 zero3) b h = A.st B h 0 := by
  show St.mk (fun d e => zero1 (F := Ideal) (ix3 (pr b h) d e)) (fun d => zero2 (F := Ideal) (ix3 (pr b h) 0 d)) (zero3 (F := Ideal) (ix3 (pr b h) 0 0)) = St.mk _ _ _
  simp only [zero1_at, zero2_at, zero3_at]

/-- The state read from the buffers that chunk `n` left is the state after it. -/
theorem st_left (x0 x1 : Vec Ideal S2x128x2048 .f32) (x2 : Vec Ideal S4x2048 .f32) (x3 : Vec Ideal S1x2048 .f32)
    (x4 x5 x6 : Vec Ideal S8x256x256 .bf16) (x7 : Vec Ideal S3x2048x128 .bf16) (x8 : Vec Ideal S1x128 .f32) (x9 x10 : Vec Ideal S1x2048 .f32)
    (A : Args) (j n : ℕ) (o : Vec Ideal S2x128x2048 .bf16) (s0 : Vec Ideal S2x8x2048 .f32) (s1 : Vec Ideal S16x256x256 .f32)
    (s2 : Vec Ideal S16x1x256 .f32) (s3 : Vec Ideal S16x8x128 .f32) (H : Left A j n o s0 s1 s2 s3) (b : Fin 2) (B : Fin 4) (hB : B.val = 2 * j + b.val) (h : Fin 8) :
    stOf (loadsOf x0 x1 x2 x3 x4 x5 x6 x7 x8 x9 x10 s0 s1 s2 s3) b h = A.st B h (n + 1) := by
  show St.mk (fun d e => s1 (ix3 (pr b h) d e)) (fun d => s2 (ix3 (pr b h) 0 d)) (s3 (ix3 (pr b h) 0 0)) = A.st B h (n + 1)
  simp only [H.C b B hB, H.N b B hB, H.M b B hB]

variable (m : (ℓ : Loc nD τ sig) → Buf (Elt Ideal) ℓ)

theorem left_first (c : Dev nD) (t : Fin cfg0.N) (h0 : t.val % 32 = 0) :
    Left (argsK m c) (t.val / 32) (t.val % 32) (outsAt0 m c t.val t.isLt).1 (outsAt0 m c t.val t.isLt).2.1 (outsAt0 m c t.val t.isLt).2.2.1
      (outsAt0 m c t.val t.isLt).2.2.2.1 (outsAt0 m c t.val t.isLt).2.2.2.2 := by
  rw [outsAt0_A m c t h0]
  dsimp only
  rw [run_out_A, run_tail_A, run_c_A, run_n_A, run_m_A]
  refine left_of (argsK m c) (t.val / 32) (t.val % 32) (by omega) (loadsAt m c t zero0 zero1 zero2 zero3) ?_ ?_ rfl
  · intro b B hB
    refine reads_at m c t b B hB _ _ _ _ ?_
    intro i d
    rw [zero0_at, if_pos h0]
  · intro b B hB h
    rw [h0]
    exact st_zero _ _ _ _ _ _ _ _ _ _ _ _ b B h

theorem left_next (c : Dev nD) (t : Fin cfg0.N) (h0 : ¬t.val % 32 = 0) (o : Vec Ideal S2x128x2048 .bf16) (s0 : Vec Ideal S2x8x2048 .f32) (s1 : Vec Ideal S16x256x256 .f32)
    (s2 : Vec Ideal S16x1x256 .f32) (s3 : Vec Ideal S16x8x128 .f32) (H : Left (argsK m c) (t.val / 32) (t.val % 32 - 1) o s0 s1 s2 s3) :
    Left (argsK m c) (t.val / 32) (t.val % 32) (stack (outB (loadsAt m c t s0 s1 s2 s3))) (stack (tailNew (loadsAt m c t s0 s1 s2 s3)))
      (stack (fun k => cNew (loadsAt m c t s0 s1 s2 s3) (bOf k) (hOf k))) (stack (fun k => nNew (loadsAt m c t s0 s1 s2 s3) (bOf k) (hOf k)))
      (stack (fun k => mNew (loadsAt m c t s0 s1 s2 s3) (bOf k) (hOf k))) := by
  refine left_of (argsK m c) (t.val / 32) (t.val % 32) (by omega) (loadsAt m c t s0 s1 s2 s3) ?_ ?_ rfl
  · intro b B hB
    refine reads_at m c t b B hB _ _ _ _ ?_
    intro i d
    rw [if_neg h0]
    exact H.tail b B hB i d
  · intro b B hB h
    have e := st_left (iblk m c 0 t) (iblk m c 1 t) (iblk m c 2 t) (iblk m c 3 t) (iblk m c 4 t) (iblk m c 5 t) (iblk m c 6 t) (iblk m c 7 t) (iblk m c 8 t) (iblk m c 9 t) (iblk m c 10 t)
      (argsK m c) _ _ o s0 s1 s2 s3 H b B hB h
    rw [show t.val % 32 - 1 + 1 = t.val % 32 by omega] at e
    exact e

/-- EVERY POINT: point `t` leaves what chunk `t % 32` of batch pair `t / 32` leaves. -/
theorem left_at (c : Dev nD) : ∀ (n : ℕ) (hn : n < cfg0.N),
    Left (argsK m c) (n / 32) (n % 32) (outsAt0 m c n hn).1 (outsAt0 m c n hn).2.1 (outsAt0 m c n hn).2.2.1
      (outsAt0 m c n hn).2.2.2.1 (outsAt0 m c n hn).2.2.2.2
  | 0, hn => left_first m c ⟨0, hn⟩ rfl
  | n + 1, hn => by
    by_cases h0 : (n + 1) % 32 = 0
    · exact left_first m c ⟨n + 1, hn⟩ h0
    · have H := left_at c n (Nat.lt_of_succ_lt hn)
      rw [show n / 32 = (n + 1) / 32 by omega, show n % 32 = (n + 1) % 32 - 1 by omega] at H
      have H' := left_next m c ⟨n + 1, hn⟩ h0 _ _ _ _ _ H
      have e := outsAt0_B m c ⟨n + 1, hn⟩ h0
      dsimp only at e
      rw [run_out_B, run_tail_B, run_c_B, run_n_B, run_m_B] at e
      rw [e]
      exact H'

/-- THE KERNEL'S RESULT at batch entry `B`, position `p` and channel `d`. -/
theorem kernel_at (c : Dev nD) (B : Fin 4) (p : Fin 4096) (d : Fin 2048) :
    (G11 m c : FVec Ideal S4x4096x2048 .bf16) (ix3 B p d) = (argsK m c).res B (p.val / 128) ⟨p.val % 128, by omega⟩ d := by
  have hp : pt11Of (ix3 B p d) = 32 * (B.val / 2) + p.val / 128 := by
    show 32 * (B.val / 2 - 0) + 1 * (p.val / 128 - 0) + 1 * (d.val / 2048 - 0) = _
    omega
  have hlt : pt11Of (ix3 B p d) < cfg0.N := lt_of_lt_of_eq (by rw [hp]; omega) N_0.symm
  have H := (left_at m c (pt11Of (ix3 B p d)) hlt).out ⟨B.val % 2, by omega⟩ B (by rw [hp]; show B.val = 2 * ((32 * (B.val / 2) + p.val / 128) / 32) + B.val % 2; omega)
    ⟨p.val % 128, by omega⟩ d
  rw [show pt11Of (ix3 B p d) % 32 = p.val / 128 by rw [hp]; omega] at H
  refine Eq.trans ?_ H
  unfold G11
  rw [dif_pos hlt, ← outsAt0_sweep m c _ hlt]
  refine congrArg (outsAt0 m c (pt11Of (ix3 B p d)) hlt).1 ?_
  funext a
  apply Fin.ext
  match a with
  | ⟨0, _⟩ => rfl
  | ⟨1, _⟩ => rfl
  | ⟨2, _⟩ => show d.val % 2048 = d.val; omega

end Cert.KernelIdeal.Mlstm
end
-- ==== Proof.In0Value.lean ====
/-
  The input projection of layer 0 (`In0`): what the kernel's result array holds, index by index, over the extended
  reals. Each grid point (i, j) multiplies the normalised row block i, kept in scratch from column block 0 on, with
  column block j of the weights.
-/
module

public import proofs.«01_k».proof.Defs
public import proofs.«01_k».proof.Proof.Gen.In0Ideal.Value
public import proofs.«01_k».proof.Proof.Gen.In0RefIdeal.Run
public import proofs.«01_k».proof.Proof.Gen.In0RefIdeal.Read
public import Idealize.ShloMosaic.Lib.Pointwise

@[expose] public section

noncomputable section

namespace Cert.In0Ideal.Math

open Cert.In0Ideal Cert.In0Ideal.Gen Cert.In0Ideal.Value Idealize.ShloMosaic Idealize.ShloMosaic.TcCoe Idealize.SL.Sem
open Idealize.ShloMosaic.Pipeline (Dat)

section Body

variable {F : FTy → Type} [FloatOps F]

theorem hz : (![0, 0] : Fin 2 → Nat) = fun _ => 0 := funext fun a => by fin_cases a <;> rfl

/-- At the first column block of a row block the body leaves the normalised rows in the scratch. -/
theorem scratch_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : cond0_0 i) (x : Vec F S1024x2048 .f32) (g : Vec F S1x2048 .f32) (w : Vec F S2048x1024 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S1024x2048) hz,
    View.ld_unit_zero (S := S1x2048) hz]

/-- … and in the result's block the product of those rows with the weight block. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : cond0_0 i) (x : Vec F S1024x2048 .f32) (g : Vec F S1x2048 .f32) (w : Vec F S2048x1024 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x1024) hz]

/-- At every other column block the rows come from the scratch. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : ¬cond0_0 i) (x : Vec F S1024x2048 .f32) (g : Vec F S1x2048 .f32) (w : Vec F S2048x1024 .bf16) (h : Vec F S1024x2048 .bf16) :
    out0_B_3 c i a2 h2 a3 h3 a4 h4 a5 h5 a6 h6 hc x g w h = k0_pay2 h w := by
  unfold out0_B_3
  rw [View.read_writes_eq_canon _ _ _ (cover0_B_3 c i a2 h2 a3 h3 a4 h4 a5 h5 a6 h6 hc x g w h)]
  unfold kernelRun0_B
  dsimp only
  sl_unfold_words
  rw [View.canon_unit_zero hz]
  simp only [View.readAt_eq_ld, h6.read_unread, h4.read_unread, View.ld_unit_zero (S := S1024x2048) hz,
    View.ld_unit_zero (S := S2048x1024) hz]

end Body

/-- A row of the gained rms norm over the extended reals, its sum of squares given. -/
def normed (xk ss gk : EReal) : EReal :=
  xk * Ideal.rsqrt (Ideal.div ss (Ideal.ofBits .f32 0x45000000#32) + Ideal.ofBits .f32 0x358637BD#32) * gk

theorem pay1_apply (x : FVec Ideal S1024x2048 .f32) (g : FVec Ideal S1x2048 .f32) (r : Fin 1024) (k : Fin 2048) :
    k0_pay1 (F := Ideal) x g (ix2 r k)
      = normed (x (ix2 r k)) (∑ k' : Fin 2048, x (ix2 r k') * x (ix2 r k')) (g (ix2 0 k)) := by
  pointwise [k0_pay1]
  rfl

theorem pay2_apply (h : FVec Ideal S1024x2048 .bf16) (w : FVec Ideal S2048x1024 .bf16) (r : Fin 1024) (l : Fin 1024) :
    k0_pay2 (F := Ideal) h w (ix2 r l) = ∑ k : Fin 2048, h (ix2 r k) * w (ix2 k l) := by
  pointwise [k0_pay2, dot_S1024x2048_S2048x1024_S1024x1024_1_0_0_1_n_n]

/-- The reference's result at an index. -/
theorem ref_apply (x : FVec Ideal S4x4096x2048 .f32) (g : FVec Ideal S2048 .f32) (w : FVec Ideal S2048x8192 .f32)
    (r : Fin 16384) (l : Fin 8192) (b : Fin 4) (s : Fin 4096) (h : r.val = b.val * 4096 + s.val) :
    Cert.In0RefIdeal.Read.val_main_v14 (F := Ideal) x g w (ix2 r l)
      = ∑ k : Fin 2048, normed (x (ix3 b s k)) (∑ k' : Fin 2048, x (ix3 b s k') * x (ix3 b s k')) (g (ix1 k)) * w (ix2 k l) := by
  rw [Cert.In0RefIdeal.Read.val_main_v14_apply]
  have e : Cert.In0RefIdeal.Read.idx_main_v14 (ix2 r l) = ix3 b s l := by
    funext a; apply Fin.ext
    match a with
    | ⟨0, _⟩ => show (r.val * 8192 + l.val) / 33554432 = b.val; omega
    | ⟨1, _⟩ => show (r.val * 8192 + l.val) / 8192 % 4096 = s.val; omega
    | ⟨2, _⟩ => show (r.val * 8192 + l.val) % 8192 = l.val; omega
  rw [e]
  pointwise [Cert.In0RefIdeal.Read.val_main_v13, Cert.In0RefIdeal.Read.val_main_v12, Cert.In0RefIdeal.Read.val_main_v11,
    Cert.In0RefIdeal.Read.val_main_v10, Cert.In0RefIdeal.Read.val_main_v9, Cert.In0RefIdeal.Read.val_main_v8,
    Cert.In0RefIdeal.Read.val_main_v7, Cert.In0RefIdeal.Read.val_main_v6, Cert.In0RefIdeal.Read.val_main_v5,
    Cert.In0RefIdeal.Read.val_main_v4, Cert.In0RefIdeal.Read.val_main_v3, Cert.In0RefIdeal.Read.val_main_v2,
    Cert.In0RefIdeal.Read.val_main_v1, Cert.In0RefIdeal.Read.val_main_v0, Cert.In0RefIdeal.Read.val_main_cst,
    Cert.In0RefIdeal.Read.val_main_cst_0, Cert.In0RefIdeal.Read.val_main_cst_1,
    Cert.In0RefIdeal.dot_S4x4096x2048_S2048x8192_S4x4096x8192_2_0_01_1_n_n]
  rfl

/-! ## The blocks the grid points read -/

section Blocks

variable (m : (ℓ : Loc nD τ sig) → Buf (Elt Ideal) ℓ)

/-- The arguments as launched: the activations, the gain and the weights. -/
abbrev xA (c : Dev nD) : FVec Ideal S4x4096x2048 .f32 := m ((c : Thread nD τ).loc main_arg0)
abbrev gA (c : Dev nD) : FVec Ideal S2048 .f32 := m ((c : Thread nD τ).loc main_arg1)
abbrev wA (c : Dev nD) : FVec Ideal S2048x8192 .f32 := m ((c : Thread nD τ).loc main_arg2)

/-- Which blocks point `t` works on: row block `t / 8`, column block `t % 8`. -/
theorem idx_in : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 8 :=
  (by decide +kernel : ∀ t : Fin grid0.N, _)

/-- The activations as rows: the region finds the first argument with batch and position as one axis. -/
theorem V_rows (c : Dev nD) (R : Fin 16384) (k : Fin 2048) (b : Fin 4) (s : Fin 4096) (h : R.val = b.val * 4096 + s.val) :
    (V m c main_v0 : FVec Ideal S16384x2048 .f32) (ix2 R k) = xA m c (ix3 b s k) := by
  have e : @Eq (FVec Ideal S16384x2048 .f32) (V m c main_v0)
      (shapeCast S16384x2048 (xA m c) shapeCasts_S4x4096x2048_S16384x2048) := by
    unfold V; after_results <;> rfl
  rw [e]
  exact shapeCast_apply _ _ _ _ (by
    rewrite [Shape.rowMajor_val_three, Shape.rowMajor_val_two]
    show (b.val * 4096 + s.val) * 2048 + k.val = R.val * 2048 + k.val
    omega)

theorem V_gain (c : Dev nD) (k : Fin 2048) :
    (V m c main_v1 : FVec Ideal S1x2048 .f32) (ix2 0 k) = gA m c (ix1 k) := by
  have e : @Eq (FVec Ideal S1x2048 .f32) (V m c main_v1)
      (shapeCast S1x2048 (gA m c) shapeCasts_S2048_S1x2048) := by
    unfold V; after_results <;> rfl
  rw [e]
  exact shapeCast_apply _ _ _ _ (by
    rewrite [Shape.rowMajor_val_one, Shape.rowMajor_val_two]
    show k.val = 0 * 2048 + k.val
    omega)

theorem V_weights (c : Dev nD) (k : Fin 2048) (l : Fin 8192) :
    (V m c main_v2 : FVec Ideal S2048x8192 .bf16) (ix2 k l) = wA m c (ix2 k l) := by
  have e : @Eq (FVec Ideal S2048x8192 .bf16) (V m c main_v2)
      (truncf .bf16 (wA m c) bitsLt_bf16_f32) := by
    unfold V; after_results <;> rfl
  rw [e]
  rfl

theorem blk_rows (c : Dev nD) (t : Fin cfg0.N) (r : Fin 1024) (k : Fin 2048) (b : Fin 4) (s : Fin 4096)
    (h : t.val / 8 * 1024 + r.val = b.val * 4096 + s.val) :
    (iblk m c 0 t : FVec Ideal S1024x2048 .f32) (ix2 r k) = xA m c (ix3 b s k) := by
  refine Eq.trans ?_ (V_rows m c ⟨t.val / 8 * 1024 + r.val, by omega⟩ k b s h)
  unfold iblk
  rw [View.read_apply]
  show V m c main_v0 _ = V m c main_v0 _
  congr 1
  funext a; apply Fin.ext
  have e0 := (idx_in t).1
  have e1 := (idx_in t).2.1
  match a with
  | ⟨0, _⟩ => show win0_0.index t (0 : Fin 2) * 1024 + 1 * r.val = t.val / 8 * 1024 + r.val; omega
  | ⟨1, _⟩ => show win0_0.index t (1 : Fin 2) * 2048 + 1 * k.val = k.val; omega

theorem blk_gain (c : Dev nD) (t : Fin cfg0.N) (k : Fin 2048) :
    (iblk m c 1 t : FVec Ideal S1x2048 .f32) (ix2 0 k) = gA m c (ix1 k) := by
  refine Eq.trans ?_ (V_gain m c k)
  unfold iblk
  rw [View.read_apply]
  show V m c main_v1 _ = V m c main_v1 _
  congr 1
  funext a; apply Fin.ext
  have e0 := (idx_in t).2.2.1
  have e1 := (idx_in t).2.2.2.1
  match a with
  | ⟨0, _⟩ => show win0_1.index t (0 : Fin 2) * 1 + 1 * 0 = 0; omega
  | ⟨1, _⟩ => show win0_1.index t (1 : Fin 2) * 2048 + 1 * k.val = k.val; omega

theorem blk_weights (c : Dev nD) (t : Fin cfg0.N) (k : Fin 2048) (l : Fin 1024) (L : Fin 8192) (h : L.val = t.val % 8 * 1024 + l.val) :
    (iblk m c 2 t : FVec Ideal S2048x1024 .bf16) (ix2 k l) = wA m c (ix2 k L) := by
  refine Eq.trans ?_ (V_weights m c k L)
  unfold iblk
  rw [View.read_apply]
  show V m c main_v2 _ = V m c main_v2 _
  congr 1
  funext a; apply Fin.ext
  have e0 := (idx_in t).2.2.2.2.1
  have e1 := (idx_in t).2.2.2.2.2
  match a with
  | ⟨0, _⟩ => show win0_2.index t (0 : Fin 2) * 2048 + 1 * k.val = k.val; omega
  | ⟨1, _⟩ => show win0_2.index t (1 : Fin 2) * 1024 + 1 * l.val = L.val; omega

/-! ## The scratch and the result -/

/-- After every point of row block `t / 8` the scratch holds that block's normalised rows. -/
theorem scratch_eq (c : Dev nD) : ∀ (n : ℕ) (hn : n < cfg0.N) (r : Fin 1024) (k : Fin 2048) (b : Fin 4) (s : Fin 4096),
    n / 8 * 1024 + r.val = b.val * 4096 + s.val →
    ((outsAt0 m c n hn).2 : FVec Ideal S1024x2048 .bf16) (ix2 r k)
      = normed (xA m c (ix3 b s k))
          (∑ k' : Fin 2048, xA m c (ix3 b s k') * xA m c (ix3 b s k'))
          (gA m c (ix1 k)) := by
  intro n
  induction n with
  | zero =>
    intro hn r k b s h
    rw [outsAt0_A m c ⟨0, hn⟩ rfl]
    dsimp only
    rw [scratch_A, pay1_apply]
    simp only [blk_rows m c ⟨0, hn⟩ r _ b s h, blk_gain]
  | succ n ih =>
    intro hn r k b s h
    by_cases h0 : (n + 1) % 8 = 0
    · rw [outsAt0_A m c ⟨n + 1, hn⟩ h0]
      dsimp only
      rw [scratch_A, pay1_apply]
      simp only [blk_rows m c ⟨n + 1, hn⟩ r _ b s h, blk_gain]
    · rw [outsAt0_B m c ⟨n + 1, hn⟩ h0]
      exact ih (Nat.lt_of_succ_lt hn) r k b s (by omega)

/-- The block a point leaves: at `(r, l)` the product of normalised row `r` with weight column `l`. -/
theorem block_eq (c : Dev nD) (n : ℕ) (hn : n < cfg0.N) (r : Fin 1024) (l : Fin 1024) (b : Fin 4) (s : Fin 4096) (L : Fin 8192)
    (h : n / 8 * 1024 + r.val = b.val * 4096 + s.val) (hL : L.val = n % 8 * 1024 + l.val) :
    ((outsAt0 m c n hn).1 : FVec Ideal S1024x1024 .f32) (ix2 r l)
      = ∑ k : Fin 2048, normed (xA m c (ix3 b s k))
          (∑ k' : Fin 2048, xA m c (ix3 b s k') * xA m c (ix3 b s k'))
          (gA m c (ix1 k)) * wA m c (ix2 k L) := by
  by_cases h0 : n % 8 = 0
  · rw [outsAt0_A m c ⟨n, hn⟩ h0]
    dsimp only
    rw [out_A, pay2_apply]
    simp only [pay1_apply, blk_rows m c ⟨n, hn⟩ r _ b s h, blk_gain, blk_weights m c ⟨n, hn⟩ _ l L hL]
  · have hn' : n - 1 < cfg0.N := by omega
    rw [outsAt0_B m c ⟨n, hn⟩ h0]
    dsimp only
    rw [out_B, pay2_apply]
    refine Finset.sum_congr rfl fun k _ => ?_
    rw [blk_weights m c ⟨n, hn⟩ k l L hL, scratch_eq m c (n - 1) hn' r k b s (by omega)]

/-- THE RESULT: the kernel's array is the reference's value of the same arguments. -/
theorem result_eq (c : Dev nD) :
    G3 m c = Cert.In0RefIdeal.Read.val_main_v14 (F := Ideal) (xA m c)
      (gA m c) (wA m c) := by
  funext i
  obtain ⟨R, L, rfl⟩ : ∃ (R : Fin 16384) (L : Fin 8192), i = ix2 R L := ⟨i 0, i 1, eq_ix2 i⟩
  have hR := R.isLt
  have hL := L.isLt
  rw [ref_apply _ _ _ R L ⟨R.val / 4096, by omega⟩ ⟨R.val % 4096, by omega⟩ (by show R.val = R.val / 4096 * 4096 + R.val % 4096; omega)]
  have hp : pt3Of (ix2 R L) = 8 * (R.val / 1024) + L.val / 1024 := by
    show 8 * (R.val / 1024 - 0) + 1 * (L.val / 1024 - 0) = _; omega
  have hN : cfg0.N = 128 := N_0
  have hlt : pt3Of (ix2 R L) < cfg0.N := by rw [hp, hN]; omega
  have h1 : pt3Of (ix2 R L) / 8 * 1024 + R.val % 1024 = R.val / 4096 * 4096 + R.val % 4096 := by rw [hp]; omega
  have h2 : L.val = pt3Of (ix2 R L) % 8 * 1024 + L.val % 1024 := by rw [hp]; omega
  have e : loc3Of (ix2 R L) = ix2 (⟨R.val % 1024, Nat.mod_lt _ (by decide)⟩ : Fin 1024) (⟨L.val % 1024, Nat.mod_lt _ (by decide)⟩ : Fin 1024) :=
    funext fun a => match a with
      | ⟨0, _⟩ => rfl
      | ⟨1, _⟩ => rfl
  unfold G3
  rw [dif_pos hlt, ← outsAt0_sweep m c _ hlt, e]
  exact block_eq m c _ hlt ⟨R.val % 1024, Nat.mod_lt _ (by decide)⟩ ⟨L.val % 1024, Nat.mod_lt _ (by decide)⟩ ⟨R.val / 4096, by omega⟩ ⟨R.val % 4096, by omega⟩ L h1 h2

end Blocks

end Cert.In0Ideal.Math

end
-- ==== Proof.In1Run.lean ====
module

public import proofs.«01_k».proof.Proof.Gen.In1Ideal.Frame
public import Idealize.ShloMosaic.Lib.Pipeline.FrameBody
public import Idealize.ShloMosaic.Lib.Pipeline.ValueKit.Acc
public import proofs.«01_k».proof.Proof.Gen.In1Ideal.Skeleton
public import proofs.«01_k».proof.Proof.Gen.In1Ideal.Points
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

/-! # The body of the second layer's input projection, run once

What the body leaves in each buffer, named: at a point that normalizes its rows (`run_first`) and at one that only
multiplies (`run_later`). -/

namespace Cert.In1Ideal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.In1Ideal Cert.In1Ideal.Gen

variable {F : FTy → Type} [FloatOps F]

/-- The row of the carried products that the point's column tile owns. -/
abbrev rowR (i : grid0.Coords) : Rect S16x1x1024 := Rect.unit (s := S16x1x1024) (k0_off1 i) S1x1x1024.size (k0_off1_inb i)

/-- That row, read. -/
def rowAt (i : grid0.Coords) (x : Vec F S16x1x1024 .f32) : Vec F S1x1x1024 .f32 := View.ld x (rowR i)

/-- That row, replaced. -/
def putRow (i : grid0.Coords) (x : Vec F S16x1x1024 .f32) (v : Vec F S1x1x1024 .f32) : Vec F S16x1x1024 .f32 :=
  (rowR i).overlay x v

/-- Whether the point's row tile begins a sequence, as the body computes it. -/
def begins (i : grid0.Coords) : BitVec 1 :=
  let arg0 : BitVec 32 := BitVec.ofNat 32 (i 0).val
  let v1 : BitVec 32 := Scalar.select (Scalar.cmpi .eq 4#32 0#32) 1#32 4#32
  let v2 : BitVec 32 := Scalar.remsi arg0 v1
  let v7 : BitVec 1 := Scalar.andi (Scalar.xori (Scalar.cmpi .slt v2 0#32) (Scalar.cmpi .slt v1 0#32)) (Scalar.cmpi .ne v2 0#32)
  Scalar.cmpi .eq (Scalar.select v7 (Scalar.addi v2 v1) v2) 0#32

/-- The tile of the product and its shift that a point stores, of the rows `h`, the weight columns, the carried row and the mix. -/
def outTile (i : grid0.Coords) (h : Vec F S1024x2048 .bf16) (x2 : Vec F S2048x1024 .bf16) (p : Vec F S1x1x1024 .f32) (x7 : Vec F S1x1024 .f32) :
    Vec F S1024x1024 .f32 :=
  k0_pay1 (k0_pay9 h x2) (k0_pay10 i h x2 p) x7

/-- The two stores of the low-rank tile, the later one first. -/
def loPieces (i : grid0.Coords) (x0 : Vec F S1024x2048 .f32) (x1 x3 x4 : Vec F S1x2048 .f32) (x5 x6 : Vec F S2048x128 .bf16) (p : Vec F S1x2048 .f32) :
    List (View.Piece (Elt F) S1024x256 .f32) :=
  [⟨Rect.unit (s := S1024x256) ![0, 128] S1024x128.size inb_S1024x256_S1024x128_0_128,
      k0_pay8 (k0_pay2 x0 x1) (k0_pay5 (begins i) x0 x1 p) x4 x6⟩,
    ⟨Rect.unit (s := S1024x256) ![0, 0] S1024x128.size inb_S1024x256_S1024x128_0_0,
      k0_pay7 (k0_pay6 (begins i) x0 x1 p x3) x5⟩]

/-- The low-rank tile. -/
def loTile (i : grid0.Coords) (x0 : Vec F S1024x2048 .f32) (x1 x3 x4 : Vec F S1x2048 .f32) (x5 x6 : Vec F S2048x128 .bf16) (p : Vec F S1x2048 .f32) :
    Vec F S1024x256 .f32 :=
  View.canon (loPieces i x0 x1 x3 x4 x5 x6 p)

theorem zeros2 : ∀ x : Fin 2, (![0, 0] : Fin 2 → ℕ) x = 0 := by decide

/-- A whole buffer's load is its contents. -/
theorem load_all {n a : ℕ} {e : EltTy} {arg : Memref sig Kind.tc Space.vmem (⟨2, ![n, a]⟩ : Shape) e} (h : arg.IsWhole)
    (x : (⟨2, ![n, a]⟩ : Shape).Idx → Elt F e) (inb) :
    View.readAt (Elt F) arg.view (Rect.unit (s := ⟨2, ![n, a]⟩) ![0, 0] (⟨2, ![n, a]⟩ : Shape).size inb).toLoadRect (h.unread x) = x := by
  rw [View.readAt_eq_ld, Memref.IsWhole.read_unread]
  exact View.ld_unit_lit' (S := ⟨2, ![n, a]⟩) (off := ![0, 0]) inb x zeros2

/-- A whole buffer stored whole reads back as what was stored. -/
theorem stored_all {n a : ℕ} {e : EltTy} {arg : Memref sig Kind.tc Space.vmem (⟨2, ![n, a]⟩ : Shape) e}
    (f : arg.view.ty.Contents (Elt F)) (x : (⟨2, ![n, a]⟩ : Shape).Idx → Elt F e) (inb) :
    arg.view.read (Elt F) (arg.view.writes (Elt F) f [⟨Rect.unit (s := ⟨2, ![n, a]⟩) ![0, 0] (⟨2, ![n, a]⟩ : Shape).size inb, x⟩]) = x := by
  funext y
  exact View.read_writes_cons_unit_of_mem arg.view f inb x [] y y rfl fun b => by rw [zeros2 b]; omega

/-- One row stored into the carried products. -/
theorem stored_row {arg : Memref sig Kind.tc Space.vmem S16x1x1024 .f32} (h : arg.IsWhole) (i : grid0.Coords)
    (x : Vec F S16x1x1024 .f32) (v : Vec F S1x1x1024 .f32) :
    arg.view.read (Elt F) (arg.view.writes (Elt F) (h.unread x) [⟨rowR i, v⟩]) = putRow i x v := by
  funext y
  unfold putRow
  by_cases hy : y ∈ (rowR i).set
  · obtain ⟨z, rfl⟩ : ∃ z, (rowR i).emb z = y := (rowR i).exists_idx_of_mem hy
    rw [View.read_writes_cons_emb, Rect.overlay_emb]
  · rw [Rect.overlay_of_not_mem _ _ _ hy, View.writes_cons, View.read_slice_write_of_not_mem _ _ _ _ (by rw [Rect.map_emb_univ]; exact hy),
      View.writes_nil, Memref.IsWhole.read_unread]

/-- The load of one row of the carried products. -/
theorem load_row {arg : Memref sig Kind.tc Space.vmem S16x1x1024 .f32} (h : arg.IsWhole) (i : grid0.Coords) (x : Vec F S16x1x1024 .f32) :
    View.readAt (Elt F) arg.view (Rect.unit (s := S16x1x1024) (k0_off1 i) S1x1x1024.size (k0_off1_inb i)).toLoadRect (h.unread x) = rowAt i x := by
  rw [View.readAt_eq_ld, Memref.IsWhole.read_unread]
  rfl

/-- The two halves of the low-rank tile cover it. -/
theorem lo_cover (i : grid0.Coords) (x0 : Vec F S1024x2048 .f32) (x1 x3 x4 : Vec F S1x2048 .f32) (x5 x6 : Vec F S2048x128 .bf16) (p : Vec F S1x2048 .f32)
    (y : S1024x256.Idx) : ∃ q ∈ loPieces i x0 x1 x3 x4 x5 x6 p, y ∈ q.1.set := by
  have h0 : (y 0).val < 1024 := (y 0).isLt
  have h1 : (y 1).val < 256 := (y 1).isLt
  unfold loPieces
  by_cases hy : (y 1).val < 128
  · refine ⟨_, List.mem_cons_of_mem _ List.mem_cons_self, ?_⟩
    rw [Rect.mem_set_unit]
    intro a
    match a with
    | ⟨0, _⟩ => exact ⟨Nat.zero_le _, by show (y 0).val < 0 + 1024; omega⟩
    | ⟨1, _⟩ => exact ⟨Nat.zero_le _, by show (y 1).val < 0 + 128; omega⟩
  · refine ⟨_, List.mem_cons_self, ?_⟩
    rw [Rect.mem_set_unit]
    intro a
    match a with
    | ⟨0, _⟩ => exact ⟨Nat.zero_le _, by show (y 0).val < 0 + 1024; omega⟩
    | ⟨1, _⟩ => exact ⟨by show 128 ≤ (y 1).val; omega, by show (y 1).val < 128 + 128; omega⟩

set_option maxHeartbeats 1000000 in
/-- The body at a point that only multiplies. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x256 .f32) (harg11 : arg11.IsWhole) (arg12 : Memref sig .tc .vmem S1024x2048 .bf16) (harg12 : arg12.IsWhole) (arg13 : Memref sig .tc .vmem S1x2048 .f32) (harg13 : arg13.IsWhole) (arg14 : Memref sig .tc .vmem S16x1x1024 .f32) (harg14 : arg14.IsWhole)
    (hc0 : ¬k0_cond1 i = 1#1) (x0 : Vec F S1024x2048 .f32) (x1 : Vec F S1x2048 .f32) (x2 : Vec F S2048x1024 .bf16) (x3 : Vec F S1x2048 .f32) (x4 : Vec F S1x2048 .f32) (x5 : Vec F S2048x128 .bf16) (x6 : Vec F S2048x128 .bf16) (x7 : Vec F S1x1024 .f32) (x9 : Vec F S1024x256 .f32) (x10 : Vec F S1024x2048 .bf16) (x11 : Vec F S1x2048 .f32) (x12 : Vec F S16x1x1024 .f32) (E : Set ℕ) (K : PUnit → sProp (MT nD τ sig Unit (Elt F) ℕ (UR sig nD τ) ℕ)) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ owns (c : Thread nD τ) arg11 fullShare x9
            ∗ owns (c : Thread nD τ) arg12 fullShare x10
            ∗ owns (c : Thread nD τ) arg13 fullShare x11
            ∗ owns (c : Thread nD τ) arg14 fullShare x12
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (outTile i x10 x2 (rowAt i x12) x7)
            ∗ owns (c : Thread nD τ) arg11 fullShare x9
            ∗ owns (c : Thread nD τ) arg12 fullShare x10
            ∗ owns (c : Thread nD τ) arg13 fullShare x11
            ∗ owns (c : Thread nD τ) arg14 fullShare (putRow i x12 (k0_pay11 x10 x2))) -∗ K ⟨⟩))
      ⊢ wp frame (wpE (defs₀ (F := F)) Variants.none c none) E (cc0_l1_in i arg2 harg2 arg3 harg3 arg4 harg4 arg5 harg5 arg6 harg6 arg7 harg7 arg8 harg8 arg9 harg9 arg10 harg10 arg11 harg11 arg12 harg12 arg13 harg13 arg14 harg14) K := by
  simp only [cc0_l1_in_eq_skeleton]; unfold cc0_l1_in_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12
  sl_exec (disch := first | sl_exact hc0)
  sl_step
  iapply Hk
  have e0 : View.readAt (Elt F) arg2.view (Rect.unit (s := S1024x2048) ![0, 0] S1024x2048.size inb_S1024x2048_S1024x2048_0_0).toLoadRect (harg2.unread x0) = x0 := load_all harg2 x0 _
  have e1 : View.readAt (Elt F) arg3.view (Rect.unit (s := S1x2048) ![0, 0] S1x2048.size inb_S1x2048_S1x2048_0_0).toLoadRect (harg3.unread x1) = x1 := load_all harg3 x1 _
  have e2 : View.readAt (Elt F) arg4.view (Rect.unit (s := S2048x1024) ![0, 0] S2048x1024.size inb_S2048x1024_S2048x1024_0_0).toLoadRect (harg4.unread x2) = x2 := load_all harg4 x2 _
  have e3 : View.readAt (Elt F) arg5.view (Rect.unit (s := S1x2048) ![0, 0] S1x2048.size inb_S1x2048_S1x2048_0_0).toLoadRect (harg5.unread x3) = x3 := load_all harg5 x3 _
  have e4 : View.readAt (Elt F) arg6.view (Rect.unit (s := S1x2048) ![0, 0] S1x2048.size inb_S1x2048_S1x2048_0_0).toLoadRect (harg6.unread x4) = x4 := load_all harg6 x4 _
  have e5 : View.readAt (Elt F) arg7.view (Rect.unit (s := S2048x128) ![0, 0] S2048x128.size inb_S2048x128_S2048x128_0_0).toLoadRect (harg7.unread x5) = x5 := load_all harg7 x5 _
  have e6 : View.readAt (Elt F) arg8.view (Rect.unit (s := S2048x128) ![0, 0] S2048x128.size inb_S2048x128_S2048x128_0_0).toLoadRect (harg8.unread x6) = x6 := load_all harg8 x6 _
  have e7 : View.readAt (Elt F) arg9.view (Rect.unit (s := S1x1024) ![0, 0] S1x1024.size inb_S1x1024_S1x1024_0_0).toLoadRect (harg9.unread x7) = x7 := load_all harg9 x7 _
  have e10 : View.readAt (Elt F) arg12.view (Rect.unit (s := S1024x2048) ![0, 0] S1024x2048.size inb_S1024x2048_S1024x2048_0_0).toLoadRect (harg12.unread x10) = x10 := load_all harg12 x10 _
  have e11 : View.readAt (Elt F) arg13.view (Rect.unit (s := S1x2048) ![0, 0] S1x2048.size inb_S1x2048_S1x2048_0_0).toLoadRect (harg13.unread x11) = x11 := load_all harg13 x11 _
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    unfold run_later.sl.r run_later.sl.r_1
    rw [e2, e7, e10, load_row]
    exact stored_all _ _ _
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; swap; · iexact H12
  ipureintro
  rw [e2, e10]
  exact stored_row _ _ _ _

set_option maxHeartbeats 1000000 in
/-- The body at a point that normalizes its rows first. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x256 .f32) (harg11 : arg11.IsWhole) (arg12 : Memref sig .tc .vmem S1024x2048 .bf16) (harg12 : arg12.IsWhole) (arg13 : Memref sig .tc .vmem S1x2048 .f32) (harg13 : arg13.IsWhole) (arg14 : Memref sig .tc .vmem S16x1x1024 .f32) (harg14 : arg14.IsWhole)
    (hc0 : k0_cond1 i = 1#1) (x0 : Vec F S1024x2048 .f32) (x1 : Vec F S1x2048 .f32) (x2 : Vec F S2048x1024 .bf16) (x3 : Vec F S1x2048 .f32) (x4 : Vec F S1x2048 .f32) (x5 : Vec F S2048x128 .bf16) (x6 : Vec F S2048x128 .bf16) (x7 : Vec F S1x1024 .f32) (x11 : Vec F S1x2048 .f32) (x12 : Vec F S16x1x1024 .f32) (E : Set ℕ) (K : PUnit → sProp (MT nD τ sig Unit (Elt F) ℕ (UR sig nD τ) ℕ)) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare x11
            ∗ owns (c : Thread nD τ) arg14 fullShare x12
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (outTile i (k0_pay3 x0 x1) x2 (rowAt i x12) x7)
            ∗ owns (c : Thread nD τ) arg11 fullShare (loTile i x0 x1 x3 x4 x5 x6 x11)
            ∗ owns (c : Thread nD τ) arg12 fullShare (k0_pay3 x0 x1)
            ∗ owns (c : Thread nD τ) arg13 fullShare (k0_pay4 x0 x1)
            ∗ owns (c : Thread nD τ) arg14 fullShare (putRow i x12 (k0_pay11 (k0_pay3 x0 x1) x2))) -∗ K ⟨⟩))
      ⊢ wp frame (wpE (defs₀ (F := F)) Variants.none c none) E (cc0_l1_in i arg2 harg2 arg3 harg3 arg4 harg4 arg5 harg5 arg6 harg6 arg7 harg7 arg8 harg8 arg9 harg9 arg10 harg10 arg11 harg11 arg12 harg12 arg13 harg13 arg14 harg14) K := by
  simp only [cc0_l1_in_eq_skeleton]; unfold cc0_l1_in_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12
  sl_exec (disch := first | sl_exact hc0)
  sl_step
  iapply Hk
  have e0 : View.readAt (Elt F) arg2.view (Rect.unit (s := S1024x2048) ![0, 0] S1024x2048.size inb_S1024x2048_S1024x2048_0_0).toLoadRect (harg2.unread x0) = x0 := load_all harg2 x0 _
  have e1 : View.readAt (Elt F) arg3.view (Rect.unit (s := S1x2048) ![0, 0] S1x2048.size inb_S1x2048_S1x2048_0_0).toLoadRect (harg3.unread x1) = x1 := load_all harg3 x1 _
  have e2 : View.readAt (Elt F) arg4.view (Rect.unit (s := S2048x1024) ![0, 0] S2048x1024.size inb_S2048x1024_S2048x1024_0_0).toLoadRect (harg4.unread x2) = x2 := load_all harg4 x2 _
  have e3 : View.readAt (Elt F) arg5.view (Rect.unit (s := S1x2048) ![0, 0] S1x2048.size inb_S1x2048_S1x2048_0_0).toLoadRect (harg5.unread x3) = x3 := load_all harg5 x3 _
  have e4 : View.readAt (Elt F) arg6.view (Rect.unit (s := S1x2048) ![0, 0] S1x2048.size inb_S1x2048_S1x2048_0_0).toLoadRect (harg6.unread x4) = x4 := load_all harg6 x4 _
  have e5 : View.readAt (Elt F) arg7.view (Rect.unit (s := S2048x128) ![0, 0] S2048x128.size inb_S2048x128_S2048x128_0_0).toLoadRect (harg7.unread x5) = x5 := load_all harg7 x5 _
  have e6 : View.readAt (Elt F) arg8.view (Rect.unit (s := S2048x128) ![0, 0] S2048x128.size inb_S2048x128_S2048x128_0_0).toLoadRect (harg8.unread x6) = x6 := load_all harg8 x6 _
  have e7 : View.readAt (Elt F) arg9.view (Rect.unit (s := S1x1024) ![0, 0] S1x1024.size inb_S1x1024_S1x1024_0_0).toLoadRect (harg9.unread x7) = x7 := load_all harg9 x7 _
  have e11 : View.readAt (Elt F) arg13.view (Rect.unit (s := S1x2048) ![0, 0] S1x2048.size inb_S1x2048_S1x2048_0_0).toLoadRect (harg13.unread x11) = x11 := load_all harg13 x11 _
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    unfold run_first.sl.r_3 run_first.sl.r_4 run_first.sl.v14 run_first.sl.H10_1
    rw [View.readCov_cons_toLoadRect, e0, e1, e2]
    rw [e7, load_row]
    exact stored_all _ _ _
  isplitl [H9]
  · iexists _; isplitr; swap; · iexact H9
    ipureintro
    unfold run_first.sl.r run_first.sl.r_1 run_first.sl.r_2
    rw [e0, e1, e3, e4, e5, e6, e11]
    exact View.read_writes_eq_canon _ _ _ (lo_cover i x0 x1 x3 x4 x5 x6 x11)
  isplitl [H10]
  · iexists _; isplitr; swap; · iexact H10
    ipureintro
    unfold run_first.sl.H10_1
    rw [e0, e1]
    exact stored_all _ _ _
  isplitl [H11]
  · iexists _; isplitr; swap; · iexact H11
    ipureintro
    refine (stored_all _ _ _).trans ?_
    rw [e0, e1]
  iexists _; isplitr; swap; · iexact H12
  ipureintro
  unfold run_first.sl.v14 run_first.sl.H10_1
  rw [View.readCov_cons_toLoadRect, e0, e1, e2]
  exact stored_row _ _ _ _

end Cert.In1Ideal.Main

end
-- ==== Proof.In1Frame.lean ====
module

public import proofs.«01_k».proof.Proof.In1Run
public import Idealize.ShloMosaic.Lib.Pipeline.TableIdle
public import Idealize.ShloMosaic.Lib.Claim
public import Idealize.ShloMosaic.Lib.Pipeline.ValueKit.Tiles

@[expose] public section

set_option maxRecDepth 16384

noncomputable section

/-! # The second layer's input projection, point by point

What every buffer holds after each grid point, said of the point's own blocks: the rows normalized at the tile's first
point, the tile of the product, the low-rank tile, and the last row of each product tile that the next row tile shifts
in. From it the run of the whole call. -/

namespace Cert.In1Ideal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.In1Ideal Cert.In1Ideal.Gen

variable {F : FTy → Type} [FloatOps F]

variable (m : (ℓ : Loc nD τ sig) → Buf (Elt F) ℓ) (ρ : Dev nD → PrngReg)

/-! ### The points -/

theorem points (t : Fin cfg0.N) : t.val < 256 := lt_of_lt_of_eq t.isLt (show cfg0.N = 256 from N_0)

theorem coord0 (t : Fin cfg0.N) : (grid0.coords t 0).val = t.val / 16 % 16 := Pipeline.Grid.coords_val t 0 (by decide) rfl
theorem coord1 (t : Fin cfg0.N) : (grid0.coords t 1).val = t.val / 1 % 16 := Pipeline.Grid.coords_val t 1 (by decide) rfl

/-- The rows are normalized at the first point of each row tile. -/
theorem normalizes (t : Fin cfg0.N) : k0_cond1 (grid0.coords t) = 1#1 ↔ t.val % 16 = 0 := by
  have ht := points t
  have e1 := coord1 t
  simp only [k0_cond1, e1]
  word_cmp

/-- The body's test for the start of a sequence, over the row tiles. -/
theorem begins_tile : ∀ a : Fin 16, (let arg0 : BitVec 32 := BitVec.ofNat 32 a.val
    let v1 : BitVec 32 := Scalar.select (Scalar.cmpi .eq 4#32 0#32) 1#32 4#32
    let v2 : BitVec 32 := Scalar.remsi arg0 v1
    let v7 : BitVec 1 := Scalar.andi (Scalar.xori (Scalar.cmpi .slt v2 0#32) (Scalar.cmpi .slt v1 0#32)) (Scalar.cmpi .ne v2 0#32)
    Scalar.cmpi .eq (Scalar.select v7 (Scalar.addi v2 v1) v2) 0#32) = if a.val % 4 = 0 then 1#1 else 0#1 := by
  decide

theorem begins_eq (i : grid0.Coords) : begins i = if (i 0).val % 4 = 0 then 1#1 else 0#1 := begins_tile (i 0)

/-- The first point of a point's row tile. -/
def hd (t : Fin cfg0.N) : Fin cfg0.N := ⟨t.val - t.val % 16, by have := t.isLt; omega⟩
/-- The point of the row tile before, at the same column tile. -/
def up (t : Fin cfg0.N) : Fin cfg0.N := ⟨t.val - 16, by have := t.isLt; omega⟩
/-- The point before. -/
def pd (t : Fin cfg0.N) : Fin cfg0.N := ⟨t.val - 1, by have := t.isLt; omega⟩

theorem hd_self (t : Fin cfg0.N) (h : t.val % 16 = 0) : hd t = t := Fin.ext (by show t.val - t.val % 16 = t.val; omega)
theorem hd_pd (t : Fin cfg0.N) (h : ¬t.val % 16 = 0) : hd (pd t) = hd t :=
  Fin.ext (by show t.val - 1 - (t.val - 1) % 16 = t.val - t.val % 16; omega)
theorem hd_pd_first (t : Fin cfg0.N) (h : t.val % 16 = 0) (h0 : t.val ≠ 0) : hd (pd t) = hd (up t) :=
  Fin.ext (by show t.val - 1 - (t.val - 1) % 16 = t.val - 16 - (t.val - 16) % 16; omega)

/-! ### The carried row -/

theorem off_eq (i : grid0.Coords) : k0_off1 i = ![(i 1).val, 0, 0] := by
  have h : ∀ a : Fin 16, (Scalar.indexCast (BitVec.ofNat 32 a.val) : Index).toNat = a.val := by decide
  show ![(Scalar.indexCast (BitVec.ofNat 32 (i 1).val) : Index).toNat, 0, 0] = _
  exact congrArg (fun n => ![n, 0, 0]) (h (i 1))

/-- A rectangle read back where it was just replaced. -/
theorem ld_overlay {s : Shape} {e : EltTy} (r : Rect s) (x : s.Idx → Elt F e) (v : r.shape.Idx → Elt F e) : View.ld (r.overlay x v) r = v :=
  funext fun z => Rect.overlay_emb r x v z

/-- A rectangle read where another, disjoint, was replaced. -/
theorem ld_overlay_ne {s : Shape} {e : EltTy} (r q : Rect s) (x : s.Idx → Elt F e) (v : r.shape.Idx → Elt F e)
    (h : ∀ z, q.idx z ∉ r.set) : View.ld (r.overlay x v) q = View.ld x q :=
  funext fun z => Rect.overlay_of_not_mem r x v (h z)

theorem rowAt_put (i : grid0.Coords) (x : Vec F S16x1x1024 .f32) (v : Vec F S1x1x1024 .f32) : rowAt i (putRow i x v) = v := by
  unfold rowAt putRow
  exact ld_overlay (e := .f32) (rowR i) x v

theorem rowAt_put_ne (i k : grid0.Coords) (h : (k 1).val ≠ (i 1).val) (x : Vec F S16x1x1024 .f32) (v : Vec F S1x1x1024 .f32) :
    rowAt k (putRow i x v) = rowAt k x := by
  unfold rowAt putRow
  refine ld_overlay_ne (e := .f32) (rowR i) (rowR k) x v fun z => ?_
  intro hm
  rw [Rect.mem_set_unit] at hm
  have h0 := hm 0
  have hz : (z 0).val < 1 := (z 0).isLt
  rw [Rect.idx_unit_val] at h0
  have ek : k0_off1 k 0 = (k 1).val := congrFun (off_eq k) 0
  have ei : k0_off1 i 0 = (i 1).val := congrFun (off_eq i) 0
  have h1 : k0_off1 k 0 + (z 0).val < k0_off1 i 0 + 1 := h0.2
  have h2 : k0_off1 i 0 ≤ k0_off1 k 0 + (z 0).val := h0.1
  omega

theorem rowAt_congr (i k : grid0.Coords) (h : (k 1).val = (i 1).val) (x : Vec F S16x1x1024 .f32) : rowAt k x = rowAt i x := by
  have e : k0_off1 k = k0_off1 i := by rw [off_eq, off_eq, h]
  funext z
  unfold rowAt
  refine congrArg x (funext fun d => Fin.ext ?_)
  rw [Rect.idx_unit_val, Rect.idx_unit_val]
  exact congrArg (· + (z d).val) (congrFun e d)

/-- Where a sequence begins the carried row is not read. -/
theorem outTile_begin (i : grid0.Coords) (hb : begins i = 1#1) (h : Vec F S1024x2048 .bf16) (x2 : Vec F S2048x1024 .bf16)
    (p q : Vec F S1x1x1024 .f32) (x7 : Vec F S1x1024 .f32) : outTile i h x2 p x7 = outTile i h x2 q x7 := by
  have e : ∀ r : Vec F S1x1x1024 .f32, k0_pay10 i h x2 r
      = select (cmpi .eq (iota .tc S1024x1024 32 [0] iota_S1024x1024_d0_w32) (broadcast S1024x1024 0#32))
          (broadcastTo S1024x1024 (shapeCast S1x1024 (Scalar.select (begins i) (broadcast S1x1024 (Scalar.ofBits .f32 0x00000000#32 : F .f32))
            (shapeCast S1x1024 r shapeCasts_S1x1x1024_S1x1024)) shapeCasts_S1x1024_S1x1024) broadcasts_S1x1024_S1024x1024)
          (dynamicRotate 0 1#32 none (k0_pay9 h x2) rotates_S1024x1024_d0) := fun r => rfl
  unfold outTile
  rw [e p, e q, hb]
  rfl

/-- Nor is the carried last row of the normalized rows. -/
theorem loTile_begin (i : grid0.Coords) (hb : begins i = 1#1) (x0 : Vec F S1024x2048 .f32) (x1 x3 x4 : Vec F S1x2048 .f32)
    (x5 x6 : Vec F S2048x128 .bf16) (p q : Vec F S1x2048 .f32) : loTile i x0 x1 x3 x4 x5 x6 p = loTile i x0 x1 x3 x4 x5 x6 q := by
  have e : k0_pay5 (begins i) x0 x1 p = k0_pay5 (begins i) x0 x1 q := by rw [hb]; rfl
  have e' : k0_pay6 (begins i) x0 x1 p x3 = k0_pay6 (begins i) x0 x1 q x3 := by unfold k0_pay6; rw [e]
  unfold loTile loPieces
  rw [e, e']

/-! ### What the buffers hold -/

/-- The normalized rows of a point's row tile, as the product reads them. -/
def rows (c : Dev nD) (t : Fin cfg0.N) : Vec F S1024x2048 .bf16 := k0_pay3 (iblk m c 0 (hd t)) (iblk m c 1 (hd t))
/-- The last of them. -/
def lastRow (c : Dev nD) (t : Fin cfg0.N) : Vec F S1x2048 .f32 := k0_pay4 (iblk m c 0 (hd t)) (iblk m c 1 (hd t))
/-- The last row of a point's product tile. -/
def lastProd (c : Dev nD) (t : Fin cfg0.N) : Vec F S1x1x1024 .f32 := k0_pay11 (rows m c t) (iblk m c 2 t)
/-- The tile a point stores of the first result. -/
def outAt (c : Dev nD) (t : Fin cfg0.N) : Vec F S1024x1024 .f32 :=
  outTile (grid0.coords t) (rows m c t) (iblk m c 2 t) (lastProd m c (up t)) (iblk m c 7 t)
/-- The tile of the second result that a row tile's first point stores. -/
def loAt0 (c : Dev nD) (t : Fin cfg0.N) : Vec F S1024x256 .f32 :=
  loTile (grid0.coords t) (iblk m c 0 t) (iblk m c 1 t) (iblk m c 3 t) (iblk m c 4 t) (iblk m c 5 t) (iblk m c 6 t) (lastRow m c (up t))
/-- The tile of the second result that the buffer holds at a point. -/
def loAt (c : Dev nD) (t : Fin cfg0.N) : Vec F S1024x256 .f32 := loAt0 m c (hd t)

/-- The carried products after a point: each of the last sixteen points' last row, in its column tile's row. -/
def Carried (c : Dev nD) (n : ℕ) (d : Vec F S16x1x1024 .f32) : Prop :=
  ∀ s : Fin cfg0.N, s.val ≤ n → n < s.val + 16 → rowAt (grid0.coords s) d = lastProd m c s

theorem carried_zero (c : Dev nD) (t : Fin cfg0.N) (hz : t.val = 0) (d : Vec F S16x1x1024 .f32) :
    Carried m c t.val (putRow (grid0.coords t) d (lastProd m c t)) := by
  intro s hs _
  obtain rfl : s = t := Fin.ext (by omega)
  exact rowAt_put _ _ _

theorem carried_step (c : Dev nD) (t : Fin cfg0.N) (hz : t.val ≠ 0) (d : Vec F S16x1x1024 .f32) (h : Carried m c (t.val - 1) d) :
    Carried m c t.val (putRow (grid0.coords t) d (lastProd m c t)) := by
  intro s hs hs'
  by_cases e : s = t
  · subst e; exact rowAt_put _ _ _
  · have hne : s.val ≠ t.val := fun hv => e (Fin.ext hv)
    rw [rowAt_put_ne _ _ (by rw [coord1, coord1]; omega)]
    exact h s (by omega) (by omega)

theorem out_of_carried (c : Dev nD) (t : Fin cfg0.N) (hz : t.val ≠ 0) (d : Vec F S16x1x1024 .f32) (h : Carried m c (t.val - 1) d) :
    outTile (grid0.coords t) (rows m c t) (iblk m c 2 t) (rowAt (grid0.coords t) d) (iblk m c 7 t) = outAt m c t := by
  have ht := points t
  unfold outAt
  by_cases h16 : 16 ≤ t.val
  · have e : rowAt (grid0.coords t) d = lastProd m c (up t) :=
      (rowAt_congr _ _ (by rw [coord1, coord1]; show t.val / 1 % 16 = (t.val - 16) / 1 % 16; omega) d).trans
        (h (up t) (by show t.val - 16 ≤ _; omega) (by show _ < t.val - 16 + 16; omega))
    rw [e]
  · exact outTile_begin _ (by rw [begins_eq, coord0, if_pos (by omega)]) _ _ _ _ _

theorem out_first (c : Dev nD) (t : Fin cfg0.N) (hz : t.val = 0) (p : Vec F S1x1x1024 .f32) :
    outTile (grid0.coords t) (rows m c t) (iblk m c 2 t) p (iblk m c 7 t) = outAt m c t :=
  outTile_begin _ (by rw [begins_eq, coord0, if_pos (by omega)]) _ _ _ _ _

theorem rows_first (c : Dev nD) (t : Fin cfg0.N) (h : t.val % 16 = 0) : k0_pay3 (iblk m c 0 t) (iblk m c 1 t) = rows m c t := by
  unfold rows; rw [hd_self t h]

theorem lastRow_first (c : Dev nD) (t : Fin cfg0.N) (h : t.val % 16 = 0) : k0_pay4 (iblk m c 0 t) (iblk m c 1 t) = lastRow m c t := by
  unfold lastRow; rw [hd_self t h]

theorem rows_pd (c : Dev nD) (t : Fin cfg0.N) (h : ¬t.val % 16 = 0) : rows m c (pd t) = rows m c t := by
  unfold rows; rw [hd_pd t h]

theorem lastRow_pd (c : Dev nD) (t : Fin cfg0.N) (h : ¬t.val % 16 = 0) : lastRow m c (pd t) = lastRow m c t := by
  unfold lastRow; rw [hd_pd t h]

theorem lastRow_up (c : Dev nD) (t : Fin cfg0.N) (h : t.val % 16 = 0) (hz : t.val ≠ 0) : lastRow m c (pd t) = lastRow m c (up t) := by
  unfold lastRow; rw [hd_pd_first t h hz]

theorem loAt_pd (c : Dev nD) (t : Fin cfg0.N) (h : ¬t.val % 16 = 0) : loAt m c (pd t) = loAt m c t := by
  unfold loAt; rw [hd_pd t h]

theorem lo_first (c : Dev nD) (t : Fin cfg0.N) (hz : t.val = 0) (p : Vec F S1x2048 .f32) :
    loTile (grid0.coords t) (iblk m c 0 t) (iblk m c 1 t) (iblk m c 3 t) (iblk m c 4 t) (iblk m c 5 t) (iblk m c 6 t) p = loAt m c t := by
  unfold loAt loAt0
  rw [hd_self t (by omega)]
  exact loTile_begin _ (by rw [begins_eq, coord0, if_pos (by omega)]) _ _ _ _ _ _ _ _

theorem lo_next (c : Dev nD) (t : Fin cfg0.N) (h : t.val % 16 = 0) (hz : t.val ≠ 0) :
    loTile (grid0.coords t) (iblk m c 0 t) (iblk m c 1 t) (iblk m c 3 t) (iblk m c 4 t) (iblk m c 5 t) (iblk m c 6 t) (lastRow m c (pd t)) = loAt m c t := by
  unfold loAt loAt0
  rw [hd_self t h, lastRow_up m c t h hz]

/-! ### The invariant and the proof data -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S1x2048 .f32 := win0_3.stage (cfg0.slots t 3)
abbrev ms4 (t : Fin cfg0.N) : Memref sig .tc .vmem S1x2048 .f32 := win0_4.stage (cfg0.slots t 4)
abbrev ms5 (t : Fin cfg0.N) : Memref sig .tc .vmem S2048x128 .bf16 := win0_5.stage (cfg0.slots t 5)
abbrev ms6 (t : Fin cfg0.N) : Memref sig .tc .vmem S2048x128 .bf16 := win0_6.stage (cfg0.slots t 6)
abbrev ms7 (t : Fin cfg0.N) : Memref sig .tc .vmem S1x1024 .f32 := win0_7.stage (cfg0.slots t 7)
abbrev ms8 (t : Fin cfg0.N) : Memref sig .tc .vmem S1024x1024 .f32 := win0_8.stage (cfg0.slots t 8)
abbrev ms9 (t : Fin cfg0.N) : Memref sig .tc .vmem S1024x256 .f32 := win0_9.stage (cfg0.slots t 9)
abbrev sc0 : Memref sig .tc .vmem S1024x2048 .bf16 := Memref.whole cc0_scratch0
abbrev sc1 : Memref sig .tc .vmem S1x2048 .f32 := Memref.whole cc0_scratch1
abbrev sc2 : Memref sig .tc .vmem S16x1x1024 .f32 := Memref.whole cc0_scratch2

/-- The invariant a launch hands over: each scratch buffer at some contents. -/
theorem launched (c : Dev nD) :
    (Pipeline.ΦA spec0 c : sProp (MT nD τ sig Unit (Elt F) ℕ (UR sig nD τ) ℕ))
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The invariant: before the first point what the launch hands over, then the scratch at what the point before left. -/
def Phi (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) sc0 fullShare (rows m c ⟨n, hn⟩) ∗ owns (c : Thread nD τ) sc1 fullShare (lastRow m c ⟨n, hn⟩)
      ∗ (∃ d, ⌜Carried m c n d⌝ ∗ owns (c : Thread nD τ) sc2 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (t : Fin cfg0.N) :
    Phi m c (t.val + 1) t.isLt = iprop(iprop(owns (c : Thread nD τ) sc0 fullShare (rows m c t) ∗ owns (c : Thread nD τ) sc1 fullShare (lastRow m c t)
      ∗ (∃ d, ⌜Carried m c t.val d⌝ ∗ owns (c : Thread nD τ) sc2 fullShare d)) ∗ (∃ r, prngReg c r)) := rfl

theorem Phi_pos (c : Dev nD) (t : Fin cfg0.N) (hz : t.val ≠ 0) :
    Phi m c t.val (Nat.le_of_lt t.isLt) = iprop(iprop(owns (c : Thread nD τ) sc0 fullShare (rows m c (pd t)) ∗ owns (c : Thread nD τ) sc1 fullShare (lastRow m c (pd t))
      ∗ (∃ d, ⌜Carried m c (t.val - 1) d⌝ ∗ owns (c : Thread nD τ) sc2 fullShare d)) ∗ (∃ r, prngReg c r)) := by
  obtain ⟨n, hn⟩ := t
  cases n with
  | zero => exact absurd rfl hz
  | succ n => rfl

/-- The call's proof data: the arrays as it finds them, each input's buffer at its block, the outputs' at the tiles above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => loAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem after_9 (c : Dev nD) (t : Fin cfg0.N) : (dats m 0 c).after 9 t = loAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem idle_9 (t : Fin cfg0.N) : cfg0.idle 9 (grid0.coords t) = !decide (t.val % 16 = 0) := by
  show (!(k0_cond1 (grid0.coords t) == 1#1)) = _
  congr 1
  by_cases h : t.val % 16 = 0
  · rw [decide_eq_true h, (normalizes t).2 h]; rfl
  · rw [decide_eq_false h]; exact beq_false_of_ne fun e => h ((normalizes t).1 e)

theorem flush_9 (t : Fin cfg0.N) : (cfg0.win 9).flush t = decide (t.val % 16 = 15) := by
  by_cases h : t.val % 16 = 15
  · rw [decide_eq_true h]; exact (flush0_9 t).2 h
  · rw [decide_eq_false h]; exact Bool.eq_false_iff.2 fun e => h ((flush0_9 t).1 e)

/-- The second output's buffer holds nothing stored yet exactly at a row tile's first point. -/
theorem fresh_9 (n : ℕ) (hn : n ≤ cfg0.N) : cfg0.fresh 9 n = decide (n % 16 = 0) := by
  refine cfg0.fresh_tab 9 (fun n => decide (n % 16 = 0)) rfl (fun t => ?_) n hn
  show decide ((t.val + 1) % 16 = 0) = ((cfg0.win 9).flush t || (cfg0.idle 9 (grid0.coords t) && decide (t.val % 16 = 0)))
  rw [idle_9, flush_9]
  by_cases h : t.val % 16 = 0
  · rw [decide_eq_true h, decide_eq_false (by omega), decide_eq_false (by omega)]; rfl
  · rw [decide_eq_false h]
    by_cases h' : t.val % 16 = 15
    · rw [decide_eq_true h', decide_eq_true (by omega)]; rfl
    · rw [decide_eq_false h', decide_eq_false (by omega)]; rfl

/-- At a point that only multiplies it holds the tile's low-rank rows. -/
theorem before_9 (c : Dev nD) (t : Fin cfg0.N) (h : ¬t.val % 16 = 0) (d) : (dats m 0 c).before 9 t d = loAt m c t := by
  have hc : ∀ (s : Fin cfg0.N) (hs : s.val ≠ 0), cfg0.idle 9 (grid0.coords s) = true → cfg0.fresh 9 s.val = false →
      (dats m 0 c).after 9 s = (dats m 0 c).after 9 ⟨s.val - 1, by have := s.isLt; omega⟩ := by
    intro s hs hi _
    rw [idle_9] at hi
    have h' : ¬s.val % 16 = 0 := by
      intro e
      rw [decide_eq_true e] at hi
      exact Bool.false_ne_true hi
    exact (after_9 m c s).trans ((loAt_pd m c s h').symm.trans (after_9 m c (pd s)).symm)
  rw [(dats m 0 c).before_out_traj 9 rfl (fun _ _ => rfl) hc t.val t rfl d, fresh_9 t.val (Nat.le_of_lt t.isLt), decide_eq_false h,
    if_neg Bool.false_ne_true]
  exact (after_9 m c (pd t)).trans (loAt_pd m c t h)

/-! ### The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (ms8 t) fullShare (outAt m c t) := by
  unfold Dat.leavesExact; rw [show cfg0.idle 8 (cfg0.grid.coords t) = false from rfl, after_8]
theorem leaves_9_first (c : Dev nD) (t : Fin cfg0.N) (h : t.val % 16 = 0) :
    (dats m 0 c).leavesExact 9 t = owns (c : Thread nD τ) (ms9 t) fullShare (loAt m c t) := by
  have e : cfg0.idle 9 (cfg0.grid.coords t) = false := by rw [show cfg0.idle 9 (cfg0.grid.coords t) = _ from idle_9 t, decide_eq_true h]; rfl
  unfold Dat.leavesExact; rw [e, after_9]

theorem leaves_9_later (c : Dev nD) (t : Fin cfg0.N) (h : ¬t.val % 16 = 0) :
    owns (c : Thread nD τ) (ms9 t) fullShare (loAt m c t) ⊢ (dats m 0 c).leavesExact 9 t := by
  have e : cfg0.idle 9 (cfg0.grid.coords t) = true := by rw [show cfg0.idle 9 (cfg0.grid.coords t) = _ from idle_9 t, decide_eq_false h]; rfl
  by_cases h' : t.val % 16 = 15
  · have f : (cfg0.win 9).flush t = true := (flush0_9 t).2 h'
    unfold Dat.leavesExact; rw [e, f, after_9]
  · have f : (cfg0.win 9).flush t = false := by rw [flush_9, decide_eq_false h']
    rw [Dat.leavesExact_idle _ _ _ e f]
    iintro H
    iexists (loAt m c t)
    rw [before_9 m c t h]
    iexact H

set_option maxHeartbeats 4000000 in
/-- The body at any point takes the buffers from one point's contents to the next's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_6, leaves_7, leaves_8]
  by_cases h0 : t.val % 16 = 0
  · rw [leaves_9_first m c t h0]
    by_cases hz : t.val = 0
    · rw [Phi_castSucc m c t, Phi_zero m c _ _ hz, launched]
      iintro ⟨⟨⟨HS0, ⟨%ds1, HS1⟩, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ _ _ ((normalizes t).2 h0) (iblk m c 0 t) (iblk m c 1 t) (iblk m c 2 t) (iblk m c 3 t) (iblk m c 4 t) (iblk m c 5 t) (iblk m c 6 t) (iblk m c 7 t) ds1 ds2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      rw [rows_first m c t h0, lastRow_first m c t h0, out_first m c t hz, lo_first m c t hz]
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact carried_zero m c t hz ds2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Phi_castSucc m c t, Phi_pos m c t hz]
      iintro ⟨⟨⟨HS0, HS1, ⟨%ds2, %hd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ _ _ ((normalizes t).2 h0) (iblk m c 0 t) (iblk m c 1 t) (iblk m c 2 t) (iblk m c 3 t) (iblk m c 4 t) (iblk m c 5 t) (iblk m c 6 t) (iblk m c 7 t) (lastRow m c (pd t)) ds2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexact HS1
      isplitl [HS2]; · iexact HS2
      rw [rows_first m c t h0, lastRow_first m c t h0, out_of_carried m c t hz ds2 hd2, lo_next m c t h0 hz]
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact carried_step m c t hz ds2 hd2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · skip
    have hz : t.val ≠ 0 := fun e => h0 (by rw [e])
    rw [Phi_castSucc m c t, Phi_pos m c t hz, rows_pd m c t h0, lastRow_pd m c t h0]
    iintro ⟨⟨⟨HS0, HS1, ⟨%ds2, %hd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [before_9 m c t h0 d9]
    iapply (run_later c (grid0.coords t) _ _ _ _ _ _ _ _ _ _ _ _ _ _ _ _ _ _ _ _ _ _ _ _ _ _ (fun e => h0 ((normalizes t).1 e)) (iblk m c 0 t) (iblk m c 1 t) (iblk m c 2 t) (iblk m c 3 t) (iblk m c 4 t) (iblk m c 5 t) (iblk m c 6 t) (iblk m c 7 t) (loAt m c t) (rows m c t) (lastRow m c t) ds2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    rw [out_of_carried m c t hz ds2 hd2]
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexists _; isplitr
        swap; · iexact HS2
        ipureintro; exact carried_step m c t hz ds2 hd2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_9_later m c t h0); iexact H9

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : 255 < cfg0.N := by rw [show cfg0.N = 256 from N_0]; omega
  rw [show (dats m 0 c).Φ (Fin.last cfg0.N) = Phi m c ((⟨255, hN⟩ : Fin cfg0.N).val + 1) hN from rfl, Phi_succ m c ⟨255, hN⟩, launched]
  iintro ⟨⟨HS0, HS1, ⟨%d, %hd, HS2⟩⟩, Hg⟩
  isplitl [HS0 HS1 HS2]
  · isplitl [HS0]
    · iexists _; iexact HS0
    isplitl [HS1]
    · iexists _; iexact HS1
    iexists _; iexact HS2
  iexact Hg

/-! ### The run -/

set_option backward.isDefEq.respectTransparency.types false in
/-- The call runs, and every array ends as the proof data says; no semaphore is left counting. -/
theorem run_counted : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_all : θ_run defs (onTc (τ := τ) (main (F := F))) (s₀ m ρ) (Pipeline.FramePost cfgs (dats m) 0 (V m)) :=
  (θ_run defs _ _).mono (fun _ h => h.1) (run_counted m ρ)

/-- The frame: the arguments end as they began, and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_all m ρ)) ((θ_run defs _ _).mono (fun _ h => h.2) (run_counted m ρ))

end Cert.In1Ideal.Main

end
-- ==== Proof.In1Spec.lean ====
/-
  What the second layer's input projection computes, index by index, over the extended reals: the rows' gained rms
  norm, its product with the weights, and the mixing of a row with the row before it (zero at the start of each
  sequence of 4096 rows).
-/
module

public import proofs.«01_k».proof.Defs
public import Idealize.ShloMosaic.Lib.Pointwise

@[expose] public section

noncomputable section

namespace Cert.In1Ideal.Main

open Cert.In1Ideal Idealize.ShloMosaic

/-- An entry of the gained rms norm, its row's sum of squares given. -/
def normed (xk ss gk : EReal) : EReal :=
  xk * Ideal.rsqrt (Ideal.div ss (Ideal.ofBits .f32 0x45000000#32) + Ideal.ofBits .f32 0x358637BD#32) * gk

/-- The normalized rows. -/
def hN (x : FVec Ideal S16384x2048 .f32) (g : FVec Ideal S2048 .f32) (k : Fin 2048) (R : Fin 16384) : EReal :=
  normed (x (ix2 R k)) (∑ k' : Fin 2048, x (ix2 R k') * x (ix2 R k')) (g (ix1 k))

/-- Their product with the weights. -/
def uN (x : FVec Ideal S16384x2048 .f32) (g : FVec Ideal S2048 .f32) (w : FVec Ideal S2048x16384 .f32) (L : Fin 16384) (R : Fin 16384) : EReal :=
  ∑ k : Fin 2048, hN x g k R * w (ix2 k L)

/-- The row before, zero at the start of a sequence. -/
def before1 (f : Fin 16384 → EReal) (R : Fin 16384) : EReal :=
  if R.val % 4096 = 0 then 0 else f ⟨R.val - 1, by omega⟩

/-- A row mixed with the row before it. -/
def mixed (f : Fin 16384 → EReal) (mu : EReal) (R : Fin 16384) : EReal := f R + (before1 f R - f R) * mu

/-- The first result. -/
def uSpec (x : FVec Ideal S16384x2048 .f32) (g : FVec Ideal S2048 .f32) (w : FVec Ideal S2048x16384 .f32) (mu : FVec Ideal S12288 .f32)
    (R : Fin 16384) (L : Fin 16384) : EReal :=
  if h : L.val < 12288 then mixed (uN x g w L) (mu (ix1 ⟨L.val, h⟩)) R else uN x g w L R

/-- A column of a low-rank product of mixed rows. -/
def lowN (x : FVec Ideal S16384x2048 .f32) (g mu : FVec Ideal S2048 .f32) (a : FVec Ideal S2048x96 .f32) (q : Fin 96) (R : Fin 16384) : EReal :=
  ∑ k : Fin 2048, mixed (hN x g k) (mu (ix1 k)) R * a (ix2 k q)

/-- The second result: two low-rank products side by side, each padded with zero columns to 128. -/
def loSpec (x : FVec Ideal S16384x2048 .f32) (g muw mua : FVec Ideal S2048 .f32) (w1 a1 : FVec Ideal S2048x96 .f32)
    (R : Fin 16384) (l : Fin 256) : EReal :=
  if h : l.val < 96 then Ideal.tanh (lowN x g muw w1 ⟨l.val, h⟩ R)
  else if h' : 128 ≤ l.val ∧ l.val < 224 then lowN x g mua a1 ⟨l.val - 128, by omega⟩ R
  else 0

end Cert.In1Ideal.Main

end
-- ==== Proof.In1Tile.lean ====
/- The body's tiles at an index, over the extended reals. -/
module

public import proofs.«01_k».proof.Proof.In1Frame
public import proofs.«01_k».proof.Proof.In1Spec
public import Idealize.ShloMosaic.Lib.KernelVsHost

@[expose] public section

noncomputable section

namespace Cert.In1Ideal.Main

open Cert.In1Ideal Cert.In1Ideal.Gen Idealize.ShloMosaic

theorem pay2_apply (x : FVec Ideal S1024x2048 .f32) (g : FVec Ideal S1x2048 .f32) (r : Fin 1024) (k : Fin 2048) :
    k0_pay2 (F := Ideal) x g (ix2 r k)
      = normed (x (ix2 r k)) (∑ k' : Fin 2048, x (ix2 r k') * x (ix2 r k')) (g (ix2 0 k)) := by
  pointwise [k0_pay2]
  rfl

theorem pay3_apply (x : FVec Ideal S1024x2048 .f32) (g : FVec Ideal S1x2048 .f32) (r : Fin 1024) (k : Fin 2048) :
    k0_pay3 (F := Ideal) x g (ix2 r k) = k0_pay2 (F := Ideal) x g (ix2 r k) := by
  pointwise [k0_pay3]

theorem pay4_apply (x : FVec Ideal S1024x2048 .f32) (g : FVec Ideal S1x2048 .f32) (k : Fin 2048) :
    k0_pay4 (F := Ideal) x g (ix2 0 k) = k0_pay2 (F := Ideal) x g (ix2 1023 k) := by
  unfold k0_pay4
  generalize k0_pay2 (F := Ideal) x g = y
  pointwise []

theorem pay9_apply (h : FVec Ideal S1024x2048 .bf16) (w : FVec Ideal S2048x1024 .bf16) (r : Fin 1024) (l : Fin 1024) :
    k0_pay9 (F := Ideal) h w (ix2 r l) = ∑ k : Fin 2048, h (ix2 r k) * w (ix2 k l) := by
  pointwise [k0_pay9, dot_S1024x2048_S2048x1024_S1024x1024_1_0_0_1_n_n]

theorem pay11_apply (h : FVec Ideal S1024x2048 .bf16) (w : FVec Ideal S2048x1024 .bf16) (l : Fin 1024) :
    k0_pay11 (F := Ideal) h w (ix3 0 0 l) = k0_pay9 (F := Ideal) h w (ix2 1023 l) := by
  unfold k0_pay11
  generalize k0_pay9 (F := Ideal) h w = y
  pointwise []

theorem first_row : ∀ r : Fin 1024, Scalar.cmpi .eq (BitVec.ofNat 32 r.val) 0#32 = if r.val = 0 then 1#1 else 0#1 := by
  decide +kernel

/-- The shift of a tile: the carried row first, then each row's predecessor. -/
theorem shift_first {n : ℕ} (hi) (hr) (hb) (y : FVec Ideal ⟨2, ![1024, n]⟩ .f32) (p : FVec Ideal ⟨2, ![1, n]⟩ .f32) (l : Fin n) :
    select (cmpi .eq (iota .tc ⟨2, ![1024, n]⟩ 32 [0] hi) (broadcast ⟨2, ![1024, n]⟩ 0#32))
      (broadcastTo ⟨2, ![1024, n]⟩ p hb) (dynamicRotate 0 1#32 none y hr) (ix2 0 l) = p (ix2 0 l) := by
  show Scalar.select 1#1 (broadcastTo ⟨2, ![1024, n]⟩ p hb (ix2 0 l)) _ = _
  refine (if_pos rfl).trans (broadcastTo_apply _ _ _ _ fun a => ?_)
  match a with
  | ⟨0, _⟩ => rfl
  | ⟨1, _⟩ =>
    have := l.isLt
    show l.val = if n = 1 then 0 else l.val
    split <;> omega

theorem shift_next {n : ℕ} (hi) (hr) (hb) (y : FVec Ideal ⟨2, ![1024, n]⟩ .f32) (p : FVec Ideal ⟨2, ![1, n]⟩ .f32) (r : Fin 1024) (hp : 0 < r.val) (l : Fin n) :
    select (cmpi .eq (iota .tc ⟨2, ![1024, n]⟩ 32 [0] hi) (broadcast ⟨2, ![1024, n]⟩ 0#32))
      (broadcastTo ⟨2, ![1024, n]⟩ p hb) (dynamicRotate 0 1#32 none y hr) (ix2 r l) = y (ix2 ⟨r.val - 1, by omega⟩ l) := by
  have hc : cmpi .eq (iota .tc ⟨2, ![1024, n]⟩ 32 [0] hi) (broadcast ⟨2, ![1024, n]⟩ 0#32) (ix2 r l) = 0#1 := by
    refine Eq.trans ?_ ((first_row r).trans (if_neg (by omega)))
    pointwise []
    rfl
  show Scalar.select (cmpi .eq (iota .tc ⟨2, ![1024, n]⟩ 32 [0] hi) (broadcast ⟨2, ![1024, n]⟩ 0#32) (ix2 r l)) _ _ = _
  rw [hc]
  refine (if_neg (by decide)).trans (dynamicRotate_apply _ _ _ _ _ _ fun b => ?_)
  match b with
  | ⟨0, _⟩ => show r.val - 1 = (r.val + 1024 - 1 % 1024) % 1024; omega
  | ⟨1, _⟩ => rfl

theorem pay10_form (i : grid0.Coords) (h : FVec Ideal S1024x2048 .bf16) (x2 : FVec Ideal S2048x1024 .bf16) (r : FVec Ideal S1x1x1024 .f32) :
    k0_pay10 (F := Ideal) i h x2 r
      = select (cmpi .eq (iota .tc S1024x1024 32 [0] iota_S1024x1024_d0_w32) (broadcast S1024x1024 0#32))
          (broadcastTo S1024x1024 (shapeCast S1x1024 (Scalar.select (begins i) (broadcast S1x1024 (Scalar.ofBits .f32 0x00000000#32 : Ideal .f32))
            (shapeCast S1x1024 r shapeCasts_S1x1x1024_S1x1024)) shapeCasts_S1x1024_S1x1024) broadcasts_S1x1024_S1024x1024)
          (dynamicRotate 0 1#32 none (k0_pay9 (F := Ideal) h x2) rotates_S1024x1024_d0) := rfl

theorem pay10_first (i : grid0.Coords) (h : FVec Ideal S1024x2048 .bf16) (x2 : FVec Ideal S2048x1024 .bf16) (p : FVec Ideal S1x1x1024 .f32) (l : Fin 1024) :
    k0_pay10 (F := Ideal) i h x2 p (ix2 0 l) = if (i 0).val % 4 = 0 then (0 : EReal) else p (ix3 0 0 l) := by
  rw [pay10_form, begins_eq]
  refine (shift_first (n := 1024) _ _ _ _ _ l).trans ?_
  split
  · exact (shapeCast_apply _ _ _ (ix2 0 l) rfl).trans Ideal.ofBits_zero_f32
  · refine (shapeCast_apply _ _ _ (ix2 0 l) rfl).trans ?_
    show shapeCast S1x1024 p shapeCasts_S1x1x1024_S1x1024 (ix2 0 l) = _
    exact shapeCast_apply _ _ _ _ (by
      rewrite [Shape.rowMajor_val_three, Shape.rowMajor_val_two]
      show (0 * 1 + 0) * 1024 + l.val = 0 * 1024 + l.val
      omega)

theorem pay10_next (i : grid0.Coords) (h : FVec Ideal S1024x2048 .bf16) (x2 : FVec Ideal S2048x1024 .bf16) (p : FVec Ideal S1x1x1024 .f32)
    (r : Fin 1024) (hr : 0 < r.val) (l : Fin 1024) :
    k0_pay10 (F := Ideal) i h x2 p (ix2 r l) = k0_pay9 (F := Ideal) h x2 (ix2 ⟨r.val - 1, by omega⟩ l) := by
  rw [pay10_form]
  exact shift_next (n := 1024) _ _ _ _ _ r hr l

theorem pay5_form (b : BitVec 1) (x : FVec Ideal S1024x2048 .f32) (g p : FVec Ideal S1x2048 .f32) :
    k0_pay5 (F := Ideal) b x g p
      = subf (select (cmpi .eq (iota .tc S1024x2048 32 [0] iota_S1024x2048_d0_w32) (broadcast S1024x2048 0#32))
          (broadcastTo S1024x2048 (shapeCast S1x2048 (Scalar.select b (broadcast S1x2048 (Scalar.ofBits .f32 0x00000000#32 : Ideal .f32)) p)
            shapeCasts_S1x2048_S1x2048) broadcasts_S1x2048_S1024x2048)
          (dynamicRotate 0 1#32 none (k0_pay2 (F := Ideal) x g) rotates_S1024x2048_d0)) (k0_pay2 (F := Ideal) x g) := rfl

theorem pay5_first (i : grid0.Coords) (x : FVec Ideal S1024x2048 .f32) (g p : FVec Ideal S1x2048 .f32) (k : Fin 2048) :
    k0_pay5 (F := Ideal) (begins i) x g p (ix2 0 k)
      = (if (i 0).val % 4 = 0 then (0 : EReal) else p (ix2 0 k)) - k0_pay2 (F := Ideal) x g (ix2 0 k) := by
  rw [pay5_form, begins_eq]
  refine congrArg (fun z : EReal => z - k0_pay2 (F := Ideal) x g (ix2 0 k)) ?_
  refine (shift_first (n := 2048) _ _ _ _ _ k).trans ?_
  split
  · exact (shapeCast_apply _ _ _ (ix2 0 k) rfl).trans Ideal.ofBits_zero_f32
  · exact shapeCast_apply _ _ _ (ix2 0 k) rfl

theorem pay5_next (b : BitVec 1) (x : FVec Ideal S1024x2048 .f32) (g p : FVec Ideal S1x2048 .f32) (r : Fin 1024) (hr : 0 < r.val) (k : Fin 2048) :
    k0_pay5 (F := Ideal) b x g p (ix2 r k)
      = k0_pay2 (F := Ideal) x g (ix2 ⟨r.val - 1, by omega⟩ k) - k0_pay2 (F := Ideal) x g (ix2 r k) := by
  rw [pay5_form]
  exact congrArg (fun z : EReal => z - k0_pay2 (F := Ideal) x g (ix2 r k)) (shift_next (n := 2048) _ _ _ _ _ r hr k)

theorem pay1_apply (a b : FVec Ideal S1024x1024 .f32) (mu : FVec Ideal S1x1024 .f32) (r l : Fin 1024) :
    k0_pay1 (F := Ideal) a b mu (ix2 r l) = a (ix2 r l) + (b (ix2 r l) - a (ix2 r l)) * mu (ix2 0 l) := by
  pointwise [k0_pay1]

theorem pay7_apply (y : FVec Ideal S1024x2048 .f32) (w : FVec Ideal S2048x128 .bf16) (r : Fin 1024) (l : Fin 128) :
    k0_pay7 (F := Ideal) y w (ix2 r l) = Ideal.tanh (∑ k : Fin 2048, y (ix2 r k) * w (ix2 k l)) := by
  pointwise [k0_pay7, dot_S1024x2048_S2048x128_S1024x128_1_0_0_1_n_n]

theorem pay8_apply (h d : FVec Ideal S1024x2048 .f32) (mu : FVec Ideal S1x2048 .f32) (w : FVec Ideal S2048x128 .bf16) (r : Fin 1024) (l : Fin 128) :
    k0_pay8 (F := Ideal) h d mu w (ix2 r l) = ∑ k : Fin 2048, (h (ix2 r k) + d (ix2 r k) * mu (ix2 0 k)) * w (ix2 k l) := by
  pointwise [k0_pay8, dot_S1024x2048_S2048x128_S1024x128_1_0_0_1_n_n]

theorem pay6_apply (b : BitVec 1) (x : FVec Ideal S1024x2048 .f32) (g p mu : FVec Ideal S1x2048 .f32) (r : Fin 1024) (k : Fin 2048) :
    k0_pay6 (F := Ideal) b x g p mu (ix2 r k)
      = k0_pay2 (F := Ideal) x g (ix2 r k) + k0_pay5 (F := Ideal) b x g p (ix2 r k) * mu (ix2 0 k) := by
  unfold k0_pay6
  generalize k0_pay2 (F := Ideal) x g = y
  generalize k0_pay5 (F := Ideal) b x g p = z
  pointwise []

/-- The low-rank tile's left half. -/
theorem lo_left (i : grid0.Coords) (x0 : FVec Ideal S1024x2048 .f32) (x1 x3 x4 : FVec Ideal S1x2048 .f32) (x5 x6 : FVec Ideal S2048x128 .bf16)
    (p : FVec Ideal S1x2048 .f32) (r : Fin 1024) (l : Fin 256) (hl : l.val < 128) :
    loTile (F := Ideal) i x0 x1 x3 x4 x5 x6 p (ix2 r l) = k0_pay7 (F := Ideal) (k0_pay6 (F := Ideal) (begins i) x0 x1 p x3) x5 (ix2 r ⟨l.val, hl⟩) := by
  unfold loTile loPieces
  rw [View.canon_cons_of_not_mem _ _ (by
    rw [Rect.mem_set_unit]
    intro h
    have : 128 ≤ l.val := (h 1).1
    omega)]
  have e : (ix2 r l : S1024x256.Idx) = (Rect.unit (s := S1024x256) ![0, 0] S1024x128.size inb_S1024x256_S1024x128_0_0).emb (ix2 r (⟨l.val, hl⟩ : Fin 128)) := by
    funext a; apply Fin.ext
    match a with
    | ⟨0, _⟩ => show r.val = 0 + 1 * r.val; omega
    | ⟨1, _⟩ => show l.val = 0 + 1 * l.val; omega
  rw [e]
  exact View.canon_cons_emb _ _ _ _

/-- Its right half. -/
theorem lo_right (i : grid0.Coords) (x0 : FVec Ideal S1024x2048 .f32) (x1 x3 x4 : FVec Ideal S1x2048 .f32) (x5 x6 : FVec Ideal S2048x128 .bf16)
    (p : FVec Ideal S1x2048 .f32) (r : Fin 1024) (l : Fin 256) (hl : 128 ≤ l.val) :
    loTile (F := Ideal) i x0 x1 x3 x4 x5 x6 p (ix2 r l)
      = k0_pay8 (F := Ideal) (k0_pay2 (F := Ideal) x0 x1) (k0_pay5 (F := Ideal) (begins i) x0 x1 p) x4 x6 (ix2 r ⟨l.val - 128, by omega⟩) := by
  unfold loTile loPieces
  have e : (ix2 r l : S1024x256.Idx) = (Rect.unit (s := S1024x256) ![0, 128] S1024x128.size inb_S1024x256_S1024x128_0_128).emb (ix2 r (⟨l.val - 128, by omega⟩ : Fin 128)) := by
    funext a; apply Fin.ext
    match a with
    | ⟨0, _⟩ => show r.val = 0 + 1 * r.val; omega
    | ⟨1, _⟩ => show l.val = 128 + 1 * (l.val - 128); omega
  rw [e]
  exact View.canon_cons_emb _ _ _ _

end Cert.In1Ideal.Main

end
-- ==== Proof.In1Host.lean ====
/- The arrays that the host operations prepare for the call, and the blocks of them that a grid point reads. -/
module

public import proofs.«01_k».proof.Proof.In1Frame
public import proofs.«01_k».proof.Proof.In1Spec
public import Idealize.ShloMosaic.Lib.StableHlo.RunClose

@[expose] public section

noncomputable section

namespace Cert.In1Ideal.Main

open Cert.In1Ideal Cert.In1Ideal.Gen Idealize.ShloMosaic Idealize.ShloMosaic.TcCoe Idealize.SL.Sem Idealize.ShloMosaic.StableHlo

variable (m : (ℓ : Loc nD τ sig) → Buf (Elt Ideal) ℓ)

abbrev xA (c : Dev nD) : FVec Ideal S16384x2048 .f32 := m ((c.tc : Thread nD τ).loc main_arg0)
abbrev gA (c : Dev nD) : FVec Ideal S2048 .f32 := m ((c.tc : Thread nD τ).loc main_arg1)
abbrev wA (c : Dev nD) : FVec Ideal S2048x16384 .f32 := m ((c.tc : Thread nD τ).loc main_arg2)
abbrev mwA (c : Dev nD) : FVec Ideal S2048 .f32 := m ((c.tc : Thread nD τ).loc main_arg3)
abbrev maA (c : Dev nD) : FVec Ideal S2048 .f32 := m ((c.tc : Thread nD τ).loc main_arg4)
abbrev w1A (c : Dev nD) : FVec Ideal S2048x96 .f32 := m ((c.tc : Thread nD τ).loc main_arg5)
abbrev a1A (c : Dev nD) : FVec Ideal S2048x96 .f32 := m ((c.tc : Thread nD τ).loc main_arg6)
abbrev muA (c : Dev nD) : FVec Ideal S12288 .f32 := m ((c.tc : Thread nD τ).loc main_arg7)

theorem V_g (c : Dev nD) : @Eq (FVec Ideal S1x2048 .f32) (V m c main_v0) (shapeCast S1x2048 (gA m c) shapeCasts_S2048_S1x2048) := by
  unfold V
  simp only [List.flatten_cons, List.flatten_nil, List.append_nil, after_append]
  after_results_entrywise (rounds := 1) [cast_eq]

theorem V_mw (c : Dev nD) : @Eq (FVec Ideal S1x2048 .f32) (V m c main_v2) (shapeCast S1x2048 (mwA m c) shapeCasts_S2048_S1x2048) := by
  unfold V
  simp only [List.flatten_cons, List.flatten_nil, List.append_nil, after_append]
  after_results_entrywise (rounds := 1) [cast_eq]

theorem V_ma (c : Dev nD) : @Eq (FVec Ideal S1x2048 .f32) (V m c main_v3) (shapeCast S1x2048 (maA m c) shapeCasts_S2048_S1x2048) := by
  unfold V
  simp only [List.flatten_cons, List.flatten_nil, List.append_nil, after_append]
  after_results_entrywise (rounds := 1) [cast_eq]

theorem V_w (c : Dev nD) : @Eq (FVec Ideal S2048x16384 .bf16) (V m c main_v1) (truncf .bf16 (wA m c) bitsLt_bf16_f32) := by
  unfold V
  simp only [List.flatten_cons, List.flatten_nil, List.append_nil, after_append]
  after_results_entrywise (rounds := 1) [cast_eq]

theorem V_w1 (c : Dev nD) : @Eq (FVec Ideal S2048x128 .bf16) (V m c main_v5)
    (truncf .bf16 (pad S2048x128 ![0, 0] ![0, 32] ![0, 0] (w1A m c) (sitofp .f32 (constantI S_ 32 0#32)) pads_S2048x96_S2048x128_000_0320 h_S_) bitsLt_bf16_f32) := by
  unfold V
  simp only [List.flatten_cons, List.flatten_nil, List.append_nil, after_append]
  after_results_entrywise (rounds := 1) [cast_eq]

theorem V_a1 (c : Dev nD) : @Eq (FVec Ideal S2048x128 .bf16) (V m c main_v7)
    (truncf .bf16 (pad S2048x128 ![0, 0] ![0, 32] ![0, 0] (a1A m c) (sitofp .f32 (constantI S_ 32 0#32)) pads_S2048x96_S2048x128_000_0320 h_S_) bitsLt_bf16_f32) := by
  unfold V
  simp only [List.flatten_cons, List.flatten_nil, List.append_nil, after_append]
  after_results_entrywise (rounds := 1) [cast_eq]

theorem V_mu (c : Dev nD) : @Eq (FVec Ideal S1x16384 .f32) (V m c main_v9)
    (pad S1x16384 ![0, 0] ![0, 4096] ![0, 0] (shapeCast S1x12288 (muA m c) shapeCasts_S12288_S1x12288) (sitofp .f32 (constantI S_ 32 0#32)) pads_S1x12288_S1x16384_000_040960 h_S_) := by
  unfold V
  simp only [List.flatten_cons, List.flatten_nil, List.append_nil, after_append]
  after_results_entrywise (rounds := 1) [cast_eq]

end Cert.In1Ideal.Main

end
-- ==== Proof.In1Blocks.lean ====
/- The blocks a grid point of the second layer's input projection reads, and the tiles it stores, at an index. -/
module

public import proofs.«01_k».proof.Proof.In1Tile
public import proofs.«01_k».proof.Proof.In1Host

@[expose] public section

noncomputable section

namespace Cert.In1Ideal.Main

open Cert.In1Ideal Cert.In1Ideal.Gen Idealize.ShloMosaic Idealize.ShloMosaic.TcCoe Idealize.SL.Sem

variable (m : (ℓ : Loc nD τ sig) → Buf (Elt Ideal) ℓ)

/-- Which blocks point `t` works on: row tile `t / 16`, column tile `t % 16`. -/
theorem idx_in : ∀ t : Fin cfg0.N, (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 16)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = t.val % 16)
    ∧ (win0_8.index t (0 : Fin 2) = t.val / 16 ∧ win0_8.index t (1 : Fin 2) = t.val % 16)
    ∧ (win0_9.index t (0 : Fin 2) = t.val / 16 ∧ win0_9.index t (1 : Fin 2) = 0) :=
  (by decide +kernel : ∀ t : Fin grid0.N, _)

theorem row_cast (v : FVec Ideal S2048 .f32) (k : Fin 2048) : shapeCast S1x2048 v shapeCasts_S2048_S1x2048 (ix2 0 k) = v (ix1 k) :=
  shapeCast_apply _ _ _ _ (by
    rewrite [Shape.rowMajor_val_one, Shape.rowMajor_val_two]
    show k.val = 0 * 2048 + k.val
    omega)

theorem pad_zero : (sitofp .f32 (constantI S_ 32 0#32) : FVec Ideal S_ .f32) (Shape.Idx.first h_S_) = (0 : EReal) := by
  show (((0#32 : BitVec 32).toInt : ℝ) : EReal) = 0
  simp

/-- A low-rank factor's columns, zero beyond the ninety-sixth. -/
theorem cols_pad (v : FVec Ideal S2048x96 .f32) (k : Fin 2048) (q : Fin 128) :
    (truncf .bf16 (pad S2048x128 ![0, 0] ![0, 32] ![0, 0] v (sitofp .f32 (constantI S_ 32 0#32) : FVec Ideal S_ .f32) pads_S2048x96_S2048x128_000_0320 h_S_) bitsLt_bf16_f32 : FVec Ideal S2048x128 .bf16) (ix2 k q)
      = if h : q.val < 96 then v (ix2 k ⟨q.val, h⟩) else (0 : EReal) := by
  show pad S2048x128 ![0, 0] ![0, 32] ![0, 0] v (sitofp .f32 (constantI S_ 32 0#32) : FVec Ideal S_ .f32) pads_S2048x96_S2048x128_000_0320 h_S_ (ix2 k q) = _
  by_cases h : q.val < 96
  · rw [dif_pos h]
    refine pad_apply_of_inside _ _ _ _ _ _ _ _ _ fun a => ?_
    match a with
    | ⟨0, _⟩ => show k.val = 0 + k.val * (0 + 1); omega
    | ⟨1, _⟩ => show q.val = 0 + q.val * (0 + 1); omega
  · rw [dif_neg h]
    refine (pad_apply_of_not_inside _ _ _ _ _ _ _ _ (1 : Fin 2) ?_).trans pad_zero
    rintro ⟨_, _, h3⟩
    have h3' : (q.val - 0) / (0 + 1) < 96 := h3
    omega

theorem V_mu_at (c : Dev nD) (L : Fin 16384) :
    (V m c main_v9 : FVec Ideal S1x16384 .f32) (ix2 0 L) = if h : L.val < 12288 then muA m c (ix1 ⟨L.val, h⟩) else (0 : EReal) := by
  rw [V_mu]
  by_cases h : L.val < 12288
  · rw [dif_pos h]
    refine (pad_apply_of_inside _ _ _ _ _ _ _ _ (ix2 0 (⟨L.val, h⟩ : Fin 12288)) fun a => ?_).trans ?_
    · match a with
      | ⟨0, _⟩ => show 0 = 0 + 0 * (0 + 1); omega
      | ⟨1, _⟩ => show L.val = 0 + L.val * (0 + 1); omega
    · exact shapeCast_apply _ _ _ _ (by
        rewrite [Shape.rowMajor_val_one, Shape.rowMajor_val_two]
        show L.val = 0 * 12288 + L.val
        omega)
  · rw [dif_neg h]
    refine (pad_apply_of_not_inside _ _ _ _ _ _ _ _ (1 : Fin 2) ?_).trans pad_zero
    rintro ⟨_, _, h3⟩
    have h3' : (L.val - 0) / (0 + 1) < 12288 := h3
    omega

theorem blk0 (c : Dev nD) (t : Fin cfg0.N) (r : Fin 1024) (k : Fin 2048) (R : Fin 16384) (h : R.val = t.val / 16 * 1024 + r.val) :
    (iblk m c 0 t : FVec Ideal S1024x2048 .f32) (ix2 r k) = xA m c (ix2 R k) := by
  refine Eq.trans ?_ (congrFun (V_main_arg0 m c) (ix2 R k))
  unfold iblk
  rw [View.read_apply]
  show V m c main_arg0 _ = V m c main_arg0 _
  congr 1
  funext a; apply Fin.ext
  have e := (idx_in t).1
  match a with
  | ⟨0, _⟩ => show win0_0.index t (0 : Fin 2) * 1024 + 1 * r.val = R.val; omega
  | ⟨1, _⟩ => show win0_0.index t (1 : Fin 2) * 2048 + 1 * k.val = k.val; omega

theorem blk1 (c : Dev nD) (t : Fin cfg0.N) (k : Fin 2048) : (iblk m c 1 t : FVec Ideal S1x2048 .f32) (ix2 0 k) = gA m c (ix1 k) := by
  refine Eq.trans ?_ ((congrFun (V_g m c) (ix2 0 k)).trans (row_cast _ k))
  unfold iblk
  rw [View.read_apply]
  show V m c main_v0 _ = V m c main_v0 _
  congr 1
  funext a; apply Fin.ext
  have e := (idx_in t).2.1
  match a with
  | ⟨0, _⟩ => show win0_1.index t (0 : Fin 2) * 1 + 1 * 0 = 0; omega
  | ⟨1, _⟩ => show win0_1.index t (1 : Fin 2) * 2048 + 1 * k.val = k.val; omega

theorem blk2 (c : Dev nD) (t : Fin cfg0.N) (k : Fin 2048) (l : Fin 1024) (L : Fin 16384) (h : L.val = t.val % 16 * 1024 + l.val) :
    (iblk m c 2 t : FVec Ideal S2048x1024 .bf16) (ix2 k l) = wA m c (ix2 k L) := by
  refine Eq.trans ?_ (congrFun (V_w m c) (ix2 k L))
  unfold iblk
  rw [View.read_apply]
  show V m c main_v1 _ = V m c main_v1 _
  congr 1
  funext a; apply Fin.ext
  have e := (idx_in t).2.2.1
  match a with
  | ⟨0, _⟩ => show win0_2.index t (0 : Fin 2) * 2048 + 1 * k.val = k.val; omega
  | ⟨1, _⟩ => show win0_2.index t (1 : Fin 2) * 1024 + 1 * l.val = L.val; omega

theorem blk3 (c : Dev nD) (t : Fin cfg0.N) (k : Fin 2048) : (iblk m c 3 t : FVec Ideal S1x2048 .f32) (ix2 0 k) = mwA m c (ix1 k) := by
  refine Eq.trans ?_ ((congrFun (V_mw m c) (ix2 0 k)).trans (row_cast _ k))
  unfold iblk
  rw [View.read_apply]
  show V m c main_v2 _ = V m c main_v2 _
  congr 1
  funext a; apply Fin.ext
  have e := (idx_in t).2.2.2.1
  match a with
  | ⟨0, _⟩ => show win0_3.index t (0 : Fin 2) * 1 + 1 * 0 = 0; omega
  | ⟨1, _⟩ => show win0_3.index t (1 : Fin 2) * 2048 + 1 * k.val = k.val; omega

theorem blk4 (c : Dev nD) (t : Fin cfg0.N) (k : Fin 2048) : (iblk m c 4 t : FVec Ideal S1x2048 .f32) (ix2 0 k) = maA m c (ix1 k) := by
  refine Eq.trans ?_ ((congrFun (V_ma m c) (ix2 0 k)).trans (row_cast _ k))
  unfold iblk
  rw [View.read_apply]
  show V m c main_v3 _ = V m c main_v3 _
  congr 1
  funext a; apply Fin.ext
  have e := (idx_in t).2.2.2.2.1
  match a with
  | ⟨0, _⟩ => show win0_4.index t (0 : Fin 2) * 1 + 1 * 0 = 0; omega
  | ⟨1, _⟩ => show win0_4.index t (1 : Fin 2) * 2048 + 1 * k.val = k.val; omega

theorem blk5 (c : Dev nD) (t : Fin cfg0.N) (k : Fin 2048) (q : Fin 128) :
    (iblk m c 5 t : FVec Ideal S2048x128 .bf16) (ix2 k q) = if h : q.val < 96 then w1A m c (ix2 k ⟨q.val, h⟩) else (0 : EReal) := by
  refine Eq.trans ?_ ((congrFun (V_w1 m c) (ix2 k q)).trans (cols_pad _ k q))
  unfold iblk
  rw [View.read_apply]
  show V m c main_v5 _ = V m c main_v5 _
  congr 1
  funext a; apply Fin.ext
  have e := (idx_in t).2.2.2.2.2.1
  match a with
  | ⟨0, _⟩ => show win0_5.index t (0 : Fin 2) * 2048 + 1 * k.val = k.val; omega
  | ⟨1, _⟩ => show win0_5.index t (1 : Fin 2) * 128 + 1 * q.val = q.val; omega

theorem blk6 (c : Dev nD) (t : Fin cfg0.N) (k : Fin 2048) (q : Fin 128) :
    (iblk m c 6 t : FVec Ideal S2048x128 .bf16) (ix2 k q) = if h : q.val < 96 then a1A m c (ix2 k ⟨q.val, h⟩) else (0 : EReal) := by
  refine Eq.trans ?_ ((congrFun (V_a1 m c) (ix2 k q)).trans (cols_pad _ k q))
  unfold iblk
  rw [View.read_apply]
  show V m c main_v7 _ = V m c main_v7 _
  congr 1
  funext a; apply Fin.ext
  have e := (idx_in t).2.2.2.2.2.2.1
  match a with
  | ⟨0, _⟩ => show win0_6.index t (0 : Fin 2) * 2048 + 1 * k.val = k.val; omega
  | ⟨1, _⟩ => show win0_6.index t (1 : Fin 2) * 128 + 1 * q.val = q.val; omega

theorem blk7 (c : Dev nD) (t : Fin cfg0.N) (l : Fin 1024) (L : Fin 16384) (h : L.val = t.val % 16 * 1024 + l.val) :
    (iblk m c 7 t : FVec Ideal S1x1024 .f32) (ix2 0 l) = if h : L.val < 12288 then muA m c (ix1 ⟨L.val, h⟩) else (0 : EReal) := by
  refine Eq.trans ?_ (V_mu_at m c L)
  unfold iblk
  rw [View.read_apply]
  show V m c main_v9 _ = V m c main_v9 _
  congr 1
  funext a; apply Fin.ext
  have e := (idx_in t).2.2.2.2.2.2.2.1
  match a with
  | ⟨0, _⟩ => show win0_7.index t (0 : Fin 2) * 1 + 1 * 0 = 0; omega
  | ⟨1, _⟩ => show win0_7.index t (1 : Fin 2) * 1024 + 1 * l.val = L.val; omega

end Cert.In1Ideal.Main

end
-- ==== Proof.In1Point.lean ====
/- The tiles a grid point of the second layer's input projection stores, at an index. -/
module

public import proofs.«01_k».proof.Proof.In1Blocks

@[expose] public section

noncomputable section

namespace Cert.In1Ideal.Main

open Cert.In1Ideal Cert.In1Ideal.Gen Idealize.ShloMosaic Idealize.ShloMosaic.TcCoe Idealize.SL.Sem

variable (m : (ℓ : Loc nD τ sig) → Buf (Elt Ideal) ℓ)

/-- The normalized rows of a point's blocks are the arrays' normalized rows. -/
theorem norm_at (c : Dev nD) (t : Fin cfg0.N) (r : Fin 1024) (k : Fin 2048) (R : Fin 16384) (h : R.val = t.val / 16 * 1024 + r.val) :
    k0_pay2 (F := Ideal) (iblk m c 0 t) (iblk m c 1 t) (ix2 r k) = hN (xA m c) (gA m c) k R := by
  refine (pay2_apply _ _ r k).trans ?_
  unfold hN
  simp only [blk0 m c t r _ R h, blk1 m c t]

theorem rows_at (c : Dev nD) (t : Fin cfg0.N) (r : Fin 1024) (k : Fin 2048) (R : Fin 16384) (h : R.val = t.val / 16 * 1024 + r.val) :
    (rows m c t : FVec Ideal S1024x2048 .bf16) (ix2 r k) = hN (xA m c) (gA m c) k R := by
  unfold rows
  exact (pay3_apply _ _ r k).trans (norm_at m c (hd t) r k R (by show R.val = (t.val - t.val % 16) / 16 * 1024 + r.val; omega))

theorem lastRow_at (c : Dev nD) (t : Fin cfg0.N) (k : Fin 2048) (R : Fin 16384) (h : R.val = t.val / 16 * 1024 + 1023) :
    (lastRow m c t : FVec Ideal S1x2048 .f32) (ix2 0 k) = hN (xA m c) (gA m c) k R := by
  unfold lastRow
  exact (pay4_apply _ _ k).trans (norm_at m c (hd t) 1023 k R (by show R.val = (t.val - t.val % 16) / 16 * 1024 + 1023; omega))

/-- The product's tile. -/
theorem prod_at (c : Dev nD) (t : Fin cfg0.N) (r l : Fin 1024) (R L : Fin 16384) (h : R.val = t.val / 16 * 1024 + r.val)
    (hL : L.val = t.val % 16 * 1024 + l.val) :
    k0_pay9 (F := Ideal) (rows m c t) (iblk m c 2 t) (ix2 r l) = uN (xA m c) (gA m c) (wA m c) L R := by
  refine (pay9_apply _ _ r l).trans ?_
  unfold uN
  simp only [rows_at m c t r _ R h, blk2 m c t _ l L hL]

theorem lastProd_at (c : Dev nD) (t : Fin cfg0.N) (l : Fin 1024) (R L : Fin 16384) (h : R.val = t.val / 16 * 1024 + 1023)
    (hL : L.val = t.val % 16 * 1024 + l.val) :
    (lastProd m c t : FVec Ideal S1x1x1024 .f32) (ix3 0 0 l) = uN (xA m c) (gA m c) (wA m c) L R := by
  unfold lastProd
  exact (pay11_apply _ _ l).trans (prod_at m c t 1023 l R L h hL)

/-- The shifted product is the product's row before. -/
theorem before_at (c : Dev nD) (t : Fin cfg0.N) (r l : Fin 1024) (R L : Fin 16384) (h : R.val = t.val / 16 * 1024 + r.val)
    (hL : L.val = t.val % 16 * 1024 + l.val) :
    k0_pay10 (F := Ideal) (grid0.coords t) (rows m c t) (iblk m c 2 t) (lastProd m c (up t)) (ix2 r l)
      = before1 (uN (xA m c) (gA m c) (wA m c) L) R := by
  have ht := points t
  have hc := coord0 t
  unfold before1
  by_cases hr : r.val = 0
  · obtain rfl : r = 0 := Fin.ext hr
    refine (pay10_first _ _ _ _ l).trans ?_
    have h0 : R.val = t.val / 16 * 1024 + 0 := h
    by_cases hb : t.val / 16 % 4 = 0
    · rw [if_pos (by omega), if_pos (by omega)]
    · rw [if_neg (by omega), if_neg (by omega)]
      exact lastProd_at m c (up t) l ⟨R.val - 1, by omega⟩ L (by show R.val - 1 = (t.val - 16) / 16 * 1024 + 1023; omega)
        (by show L.val = (t.val - 16) % 16 * 1024 + l.val; omega)
  · refine (pay10_next _ _ _ _ r (by omega) l).trans ?_
    rw [if_neg (by omega)]
    exact prod_at m c t ⟨r.val - 1, by omega⟩ l ⟨R.val - 1, by omega⟩ L (by show R.val - 1 = t.val / 16 * 1024 + (r.val - 1); omega) hL

/-- The tile of the first result. -/
theorem outAt_at (c : Dev nD) (t : Fin cfg0.N) (r l : Fin 1024) (R L : Fin 16384) (h : R.val = t.val / 16 * 1024 + r.val)
    (hL : L.val = t.val % 16 * 1024 + l.val) :
    (outAt m c t : FVec Ideal S1024x1024 .f32) (ix2 r l) = uSpec (xA m c) (gA m c) (wA m c) (muA m c) R L := by
  have e : (outAt m c t : FVec Ideal S1024x1024 .f32) (ix2 r l)
      = uN (xA m c) (gA m c) (wA m c) L R + (before1 (uN (xA m c) (gA m c) (wA m c) L) R - uN (xA m c) (gA m c) (wA m c) L R)
        * (iblk m c 7 t : FVec Ideal S1x1024 .f32) (ix2 0 l) := by
    unfold outAt outTile
    refine (pay1_apply _ _ _ r l).trans ?_
    rw [prod_at m c t r l R L h hL, before_at m c t r l R L h hL]
  rw [e, blk7 m c t l L hL]
  unfold uSpec mixed
  split
  · rfl
  · rw [mul_zero, add_zero]

/-- The shifted rows less the rows. -/
theorem diff_at (c : Dev nD) (t : Fin cfg0.N) (r : Fin 1024) (k : Fin 2048) (R : Fin 16384) (h : R.val = t.val / 16 * 1024 + r.val) :
    k0_pay5 (F := Ideal) (begins (grid0.coords t)) (iblk m c 0 t) (iblk m c 1 t) (lastRow m c (up t)) (ix2 r k)
      = before1 (hN (xA m c) (gA m c) k) R - hN (xA m c) (gA m c) k R := by
  have ht := points t
  have hc := coord0 t
  unfold before1
  by_cases hr : r.val = 0
  · obtain rfl : r = 0 := Fin.ext hr
    refine (pay5_first _ _ _ _ k).trans ?_
    have h0 : R.val = t.val / 16 * 1024 + 0 := h
    rw [norm_at m c t 0 k R h]
    by_cases hb : t.val / 16 % 4 = 0
    · rw [if_pos (by omega), if_pos (by omega)]
    · rw [if_neg (by omega), if_neg (by omega)]
      rw [lastRow_at m c (up t) k ⟨R.val - 1, by omega⟩ (by show R.val - 1 = (t.val - 16) / 16 * 1024 + 1023; omega)]
  · refine (pay5_next _ _ _ _ r (by omega) k).trans ?_
    rw [if_neg (by omega), norm_at m c t r k R h,
      norm_at m c t ⟨r.val - 1, by omega⟩ k ⟨R.val - 1, by omega⟩ (by show R.val - 1 = t.val / 16 * 1024 + (r.val - 1); omega)]

/-- The tile of the second result. -/
theorem loAt0_at (c : Dev nD) (t : Fin cfg0.N) (r : Fin 1024) (l : Fin 256) (R : Fin 16384) (h : R.val = t.val / 16 * 1024 + r.val) :
    (loAt0 m c t : FVec Ideal S1024x256 .f32) (ix2 r l)
      = loSpec (xA m c) (gA m c) (mwA m c) (maA m c) (w1A m c) (a1A m c) R l := by
  unfold loAt0 loSpec
  by_cases hl : l.val < 128
  · refine (lo_left _ _ _ _ _ _ _ _ r l hl).trans ((pay7_apply _ _ r _).trans ?_)
    by_cases h96 : l.val < 96
    · rw [dif_pos h96]
      unfold lowN mixed
      refine congrArg Ideal.tanh (Finset.sum_congr rfl fun k _ => ?_)
      rw [pay6_apply, norm_at m c t r k R h, diff_at m c t r k R h, blk3, blk5, dif_pos h96]
    · rw [dif_neg h96, dif_neg (by omega)]
      refine (congrArg Ideal.tanh (Finset.sum_eq_zero fun k _ => ?_)).trans ?_
      · rw [blk5, dif_neg h96, mul_zero]
      · show ((Real.tanh 0 : ℝ) : EReal) = 0
        rw [Real.tanh_zero]; rfl
  · rw [dif_neg (by omega)]
    refine (lo_right _ _ _ _ _ _ _ _ r l (by omega)).trans ((pay8_apply _ _ _ _ r _).trans ?_)
    by_cases h224 : l.val < 224
    · rw [dif_pos ⟨by omega, h224⟩]
      unfold lowN mixed
      refine Finset.sum_congr rfl fun k _ => ?_
      rw [norm_at m c t r k R h, diff_at m c t r k R h, blk4, blk6, dif_pos (show l.val - 128 < 96 by omega)]
    · rw [dif_neg (by omega)]
      refine Finset.sum_eq_zero fun k _ => ?_
      rw [blk6, dif_neg (show ¬l.val - 128 < 96 by omega), mul_zero]

theorem loAt_at (c : Dev nD) (t : Fin cfg0.N) (r : Fin 1024) (l : Fin 256) (R : Fin 16384) (h : R.val = t.val / 16 * 1024 + r.val) :
    (loAt m c t : FVec Ideal S1024x256 .f32) (ix2 r l)
      = loSpec (xA m c) (gA m c) (mwA m c) (maA m c) (w1A m c) (a1A m c) R l := by
  unfold loAt
  exact loAt0_at m c (hd t) r l R (by show R.val = (t.val - t.val % 16) / 16 * 1024 + r.val; omega)

end Cert.In1Ideal.Main

end
-- ==== Proof.In1Ref.lean ====
/- The reference's two results at an index. -/
module

public import proofs.«01_k».proof.Proof.In1Spec
public import proofs.«01_k».proof.Proof.Gen.In1RefIdeal.Run
public import proofs.«01_k».proof.Proof.Gen.In1RefIdeal.Read

@[expose] public section

noncomputable section

namespace Cert.In1RefIdeal.Main

open Cert.In1RefIdeal Cert.In1RefIdeal.Read Idealize.ShloMosaic Cert.In1Ideal.Main

/-- The row of the flat array that batch entry `b` and position `s` name. -/
abbrev flat (b : Fin 4) (s : Fin 4096) : Fin 16384 := ⟨b.val * 4096 + s.val, by omega⟩

theorem x_at (x : FVec Ideal S16384x2048 .f32) (b : Fin 4) (s : Fin 4096) (k : Fin 2048) :
    val_main_v0 (F := Ideal) x (ix3 b s k) = x (ix2 (flat b s) k) := by
  rw [val_main_v0_apply]
  congr 1
  funext a; apply Fin.ext
  match a with
  | ⟨0, _⟩ => show ((b.val * 4096 + s.val) * 2048 + k.val) / 2048 = b.val * 4096 + s.val; omega
  | ⟨1, _⟩ => show ((b.val * 4096 + s.val) * 2048 + k.val) % 2048 = k.val; omega

theorem h_at (x : FVec Ideal S16384x2048 .f32) (g : FVec Ideal S2048 .f32) (b : Fin 4) (s : Fin 4096) (k : Fin 2048) :
    val_main_v13 (F := Ideal) x g (ix3 b s k) = hN x g k (flat b s) := by
  have e : ∀ k, x (ix2 (flat b s) k) = val_main_v0 (F := Ideal) x (ix3 b s k) := fun k => (x_at x b s k).symm
  unfold hN
  simp only [e]
  pointwise [val_main_v13, val_main_v12, val_main_v11, val_main_v10, val_main_v9, val_main_v8, val_main_v7, val_main_v6, val_main_v5,
    val_main_v4, val_main_v3, val_main_v2, val_main_v1, val_main_cst, val_main_cst_0, val_main_cst_1]
  rfl

theorem u_at (x : FVec Ideal S16384x2048 .f32) (g : FVec Ideal S2048 .f32) (w : FVec Ideal S2048x16384 .f32) (b : Fin 4) (s : Fin 4096) (L : Fin 16384) :
    val_main_v14 (F := Ideal) x g w (ix3 b s L) = uN x g w L (flat b s) := by
  unfold uN
  simp only [← h_at]
  unfold val_main_v14
  generalize val_main_v13 (F := Ideal) x g = y
  pointwise [dot_S4x4096x2048_S2048x16384_S4x4096x16384_2_0_01_1_n_n]

theorem zero_pad (φ : FTy) : (FloatOps.sitofp φ (0#32 : BitVec 32) : Ideal φ) = (0 : EReal) := by
  show (((0#32 : BitVec 32).toInt : ℝ) : EReal) = 0
  simp

/-- A row's predecessor, as slice and pad state it. -/
theorem shift_at {n : ℕ} (y : FVec Ideal ⟨3, ![4, 4096, n]⟩ .f32) (z : FVec Ideal S_ .f32) (hs) (hp) (hz)
    (hz0 : ∀ i, z i = (0 : EReal)) (b : Fin 4) (s : Fin 4096) (l : Fin n) :
    pad (s := ⟨3, ![4, 4095, n]⟩) ⟨3, ![4, 4096, n]⟩ ![0, 1, 0] ![0, 0, 0] ![0, 0, 0] (extractStridedSlice ⟨3, ![4, 4095, n]⟩ ![0, 0, 0] y hs) z hp hz (ix3 b s l)
      = if h : s.val = 0 then (0 : EReal) else y (ix3 b ⟨s.val - 1, by omega⟩ l) := by
  pointwise []
  by_cases h : s.val = 0
  · rw [dif_neg (by omega), dif_pos h]
    exact hz0 _
  · rw [dif_pos (by omega), dif_neg h]
    refine congrArg y (funext fun a => Fin.ext ?_)
    match a with
    | ⟨0, _⟩ => show 0 + (b.val - 0) / (0 + 1) = b.val; omega
    | ⟨1, _⟩ => show 0 + (s.val - 1) / (0 + 1) = s.val - 1; omega
    | ⟨2, _⟩ => show 0 + (l.val - 0) / (0 + 1) = l.val; omega

/-- The row before in the flat array. -/
theorem before_flat (f : Fin 16384 → EReal) (b : Fin 4) (s : Fin 4096) :
    before1 f (flat b s) = if h : s.val = 0 then (0 : EReal) else f (flat b ⟨s.val - 1, by omega⟩) := by
  unfold before1
  by_cases h : s.val = 0
  · rw [if_pos (show (b.val * 4096 + s.val) % 4096 = 0 by omega), dif_pos h]
  · rw [if_neg (show ¬(b.val * 4096 + s.val) % 4096 = 0 by omega), dif_neg h]
    exact congrArg f (Fin.ext (show b.val * 4096 + s.val - 1 = b.val * 4096 + (s.val - 1) by omega))

theorem rkv_at (x : FVec Ideal S16384x2048 .f32) (g : FVec Ideal S2048 .f32) (w : FVec Ideal S2048x16384 .f32) (b : Fin 4) (s : Fin 4096) (L : Fin 12288) :
    val_main_v15 (F := Ideal) x g w (ix3 b s L) = uN x g w ⟨L.val, by omega⟩ (flat b s) := by
  rw [val_main_v15_apply, ← u_at]
  exact congrArg _ (funext fun a => match a with
    | ⟨0, _⟩ => Fin.ext (by show _ = b.val; first | rfl | omega)
    | ⟨1, _⟩ => Fin.ext (by show _ = s.val; first | rfl | omega)
    | ⟨2, _⟩ => Fin.ext (by show _ = L.val; first | rfl | omega))

theorem mixed_u_at (x : FVec Ideal S16384x2048 .f32) (g : FVec Ideal S2048 .f32) (w : FVec Ideal S2048x16384 .f32) (mu : FVec Ideal S12288 .f32)
    (b : Fin 4) (s : Fin 4096) (L : Fin 12288) :
    val_main_v23 (F := Ideal) x g w mu (ix3 b s L) = mixed (uN x g w ⟨L.val, by omega⟩) (mu (ix1 L)) (flat b s) := by
  have e18 : val_main_v18 (F := Ideal) x g w (ix3 b s L) = before1 (uN x g w ⟨L.val, by omega⟩) (flat b s) := by
    rw [before_flat]
    unfold val_main_v18 val_main_v17
    refine (shift_at (n := 12288) _ _ _ _ _ (fun i => zero_pad _) b s L).trans ?_
    simp only [rkv_at]
  have e21 : val_main_v21 (F := Ideal) mu (ix3 b s L) = mu (ix1 L) := by
    pointwise [val_main_v21, val_main_v20]
  unfold val_main_v23 val_main_v22 val_main_v19 mixed
  rw [← e18, ← e21, ← rkv_at]
  rfl

theorem mixed_w_at (x : FVec Ideal S16384x2048 .f32) (g mu : FVec Ideal S2048 .f32) (b : Fin 4) (s : Fin 4096) (k : Fin 2048) :
    val_main_v30 (F := Ideal) x g mu (ix3 b s k) = mixed (hN x g k) (mu (ix1 k)) (flat b s) := by
  have e25 : val_main_v25 (F := Ideal) x g (ix3 b s k) = before1 (hN x g k) (flat b s) := by
    rw [before_flat]
    unfold val_main_v25 val_main_v24
    refine (shift_at (n := 2048) _ _ _ _ _ (fun i => zero_pad _) b s k).trans ?_
    simp only [h_at]
  have e28 : val_main_v28 (F := Ideal) mu (ix3 b s k) = mu (ix1 k) := by
    pointwise [val_main_v28, val_main_v27]
  unfold val_main_v30 val_main_v29 val_main_v26 mixed
  rw [← e25, ← e28, ← h_at]
  rfl

/-- The second mixing is the first with the other weights. -/
theorem mixed_a_at (x : FVec Ideal S16384x2048 .f32) (g mu : FVec Ideal S2048 .f32) (b : Fin 4) (s : Fin 4096) (k : Fin 2048) :
    val_main_v34 (F := Ideal) x g mu (ix3 b s k) = mixed (hN x g k) (mu (ix1 k)) (flat b s) :=
  (show val_main_v34 (F := Ideal) x g mu (ix3 b s k) = val_main_v30 (F := Ideal) x g mu (ix3 b s k) from rfl).trans (mixed_w_at x g mu b s k)

theorem lw_at (x : FVec Ideal S16384x2048 .f32) (g mu : FVec Ideal S2048 .f32) (a : FVec Ideal S2048x96 .f32) (b : Fin 4) (s : Fin 4096) (q : Fin 96) :
    val_main_v36 (F := Ideal) x g mu a (ix3 b s q) = Ideal.tanh (lowN x g mu a q (flat b s)) := by
  unfold lowN
  simp only [← mixed_w_at]
  unfold val_main_v36 val_main_v35
  generalize val_main_v30 (F := Ideal) x g mu = y
  pointwise [dot_S4x4096x2048_S2048x96_S4x4096x96_2_0_01_1_n_n]

theorem la_at (x : FVec Ideal S16384x2048 .f32) (g mu : FVec Ideal S2048 .f32) (a : FVec Ideal S2048x96 .f32) (b : Fin 4) (s : Fin 4096) (q : Fin 96) :
    val_main_v38 (F := Ideal) x g mu a (ix3 b s q) = lowN x g mu a q (flat b s) := by
  unfold lowN
  simp only [← mixed_a_at]
  unfold val_main_v38
  generalize val_main_v34 (F := Ideal) x g mu = y
  pointwise [dot_S4x4096x2048_S2048x96_S4x4096x96_2_0_01_1_n_n]

/-- The first result. -/
theorem out_u (x : FVec Ideal S16384x2048 .f32) (g : FVec Ideal S2048 .f32) (w : FVec Ideal S2048x16384 .f32) (mu : FVec Ideal S12288 .f32)
    (b : Fin 4) (s : Fin 4096) (L : Fin 16384) :
    val_main_v41 (F := Ideal) x g w mu (ix2 (flat b s) L) = uSpec x g w mu (flat b s) L := by
  have e : idx_main_v41 (ix2 (flat b s) L) = ix3 b s L := by
    funext a; apply Fin.ext
    match a with
    | ⟨0, _⟩ => show ((b.val * 4096 + s.val) * 16384 + L.val) / 67108864 = b.val; omega
    | ⟨1, _⟩ => show ((b.val * 4096 + s.val) * 16384 + L.val) / 16384 % 4096 = s.val; omega
    | ⟨2, _⟩ => show ((b.val * 4096 + s.val) * 16384 + L.val) % 16384 = L.val; omega
  rw [val_main_v41_apply, e]
  unfold uSpec val_main_v40
  by_cases h : L.val < 12288
  · rw [dif_pos h, ← mixed_u_at x g w mu b s ⟨L.val, h⟩]
    generalize val_main_v23 (F := Ideal) x g w mu = y
    generalize val_main_v16 (F := Ideal) x g w = z
    pointwise []
    exact dif_pos h
  · have e16 : val_main_v16 (F := Ideal) x g w (ix3 b s ⟨L.val - 12288, by omega⟩) = uN x g w L (flat b s) := by
      rw [val_main_v16_apply, ← u_at]
      refine congrArg _ (funext fun a => Fin.ext ?_)
      match a with
      | ⟨0, _⟩ => show _ = b.val; first | rfl | omega
      | ⟨1, _⟩ => show _ = s.val; first | rfl | omega
      | ⟨2, _⟩ => show 12288 + (L.val - 12288) = L.val; omega
    rw [dif_neg h, ← e16]
    generalize val_main_v23 (F := Ideal) x g w mu = y
    generalize val_main_v16 (F := Ideal) x g w = z
    pointwise []
    rw [dif_neg h]

/-- The second result. -/
theorem out_lo (x : FVec Ideal S16384x2048 .f32) (g muw mua : FVec Ideal S2048 .f32) (w1 a1 : FVec Ideal S2048x96 .f32)
    (b : Fin 4) (s : Fin 4096) (l : Fin 256) :
    val_main_v43 (F := Ideal) x g muw mua w1 a1 (ix2 (flat b s) l) = loSpec x g muw mua w1 a1 (flat b s) l := by
  have e : idx_main_v43 (ix2 (flat b s) l) = ix3 b s l := by
    funext a; apply Fin.ext
    match a with
    | ⟨0, _⟩ => show ((b.val * 4096 + s.val) * 256 + l.val) / 1048576 = b.val; omega
    | ⟨1, _⟩ => show ((b.val * 4096 + s.val) * 256 + l.val) / 256 % 4096 = s.val; omega
    | ⟨2, _⟩ => show ((b.val * 4096 + s.val) * 256 + l.val) % 256 = l.val; omega
  have z2 : ∀ i, val_main_call2_v0 (F := Ideal) i = (0 : EReal) := fun i => zero_pad _
  have z3 : ∀ i, val_main_call3_v0 (F := Ideal) i = (0 : EReal) := fun i => zero_pad _
  rw [val_main_v43_apply, e]
  unfold loSpec val_main_v42 val_main_v37 val_main_v39
  simp only [← lw_at]
  simp only [← la_at]
  generalize val_main_v36 (F := Ideal) x g muw w1 = y
  generalize val_main_v38 (F := Ideal) x g mua a1 = z
  generalize val_main_call2_v0 (F := Ideal) = p at z2
  generalize val_main_call3_v0 (F := Ideal) = q at z3
  by_cases h : l.val < 96
  · rw [dif_pos h]
    pointwise []
    rw [dif_pos (by omega)]
    exact dif_pos (by omega)
  · rw [dif_neg h]
    by_cases h' : 128 ≤ l.val ∧ l.val < 224
    · rw [dif_pos h']
      pointwise []
      rw [dif_neg (by omega)]
      exact dif_pos (by omega)
    · rw [dif_neg h']
      pointwise []
      by_cases h2 : l.val < 128
      · rw [dif_pos h2, dif_neg (by omega)]
        exact z2 _
      · rw [dif_neg h2, dif_neg (by omega)]
        exact z3 _

end Cert.In1RefIdeal.Main

end
-- ==== Proof.In1Value.lean ====
/- What the second layer's input projection leaves in its two result arrays, and that the reference leaves the same. -/
module

public import proofs.«01_k».proof.Proof.In1Point
public import proofs.«01_k».proof.Proof.In1Ref

@[expose] public section

noncomputable section

namespace Cert.In1Ideal.Main

open Cert.In1Ideal Cert.In1Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first result's array. -/
def G8 (c : Dev nD) : FVec Ideal S16384x16384 .f32 := fun i => uSpec (xA m c) (gA m c) (wA m c) (muA m c) (i 0) (i 1)
/-- The second result's array. -/
def G9 (c : Dev nD) : FVec Ideal S16384x256 .f32 := fun i => loSpec (xA m c) (gA m c) (mwA m c) (maA m c) (w1A m c) (a1A m c) (i 0) (i 1)

theorem flushed8 (c : Dev nD) (t : Fin cfg0.N) : (dats m 0 c).flushed 8 t = ((cfg0.win 8).blk t).view.read (Elt Ideal) (G8 m c) := by
  show (cfg0.win 8).cut (grid0.coords t) ((dats m 0 c).after 8 t) = _
  rw [after_8]
  have e := (idx_in t).2.2.2.2.2.2.2.2.1
  have ht := points t
  funext y
  have hy0 : (y 0).val < 1024 := (y 0).isLt
  have hy1 : (y 1).val < 1024 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 1024 + 1 * (y 1).val := rfl
  have hl : (cfg0.win 8).xinj (grid0.coords t) y = ix2 (⟨(y 0).val, hy0⟩ : Fin 1024) (⟨(y 1).val, hy1⟩ : Fin 1024) :=
    funext fun a => match a with
      | ⟨0, _⟩ => rfl
      | ⟨1, _⟩ => rfl
  show (outAt m c t : FVec Ideal S1024x1024 .f32) ((cfg0.win 8).xinj (grid0.coords t) y) = G8 m c (((cfg0.win 8).blk t).view.emb y)
  rw [hl]
  exact outAt_at m c t _ _ _ _ (by rw [hb0]; show _ = t.val / 16 * 1024 + (y 0).val; omega) (by rw [hb1]; show _ = t.val % 16 * 1024 + (y 1).val; omega)

theorem flushed9 (c : Dev nD) (t : Fin cfg0.N) : (dats m 0 c).flushed 9 t = ((cfg0.win 9).blk t).view.read (Elt Ideal) (G9 m c) := by
  show (cfg0.win 9).cut (grid0.coords t) ((dats m 0 c).after 9 t) = _
  rw [after_9]
  have e := (idx_in t).2.2.2.2.2.2.2.2.2
  have ht := points t
  funext y
  have hy0 : (y 0).val < 1024 := (y 0).isLt
  have hy1 : (y 1).val < 256 := (y 1).isLt
  have hb0 : (((cfg0.win 9).blk t).view.emb y 0).val = win0_9.index t (0 : Fin 2) * 1024 + 1 * (y 0).val := rfl
  have hb1 : (((cfg0.win 9).blk t).view.emb y 1).val = win0_9.index t (1 : Fin 2) * 256 + 1 * (y 1).val := rfl
  have hl : (cfg0.win 9).xinj (grid0.coords t) y = ix2 (⟨(y 0).val, hy0⟩ : Fin 1024) (((cfg0.win 9).blk t).view.emb y 1 : Fin 256) :=
    funext fun a => match a with
      | ⟨0, _⟩ => rfl
      | ⟨1, _⟩ => Fin.ext (by show (y 1).val = (((cfg0.win 9).blk t).view.emb y 1).val; rw [hb1]; omega)
  show (loAt m c t : FVec Ideal S1024x256 .f32) ((cfg0.win 9).xinj (grid0.coords t) y) = G9 m c (((cfg0.win 9).blk t).view.emb y)
  rw [hl]
  exact loAt_at m c t _ _ _ (by rw [hb0]; show _ = t.val / 16 * 1024 + (y 0).val; omega)

theorem mem_blk8 (t : Fin cfg0.N) (i : S16384x16384.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v10_0).slice (win0_8.rect t)).set ↔ _
  rw [View.set_slice_whole, Rect.mem_set_unit]
  exact Iff.rfl

theorem mem_blk9 (t : Fin cfg0.N) (i : S16384x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v10_1).slice (win0_9.rect t)).set ↔ _
  rw [View.set_slice_whole, Rect.mem_set_unit]
  exact Iff.rfl

theorem flush_8 : ∀ t : Fin cfg0.N, (cfg0.win 8).flush t = true := (by decide +kernel : ∀ t : Fin grid0.N, win0_8.flush t = true)

/-- The tiles cover the first result. -/
theorem final8 (c : Dev nD) : (dats m 0 c).arrAt 8 cfg0.N = G8 m c :=
  (dats m 0 c).arrAt_eq_of_cover 8 _ (fun t _ => flushed8 m c t) (fun i => by
    have hN : cfg0.N = 256 := N_0
    have h0 : (i 0).val < 16384 := (i 0).isLt
    have h1 : (i 1).val < 16384 := (i 1).isLt
    have e := (idx_in ⟨16 * ((i 0).val / 1024) + (i 1).val / 1024, by omega⟩).2.2.2.2.2.2.2.2.1
    dsimp only at e
    refine ⟨⟨16 * ((i 0).val / 1024) + (i 1).val / 1024, by omega⟩, flush_8 _, ?_⟩
    rw [mem_blk8]
    intro a
    match a with
    | ⟨0, _⟩ => show win0_8.index _ (0 : Fin 2) * 1024 ≤ (i 0).val ∧ (i 0).val < win0_8.index _ (0 : Fin 2) * 1024 + 1024; rw [e.1]; omega
    | ⟨1, _⟩ => show win0_8.index _ (1 : Fin 2) * 1024 ≤ (i 1).val ∧ (i 1).val < win0_8.index _ (1 : Fin 2) * 1024 + 1024; rw [e.2]; omega)

/-- … and the row tiles the second, each written back at its last point. -/
theorem final9 (c : Dev nD) : (dats m 0 c).arrAt 9 cfg0.N = G9 m c :=
  (dats m 0 c).arrAt_eq_of_cover 9 _ (fun t _ => flushed9 m c t) (fun i => by
    have hN : cfg0.N = 256 := N_0
    have h0 : (i 0).val < 16384 := (i 0).isLt
    have h1 : (i 1).val < 256 := (i 1).isLt
    have e := (idx_in ⟨16 * ((i 0).val / 1024) + 15, by omega⟩).2.2.2.2.2.2.2.2.2
    dsimp only at e
    refine ⟨⟨16 * ((i 0).val / 1024) + 15, by omega⟩, (flush_9 _).trans (decide_eq_true (by show (16 * ((i 0).val / 1024) + 15) % 16 = 15; omega)), ?_⟩
    rw [mem_blk9]
    intro a
    match a with
    | ⟨0, _⟩ => show win0_9.index _ (0 : Fin 2) * 1024 ≤ (i 0).val ∧ (i 0).val < win0_9.index _ (0 : Fin 2) * 1024 + 1024; rw [e.1]; omega
    | ⟨1, _⟩ => show win0_9.index _ (1 : Fin 2) * 256 ≤ (i 1).val ∧ (i 1).val < win0_9.index _ (1 : Fin 2) * 256 + 256; rw [e.2]; omega)

/-- The run: both results at what the arrays name, the arguments unchanged. -/
theorem run_value : θ_run defs (onTc (τ := τ) (main (F := Ideal))) ⟨m, fun _ => 0, ρ⟩ (fun r => ∀ c : Dev nD,
      r.2.mem ((c.tc : Thread nD τ).loc main_v10_0) = G8 m c
      ∧ r.2.mem ((c.tc : Thread nD τ).loc main_v10_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.2 c).1 8).trans (final8 m c), ((h.2 c).1 9).trans (final9 m c), h.1 c⟩)
    (θ_run_and (frame_of m ρ (dats m) (A_eq m) (run_all m ρ)) (run_all m ρ))

/-- The reference's first result is the same array. -/
theorem G8_eq (c : Dev nD) : G8 m c = Cert.In1RefIdeal.Read.val_main_v41 (F := Ideal) (xA m c) (gA m c) (wA m c) (muA m c) := by
  funext i
  obtain ⟨R, L, rfl⟩ : ∃ (R : Fin 16384) (L : Fin 16384), i = ix2 R L := ⟨i 0, i 1, eq_ix2 i⟩
  have hR := R.isLt
  have e : R = Cert.In1RefIdeal.Main.flat ⟨R.val / 4096, by omega⟩ ⟨R.val % 4096, by omega⟩ :=
    Fin.ext (by show R.val = R.val / 4096 * 4096 + R.val % 4096; omega)
  rw [e]
  exact (Cert.In1RefIdeal.Main.out_u _ _ _ _ _ _ L).symm

/-- … and its second. -/
theorem G9_eq (c : Dev nD) : G9 m c = Cert.In1RefIdeal.Read.val_main_v43 (F := Ideal) (xA m c) (gA m c) (mwA m c) (maA m c) (w1A m c) (a1A m c) := by
  funext i
  obtain ⟨R, L, rfl⟩ : ∃ (R : Fin 16384) (L : Fin 256), i = ix2 R L := ⟨i 0, i 1, eq_ix2 i⟩
  have hR := R.isLt
  have e : R = Cert.In1RefIdeal.Main.flat ⟨R.val / 4096, by omega⟩ ⟨R.val % 4096, by omega⟩ :=
    Fin.ext (by show R.val = R.val / 4096 * 4096 + R.val % 4096; omega)
  rw [e]
  exact (Cert.In1RefIdeal.Main.out_lo _ _ _ _ _ _ _ _ L).symm

end Cert.In1Ideal.Main

end
-- ==== Proof.Out0Value.lean ====
/-
  The output projection of layer 0 (`Out0`): what the kernel's result array holds, index by index, over the extended
  reals. Grid point t multiplies row block t of each of the two activations with its half of the weights, adds the two
  products, normalises the sums' rows and adds the residual. The reference multiplies the concatenated activations.
-/
module

public import proofs.«01_k».proof.Defs
public import proofs.«01_k».proof.Proof.Gen.Out0Ideal.Value
public import proofs.«01_k».proof.Proof.Gen.Out0RefIdeal.Run
public import proofs.«01_k».proof.Proof.Gen.Out0RefIdeal.Read
public import Idealize.ShloMosaic.Lib.Pointwise

@[expose] public section

noncomputable section

namespace Cert.Out0Ideal.Math

open Cert.Out0Ideal Cert.Out0Ideal.Gen Cert.Out0Ideal.Value Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The two slabs of the weights that the body reads. -/
def lower (w : Vec Ideal S2x2048x2048 .bf16) : FVec Ideal S1x2048x2048 .bf16 := View.ld w r0_1
def upper (w : Vec Ideal S2x2048x2048 .bf16) : FVec Ideal S1x2048x2048 .bf16 := View.ld w r0_2

/-- What the body leaves in the result's block: its one store's payload over the input blocks, the weights read slab
    by slab. -/
theorem out_eq (y0 y1 : Vec Ideal S512x2048 .bf16) (w : Vec Ideal S2x2048x2048 .bf16) (g : Vec Ideal S1x2048 .f32) (x : Vec Ideal S512x2048 .f32) :
    out0_5 y0 y1 w g x = k0_pay1 y0 (lower w) y1 (upper w) x g := by
  unfold out0_5
  rw [View.canon_unit_zero hz2, View.ld_unit_zero (S := S512x2048) hz2, View.ld_unit_zero (S := S512x2048) hz2,
    View.ld_unit_zero (S := S512x2048) hz2, View.ld_unit_zero (S := S1x2048) hz2]
  rfl

theorem slab0 (w : Vec Ideal S2x2048x2048 .bf16) (k l : Fin 2048) :
    lower w (ix3 0 k l) = w (ix3 0 k l) :=
  congrArg w (funext fun a => Fin.ext (by
    match a with
    | ⟨0, _⟩ => rfl
    | ⟨1, _⟩ => show 0 + 1 * k.val = k.val; omega
    | ⟨2, _⟩ => show 0 + 1 * l.val = l.val; omega))

theorem slab1 (w : Vec Ideal S2x2048x2048 .bf16) (k l : Fin 2048) :
    upper w (ix3 0 k l) = w (ix3 1 k l) :=
  congrArg w (funext fun a => Fin.ext (by
    match a with
    | ⟨0, _⟩ => rfl
    | ⟨1, _⟩ => show 0 + 1 * k.val = k.val; omega
    | ⟨2, _⟩ => show 0 + 1 * l.val = l.val; omega))

/-- The residual plus the gained rms norm of one element, its row's sum of squares given, over the extended reals. -/
def plusNormed (xk yk ss gk : EReal) : EReal :=
  xk + yk * Ideal.rsqrt (Ideal.div ss (Ideal.ofBits .f32 0x45000000#32) + Ideal.ofBits .f32 0x358637BD#32) * gk

theorem pay1_apply (y0 y1 : FVec Ideal S512x2048 .bf16) (w0 w1 : FVec Ideal S1x2048x2048 .bf16) (x : FVec Ideal S512x2048 .f32)
    (g : FVec Ideal S1x2048 .f32) (r : Fin 512) (l : Fin 2048) :
    k0_pay1 (F := Ideal) y0 w0 y1 w1 x g (ix2 r l)
      = plusNormed (x (ix2 r l)) ((∑ k : Fin 2048, y0 (ix2 r k) * w0 (ix3 0 k l)) + ∑ k : Fin 2048, y1 (ix2 r k) * w1 (ix3 0 k l))
          (∑ l' : Fin 2048, ((∑ k : Fin 2048, y0 (ix2 r k) * w0 (ix3 0 k l')) + ∑ k : Fin 2048, y1 (ix2 r k) * w1 (ix3 0 k l'))
            * ((∑ k : Fin 2048, y0 (ix2 r k) * w0 (ix3 0 k l')) + ∑ k : Fin 2048, y1 (ix2 r k) * w1 (ix3 0 k l'))) (g (ix2 0 l)) := by
  pointwise [k0_pay1, dot_S512x2048_S2048x2048_S512x2048_1_0_0_1_n_n]
  rfl

/-- The concatenated activations times the weights at an index: the sum over the first half plus the sum over the second. -/
theorem ref_prod (y0 y1 : FVec Ideal S16384x2048 .bf16) (w : FVec Ideal S4096x2048 .f32) (r : Fin 16384) (l : Fin 2048) :
    Cert.Out0RefIdeal.Read.val_main_v3 (F := Ideal) y0 y1 w (ix2 r l)
      = (∑ k : Fin 2048, y0 (ix2 r k) * w (ix2 ⟨k.val, by omega⟩ l)) + ∑ k : Fin 2048, y1 (ix2 r k) * w (ix2 ⟨2048 + k.val, by omega⟩ l) := by
  have e : Cert.Out0RefIdeal.Read.val_main_v3 (F := Ideal) y0 y1 w (ix2 r l)
      = ∑ k : Fin (2048 + 2048), (Cert.Out0RefIdeal.Read.val_main_v2 (F := Ideal) y0 y1 (ix2 r ⟨k.val, k.isLt⟩) : EReal) * w (ix2 ⟨k.val, k.isLt⟩ l) := by
    unfold Cert.Out0RefIdeal.Read.val_main_v3
    generalize Cert.Out0RefIdeal.Read.val_main_v2 (F := Ideal) y0 y1 = Y
    pointwise [Cert.Out0RefIdeal.dot_S16384x4096_S4096x2048_S16384x2048_1_0_0_1_n_n]
  rw [e, Fin.sum_univ_add]
  unfold Cert.Out0RefIdeal.Read.val_main_v2
  refine congrArg₂ (· + ·) (Finset.sum_congr rfl fun k _ => congrArg (· * _) ?_) (Finset.sum_congr rfl fun k _ => congrArg (· * _) ?_)
  · exact concatenate_pair_apply_left (t := Cert.Out0RefIdeal.S16384x4096) (s₁ := Cert.Out0RefIdeal.S16384x2048) (1 : Fin 2) _ _ _ (ix2 r ⟨k.val, by omega⟩) rfl (ix2 r k) (fun b => match b with | ⟨0, _⟩ => rfl | ⟨1, _⟩ => rfl)
  · exact concatenate_pair_apply_right (t := Cert.Out0RefIdeal.S16384x4096) (s₁ := Cert.Out0RefIdeal.S16384x2048) (s₂ := Cert.Out0RefIdeal.S16384x2048) (1 : Fin 2) _ _ _ (ix2 r ⟨2048 + k.val, by omega⟩) rfl rfl (ix2 r k)
      (fun b => match b with | ⟨0, _⟩ => fun _ => rfl | ⟨1, _⟩ => fun h => absurd rfl h) (Nat.add_comm k.val 2048)

/-- The reference's result at an index. -/
theorem ref_apply (y0 y1 : FVec Ideal S16384x2048 .bf16) (w : FVec Ideal S4096x2048 .f32) (g : FVec Ideal S2048 .f32)
    (x : FVec Ideal S16384x2048 .f32) (r : Fin 16384) (l : Fin 2048) :
    Cert.Out0RefIdeal.Read.val_main_v17 (F := Ideal) y0 y1 w g x (ix2 r l)
      = plusNormed (x (ix2 r l)) (Cert.Out0RefIdeal.Read.val_main_v3 (F := Ideal) y0 y1 w (ix2 r l))
          (∑ l' : Fin 2048, (Cert.Out0RefIdeal.Read.val_main_v3 (F := Ideal) y0 y1 w (ix2 r l') : EReal)
            * Cert.Out0RefIdeal.Read.val_main_v3 (F := Ideal) y0 y1 w (ix2 r l')) (g (ix1 l)) := by
  unfold Cert.Out0RefIdeal.Read.val_main_v17 Cert.Out0RefIdeal.Read.val_main_v16 Cert.Out0RefIdeal.Read.val_main_v13
    Cert.Out0RefIdeal.Read.val_main_v12 Cert.Out0RefIdeal.Read.val_main_v11 Cert.Out0RefIdeal.Read.val_main_v10
    Cert.Out0RefIdeal.Read.val_main_v8 Cert.Out0RefIdeal.Read.val_main_v6 Cert.Out0RefIdeal.Read.val_main_v5
    Cert.Out0RefIdeal.Read.val_main_v4
  generalize Cert.Out0RefIdeal.Read.val_main_v3 (F := Ideal) y0 y1 w = Y
  pointwise [Cert.Out0RefIdeal.Read.val_main_v15, Cert.Out0RefIdeal.Read.val_main_v14,
    Cert.Out0RefIdeal.Read.val_main_v9, Cert.Out0RefIdeal.Read.val_main_v7, Cert.Out0RefIdeal.Read.val_main_cst,
    Cert.Out0RefIdeal.Read.val_main_cst_0, Cert.Out0RefIdeal.Read.val_main_cst_1]
  rfl

/-! ## The blocks the grid points read -/

variable (m : (ℓ : Loc nD τ sig) → Buf (Elt Ideal) ℓ)

/-- The arguments as launched: the two activations, the weights, the gain and the residual. -/
abbrev yA (c : Dev nD) : FVec Ideal S16384x2048 .bf16 := m ((c : Thread nD τ).loc main_arg0)
abbrev zA (c : Dev nD) : FVec Ideal S16384x2048 .bf16 := m ((c : Thread nD τ).loc main_arg1)
abbrev wA (c : Dev nD) : FVec Ideal S4096x2048 .f32 := m ((c : Thread nD τ).loc main_arg2)
abbrev gA (c : Dev nD) : FVec Ideal S2048 .f32 := m ((c : Thread nD τ).loc main_arg3)
abbrev xA (c : Dev nD) : FVec Ideal S16384x2048 .f32 := m ((c : Thread nD τ).loc main_arg4)

theorem idx_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = t.val ∧ win0_4.index t (1 : Fin 2) = 0)
    ∧ win0_5.index t (0 : Fin 2) = t.val ∧ win0_5.index t (1 : Fin 2) = 0 :=
  (by decide +kernel : ∀ t : Fin grid0.N, _)

theorem V_weights (c : Dev nD) (n : Fin 2) (k : Fin 2048) (l : Fin 2048) (K : Fin 4096) (h : K.val = n.val * 2048 + k.val) :
    (V m c main_v1 : FVec Ideal S2x2048x2048 .bf16) (ix3 n k l) = wA m c (ix2 K l) := by
  have e : @Eq (FVec Ideal S2x2048x2048 .bf16) (V m c main_v1)
      (shapeCast S2x2048x2048 (truncf (F := Ideal) .bf16 (wA m c) bitsLt_bf16_f32) shapeCasts_S4096x2048_S2x2048x2048) := by
    unfold V; after_results <;> rfl
  rw [e]
  exact shapeCast_apply _ _ _ (ix2 K l) (by
    rewrite [Shape.rowMajor_val_three, Shape.rowMajor_val_two]
    show K.val * 2048 + l.val = (n.val * 2048 + k.val) * 2048 + l.val
    omega)

theorem V_gain (c : Dev nD) (k : Fin 2048) : (V m c main_v2 : FVec Ideal S1x2048 .f32) (ix2 0 k) = gA m c (ix1 k) := by
  have e : @Eq (FVec Ideal S1x2048 .f32) (V m c main_v2) (shapeCast S1x2048 (gA m c) shapeCasts_S2048_S1x2048) := by
    unfold V; after_results <;> rfl
  rw [e]
  exact shapeCast_apply _ _ _ _ (by
    rewrite [Shape.rowMajor_val_one, Shape.rowMajor_val_two]
    show k.val = 0 * 2048 + k.val
    omega)

theorem blk_rows0 (c : Dev nD) (t : Fin cfg0.N) (r : Fin 512) (k : Fin 2048) (R : Fin 16384) (h : R.val = t.val * 512 + r.val) :
    (iblk m c 0 t : FVec Ideal S512x2048 .bf16) (ix2 r k) = yA m c (ix2 R k) := by
  refine Eq.trans ?_ (congrFun (V_main_arg0 m c) (ix2 R k))
  unfold iblk
  rw [View.read_apply]
  show V m c main_arg0 _ = V m c main_arg0 _
  congr 1
  funext a; apply Fin.ext
  obtain ⟨⟨e0, e1⟩, -⟩ := idx_in t
  match a with
  | ⟨0, _⟩ => show win0_0.index t (0 : Fin 2) * 512 + 1 * r.val = R.val; omega
  | ⟨1, _⟩ => show win0_0.index t (1 : Fin 2) * 2048 + 1 * k.val = k.val; omega

theorem blk_rows1 (c : Dev nD) (t : Fin cfg0.N) (r : Fin 512) (k : Fin 2048) (R : Fin 16384) (h : R.val = t.val * 512 + r.val) :
    (iblk m c 1 t : FVec Ideal S512x2048 .bf16) (ix2 r k) = zA m c (ix2 R k) := by
  refine Eq.trans ?_ (congrFun (V_main_arg1 m c) (ix2 R k))
  unfold iblk
  rw [View.read_apply]
  show V m c main_arg1 _ = V m c main_arg1 _
  congr 1
  funext a; apply Fin.ext
  obtain ⟨-, ⟨e0, e1⟩, -⟩ := idx_in t
  match a with
  | ⟨0, _⟩ => show win0_1.index t (0 : Fin 2) * 512 + 1 * r.val = R.val; omega
  | ⟨1, _⟩ => show win0_1.index t (1 : Fin 2) * 2048 + 1 * k.val = k.val; omega

theorem blk_weights (c : Dev nD) (t : Fin cfg0.N) (n : Fin 2) (k : Fin 2048) (l : Fin 2048) (K : Fin 4096) (h : K.val = n.val * 2048 + k.val) :
    (iblk m c 2 t : FVec Ideal S2x2048x2048 .bf16) (ix3 n k l) = wA m c (ix2 K l) := by
  refine Eq.trans ?_ (V_weights m c n k l K h)
  unfold iblk
  rw [View.read_apply]
  show V m c main_v1 _ = V m c main_v1 _
  congr 1
  funext a; apply Fin.ext
  obtain ⟨-, -, ⟨e0, e1, e2⟩, -⟩ := idx_in t
  match a with
  | ⟨0, _⟩ => show win0_2.index t (0 : Fin 3) * 2 + 1 * n.val = n.val; omega
  | ⟨1, _⟩ => show win0_2.index t (1 : Fin 3) * 2048 + 1 * k.val = k.val; omega
  | ⟨2, _⟩ => show win0_2.index t (2 : Fin 3) * 2048 + 1 * l.val = l.val; omega

theorem blk_gain (c : Dev nD) (t : Fin cfg0.N) (k : Fin 2048) :
    (iblk m c 3 t : FVec Ideal S1x2048 .f32) (ix2 0 k) = gA m c (ix1 k) := by
  refine Eq.trans ?_ (V_gain m c k)
  unfold iblk
  rw [View.read_apply]
  show V m c main_v2 _ = V m c main_v2 _
  congr 1
  funext a; apply Fin.ext
  obtain ⟨-, -, -, ⟨e0, e1⟩, -⟩ := idx_in t
  match a with
  | ⟨0, _⟩ => show win0_3.index t (0 : Fin 2) * 1 + 1 * 0 = 0; omega
  | ⟨1, _⟩ => show win0_3.index t (1 : Fin 2) * 2048 + 1 * k.val = k.val; omega

theorem blk_residual (c : Dev nD) (t : Fin cfg0.N) (r : Fin 512) (k : Fin 2048) (R : Fin 16384) (h : R.val = t.val * 512 + r.val) :
    (iblk m c 4 t : FVec Ideal S512x2048 .f32) (ix2 r k) = xA m c (ix2 R k) := by
  refine Eq.trans ?_ (congrFun (V_main_arg4 m c) (ix2 R k))
  unfold iblk
  rw [View.read_apply]
  show V m c main_arg4 _ = V m c main_arg4 _
  congr 1
  funext a; apply Fin.ext
  obtain ⟨-, -, -, -, ⟨e0, e1⟩, -⟩ := idx_in t
  match a with
  | ⟨0, _⟩ => show win0_4.index t (0 : Fin 2) * 512 + 1 * r.val = R.val; omega
  | ⟨1, _⟩ => show win0_4.index t (1 : Fin 2) * 2048 + 1 * k.val = k.val; omega

/-! ## The result -/

/-- The reference's value of the kernel's arguments. -/
abbrev goal (c : Dev nD) : FVec Ideal S16384x2048 .f32 :=
  Cert.Out0RefIdeal.Read.val_main_v17 (F := Ideal) (yA m c) (zA m c) (wA m c) (gA m c) (xA m c)

/-- What point `t` computes at `(r, l)` of its block is the reference's value at row `512 t + r`. -/
theorem point_eq (c : Dev nD) (t : Fin cfg0.N) (r : Fin 512) (l : Fin 2048) (R : Fin 16384) (h : R.val = t.val * 512 + r.val) :
    (out0_5 (iblk m c 0 t) (iblk m c 1 t) (iblk m c 2 t) (iblk m c 3 t) (iblk m c 4 t) : FVec Ideal S512x2048 .f32) (ix2 r l)
      = goal m c (ix2 R l) := by
  rw [out_eq, pay1_apply]; unfold goal; rw [ref_apply]
  simp only [ref_prod, slab0, slab1, blk_rows0 m c t r _ R h, blk_rows1 m c t r _ R h, blk_gain, blk_residual m c t r _ R h,
    fun k l => blk_weights m c t 0 k l ⟨k.val, by omega⟩ (by show k.val = 0 * 2048 + k.val; omega),
    fun k l => blk_weights m c t 1 k l ⟨2048 + k.val, by omega⟩ (by show 2048 + k.val = 1 * 2048 + k.val; omega)]

/-- What point `t` writes back is block `t` of the reference's value. -/
theorem flushed_eq (c : Dev nD) (t : Fin cfg0.N) (hf : (cfg0.win 5).flush t = true) :
    (dats m 0 c).flushed 5 t = ((cfg0.win 5).blk t).view.read (Elt Ideal) (goal m c) := by
  rw [flushed5]
  funext j
  obtain ⟨r, l, rfl⟩ : ∃ (r : Fin 512) (l : Fin 2048), j = ix2 r l := ⟨j 0, j 1, eq_ix2 j⟩
  have ht : t.val < 32 := lt_of_lt_of_eq t.isLt N_0
  rw [View.read_apply]
  refine Eq.trans (point_eq m c t r l ⟨t.val * 512 + r.val, by omega⟩ rfl) ?_
  show goal m c _ = goal m c _
  congr 1
  funext a; apply Fin.ext
  obtain ⟨-, -, -, -, -, e0, e1⟩ := idx_in t
  match a with
  | ⟨0, _⟩ => show t.val * 512 + r.val = win0_5.index t (0 : Fin 2) * 512 + 1 * r.val; omega
  | ⟨1, _⟩ => show l.val = win0_5.index t (1 : Fin 2) * 2048 + 1 * l.val; omega

/-- THE RESULT: the 32 row blocks tile the array, so it is the reference's value of the same arguments. -/
theorem result_eq (c : Dev nD) : (dats m 0 c).arrAt 5 cfg0.N = goal m c :=
  (dats m 0 c).arrAt_eq_of_cover 5 (goal m c) (flushed_eq m c) fun i => by
    have h0 : (i 0 : Nat) < 16384 := (i 0).isLt
    have h1 : (i 1 : Nat) < 2048 := (i 1).isLt
    have ht : (i 0 : Nat) / 512 < cfg0.N := lt_of_lt_of_eq (by omega) N_0.symm
    obtain ⟨-, -, -, -, -, e0, e1⟩ := idx_in ⟨(i 0 : Nat) / 512, ht⟩
    refine ⟨⟨(i 0 : Nat) / 512, ht⟩, flush0_5 _, ?_⟩
    show i ∈ ((View.whole main_v3).slice (win0_5.rect ⟨(i 0 : Nat) / 512, ht⟩)).set
    rw [View.set_slice_whole, Rect.mem_set_unit]
    intro a
    match a with
    | ⟨0, _⟩ =>
      show win0_5.index ⟨(i 0 : Nat) / 512, ht⟩ (0 : Fin 2) * 512 ≤ (i 0 : Nat)
        ∧ (i 0 : Nat) < win0_5.index ⟨(i 0 : Nat) / 512, ht⟩ (0 : Fin 2) * 512 + 512
      rw [e0]; dsimp only; omega
    | ⟨1, _⟩ =>
      show win0_5.index ⟨(i 0 : Nat) / 512, ht⟩ (1 : Fin 2) * 2048 ≤ (i 1 : Nat)
        ∧ (i 1 : Nat) < win0_5.index ⟨(i 0 : Nat) / 512, ht⟩ (1 : Fin 2) * 2048 + 2048
      rw [e1]; omega

end Cert.Out0Ideal.Math

end
-- ==== Proof.Out1Value.lean ====
/-
  The output projection of layer 1 (`Out1`): what the kernel's result array holds, index by index, over the extended
  reals. Grid point t multiplies row block t of the activations with the whole weight array, normalises the products'
  rows and adds the residual.
-/
module

public import proofs.«01_k».proof.Defs
public import proofs.«01_k».proof.Proof.Gen.Out1Ideal.Value
public import proofs.«01_k».proof.Proof.Gen.Out1RefIdeal.Run
public import proofs.«01_k».proof.Proof.Gen.Out1RefIdeal.Read
public import Idealize.ShloMosaic.Lib.Pointwise

@[expose] public section

noncomputable section

namespace Cert.Out1Ideal.Math

open Cert.Out1Ideal Cert.Out1Ideal.Gen Cert.Out1Ideal.Value Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result's block: its one store's payload over the whole input blocks. -/
theorem out_eq (y : Vec Ideal S512x4096 .bf16) (w : Vec Ideal S1x4096x2048 .bf16) (g : Vec Ideal S1x2048 .f32) (x : Vec Ideal S512x2048 .f32) :
    out0_4 y w g x = k0_pay1 y w x g := by
  unfold out0_4
  rw [View.canon_unit_zero hz2, View.ld_unit_zero (S := S512x4096) hz2, View.ld_unit_zero (S := S1x4096x2048) hz3,
    View.ld_unit_zero (S := S512x2048) hz2, View.ld_unit_zero (S := S1x2048) hz2]

/-- The residual plus the gained rms norm of one element, its row's sum of squares given, over the extended reals. -/
def plusNormed (xk yk ss gk : EReal) : EReal :=
  xk + yk * Ideal.rsqrt (Ideal.div ss (Ideal.ofBits .f32 0x45000000#32) + Ideal.ofBits .f32 0x358637BD#32) * gk

theorem pay1_apply (y : FVec Ideal S512x4096 .bf16) (w : FVec Ideal S1x4096x2048 .bf16) (x : FVec Ideal S512x2048 .f32)
    (g : FVec Ideal S1x2048 .f32) (r : Fin 512) (l : Fin 2048) :
    k0_pay1 (F := Ideal) y w x g (ix2 r l)
      = plusNormed (x (ix2 r l)) (∑ k : Fin 4096, y (ix2 r k) * w (ix3 0 k l))
          (∑ l' : Fin 2048, (∑ k : Fin 4096, y (ix2 r k) * w (ix3 0 k l')) * ∑ k : Fin 4096, y (ix2 r k) * w (ix3 0 k l')) (g (ix2 0 l)) := by
  pointwise [k0_pay1, dot_S512x4096_S4096x2048_S512x2048_1_0_0_1_n_n]
  rfl

/-- The reference's result at an index. -/
theorem ref_apply (y : FVec Ideal S16384x4096 .bf16) (w : FVec Ideal S4096x2048 .f32) (g : FVec Ideal S2048 .f32)
    (x : FVec Ideal S16384x2048 .f32) (r : Fin 16384) (l : Fin 2048) :
    Cert.Out1RefIdeal.Read.val_main_v15 (F := Ideal) y w g x (ix2 r l)
      = plusNormed (x (ix2 r l)) (∑ k : Fin 4096, y (ix2 r k) * w (ix2 k l))
          (∑ l' : Fin 2048, (∑ k : Fin 4096, y (ix2 r k) * w (ix2 k l')) * ∑ k : Fin 4096, y (ix2 r k) * w (ix2 k l')) (g (ix1 l)) := by
  pointwise [Cert.Out1RefIdeal.Read.val_main_v15, Cert.Out1RefIdeal.Read.val_main_v14,
    Cert.Out1RefIdeal.Read.val_main_v13, Cert.Out1RefIdeal.Read.val_main_v12, Cert.Out1RefIdeal.Read.val_main_v11,
    Cert.Out1RefIdeal.Read.val_main_v10, Cert.Out1RefIdeal.Read.val_main_v9, Cert.Out1RefIdeal.Read.val_main_v8,
    Cert.Out1RefIdeal.Read.val_main_v7, Cert.Out1RefIdeal.Read.val_main_v6, Cert.Out1RefIdeal.Read.val_main_v5,
    Cert.Out1RefIdeal.Read.val_main_v4, Cert.Out1RefIdeal.Read.val_main_v3, Cert.Out1RefIdeal.Read.val_main_v2,
    Cert.Out1RefIdeal.Read.val_main_v1, Cert.Out1RefIdeal.Read.val_main_v0, Cert.Out1RefIdeal.Read.val_main_cst,
    Cert.Out1RefIdeal.Read.val_main_cst_0, Cert.Out1RefIdeal.Read.val_main_cst_1,
    Cert.Out1RefIdeal.dot_S16384x4096_S4096x2048_S16384x2048_1_0_0_1_n_n]
  rfl

/-! ## The blocks the grid points read -/

variable (m : (ℓ : Loc nD τ sig) → Buf (Elt Ideal) ℓ)

/-- The arguments as launched: the activations, the weights, the gain and the residual. -/
abbrev yA (c : Dev nD) : FVec Ideal S16384x4096 .bf16 := m ((c : Thread nD τ).loc main_arg0)
abbrev wA (c : Dev nD) : FVec Ideal S4096x2048 .f32 := m ((c : Thread nD τ).loc main_arg1)
abbrev gA (c : Dev nD) : FVec Ideal S2048 .f32 := m ((c : Thread nD τ).loc main_arg2)
abbrev xA (c : Dev nD) : FVec Ideal S16384x2048 .f32 := m ((c : Thread nD τ).loc main_arg3)

theorem idx_in : ∀ t : Fin cfg0.N, win0_0.index t (0 : Fin 2) = t.val ∧ win0_0.index t (1 : Fin 2) = 0
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem V_weights (c : Dev nD) (k : Fin 4096) (l : Fin 2048) :
    (V m c main_v1 : FVec Ideal S1x4096x2048 .bf16) (ix3 0 k l) = wA m c (ix2 k l) := by
  have e : @Eq (FVec Ideal S1x4096x2048 .bf16) (V m c main_v1)
      (shapeCast S1x4096x2048 (truncf (F := Ideal) .bf16 (wA m c) bitsLt_bf16_f32) shapeCasts_S4096x2048_S1x4096x2048) := by
    unfold V; after_results <;> rfl
  rw [e]
  exact shapeCast_apply _ _ _ (ix2 k l) (by
    rewrite [Shape.rowMajor_val_three, Shape.rowMajor_val_two]
    show k.val * 2048 + l.val = (0 * 4096 + k.val) * 2048 + l.val
    omega)

theorem V_gain (c : Dev nD) (k : Fin 2048) : (V m c main_v2 : FVec Ideal S1x2048 .f32) (ix2 0 k) = gA m c (ix1 k) := by
  have e : @Eq (FVec Ideal S1x2048 .f32) (V m c main_v2) (shapeCast S1x2048 (gA m c) shapeCasts_S2048_S1x2048) := by
    unfold V; after_results <;> rfl
  rw [e]
  exact shapeCast_apply _ _ _ _ (by
    rewrite [Shape.rowMajor_val_one, Shape.rowMajor_val_two]
    show k.val = 0 * 2048 + k.val
    omega)

theorem blk_rows (c : Dev nD) (t : Fin cfg0.N) (r : Fin 512) (k : Fin 4096) (R : Fin 16384) (h : R.val = t.val * 512 + r.val) :
    (iblk m c 0 t : FVec Ideal S512x4096 .bf16) (ix2 r k) = yA m c (ix2 R k) := by
  refine Eq.trans ?_ (congrFun (V_main_arg0 m c) (ix2 R k))
  unfold iblk
  rw [View.read_apply]
  show V m c main_arg0 _ = V m c main_arg0 _
  congr 1
  funext a; apply Fin.ext
  obtain ⟨e0, e1, -⟩ := idx_in t
  match a with
  | ⟨0, _⟩ => show win0_0.index t (0 : Fin 2) * 512 + 1 * r.val = R.val; omega
  | ⟨1, _⟩ => show win0_0.index t (1 : Fin 2) * 4096 + 1 * k.val = k.val; omega

theorem blk_weights (c : Dev nD) (t : Fin cfg0.N) (k : Fin 4096) (l : Fin 2048) :
    (iblk m c 1 t : FVec Ideal S1x4096x2048 .bf16) (ix3 0 k l) = wA m c (ix2 k l) := by
  refine Eq.trans ?_ (V_weights m c k l)
  unfold iblk
  rw [View.read_apply]
  show V m c main_v1 _ = V m c main_v1 _
  congr 1
  funext a; apply Fin.ext
  obtain ⟨-, -, ⟨e0, e1, e2⟩, -⟩ := idx_in t
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 2048 + 1 * l.val = l.val; omega

theorem blk_gain (c : Dev nD) (t : Fin cfg0.N) (k : Fin 2048) :
    (iblk m c 2 t : FVec Ideal S1x2048 .f32) (ix2 0 k) = gA m c (ix1 k) := by
  refine Eq.trans ?_ (V_gain m c k)
  unfold iblk
  rw [View.read_apply]
  show V m c main_v2 _ = V m c main_v2 _
  congr 1
  funext a; apply Fin.ext
  obtain ⟨-, -, -, ⟨e0, e1⟩, -⟩ := idx_in t
  match a with
  | ⟨0, _⟩ => show win0_2.index t (0 : Fin 2) * 1 + 1 * 0 = 0; omega
  | ⟨1, _⟩ => show win0_2.index t (1 : Fin 2) * 2048 + 1 * k.val = k.val; omega

theorem blk_residual (c : Dev nD) (t : Fin cfg0.N) (r : Fin 512) (k : Fin 2048) (R : Fin 16384) (h : R.val = t.val * 512 + r.val) :
    (iblk m c 3 t : FVec Ideal S512x2048 .f32) (ix2 r k) = xA m c (ix2 R k) := by
  refine Eq.trans ?_ (congrFun (V_main_arg3 m c) (ix2 R k))
  unfold iblk
  rw [View.read_apply]
  show V m c main_arg3 _ = V m c main_arg3 _
  congr 1
  funext a; apply Fin.ext
  obtain ⟨-, -, -, -, e0, e1, -⟩ := idx_in t
  match a with
  | ⟨0, _⟩ => show win0_3.index t (0 : Fin 2) * 512 + 1 * r.val = R.val; omega
  | ⟨1, _⟩ => show win0_3.index t (1 : Fin 2) * 2048 + 1 * k.val = k.val; omega

/-! ## The result -/

/-- The reference's value of the kernel's arguments. -/
abbrev goal (c : Dev nD) : FVec Ideal S16384x2048 .f32 :=
  Cert.Out1RefIdeal.Read.val_main_v15 (F := Ideal) (yA m c) (wA m c) (gA m c) (xA m c)

/-- What point `t` computes at `(r, l)` of its block is the reference's value at row `512 t + r`. -/
theorem point_eq (c : Dev nD) (t : Fin cfg0.N) (r : Fin 512) (l : Fin 2048) (R : Fin 16384) (h : R.val = t.val * 512 + r.val) :
    (out0_4 (iblk m c 0 t) (iblk m c 1 t) (iblk m c 2 t) (iblk m c 3 t) : FVec Ideal S512x2048 .f32) (ix2 r l) = goal m c (ix2 R l) := by
  rw [out_eq, pay1_apply]; unfold goal; rw [ref_apply]
  simp only [blk_rows m c t r _ R h, blk_weights, blk_gain, blk_residual m c t r _ R h]

/-- What point `t` writes back is block `t` of the reference's value. -/
theorem flushed_eq (c : Dev nD) (t : Fin cfg0.N) (hf : (cfg0.win 4).flush t = true) :
    (dats m 0 c).flushed 4 t = ((cfg0.win 4).blk t).view.read (Elt Ideal) (goal m c) := by
  rw [flushed4]
  funext j
  obtain ⟨r, l, rfl⟩ : ∃ (r : Fin 512) (l : Fin 2048), j = ix2 r l := ⟨j 0, j 1, eq_ix2 j⟩
  have ht : t.val < 32 := lt_of_lt_of_eq t.isLt N_0
  rw [View.read_apply]
  refine Eq.trans (point_eq m c t r l ⟨t.val * 512 + r.val, by omega⟩ rfl) ?_
  show goal m c _ = goal m c _
  congr 1
  funext a; apply Fin.ext
  obtain ⟨-, -, -, -, -, -, e0, e1⟩ := idx_in t
  match a with
  | ⟨0, _⟩ => show t.val * 512 + r.val = win0_4.index t (0 : Fin 2) * 512 + 1 * r.val; omega
  | ⟨1, _⟩ => show l.val = win0_4.index t (1 : Fin 2) * 2048 + 1 * l.val; omega

/-- THE RESULT: the 32 row blocks tile the array, so it is the reference's value of the same arguments. -/
theorem result_eq (c : Dev nD) : (dats m 0 c).arrAt 4 cfg0.N = goal m c :=
  (dats m 0 c).arrAt_eq_of_cover 4 (goal m c) (flushed_eq m c) fun i => by
    have h0 : (i 0 : Nat) < 16384 := (i 0).isLt
    have h1 : (i 1 : Nat) < 2048 := (i 1).isLt
    have ht : (i 0 : Nat) / 512 < cfg0.N := lt_of_lt_of_eq (by omega) N_0.symm
    obtain ⟨-, -, -, -, -, -, e0, e1⟩ := idx_in ⟨(i 0 : Nat) / 512, ht⟩
    refine ⟨⟨(i 0 : Nat) / 512, ht⟩, flush0_4 _, ?_⟩
    show i ∈ ((View.whole main_v3).slice (win0_4.rect ⟨(i 0 : Nat) / 512, ht⟩)).set
    rw [View.set_slice_whole, Rect.mem_set_unit]
    intro a
    match a with
    | ⟨0, _⟩ =>
      show win0_4.index ⟨(i 0 : Nat) / 512, ht⟩ (0 : Fin 2) * 512 ≤ (i 0 : Nat)
        ∧ (i 0 : Nat) < win0_4.index ⟨(i 0 : Nat) / 512, ht⟩ (0 : Fin 2) * 512 + 512
      rw [e0]; dsimp only; omega
    | ⟨1, _⟩ =>
      show win0_4.index ⟨(i 0 : Nat) / 512, ht⟩ (1 : Fin 2) * 2048 ≤ (i 1 : Nat)
        ∧ (i 1 : Nat) < win0_4.index ⟨(i 0 : Nat) / 512, ht⟩ (1 : Fin 2) * 2048 + 2048
      rw [e1]; omega

end Cert.Out1Ideal.Math

end
-- ==== Proof.lean ====
module

public import proofs.«01_k».proof.Defs
public import proofs.«01_k».proof.Proof.Gen.In0
public import proofs.«01_k».proof.Proof.Gen.In0.Skeleton
public import proofs.«01_k».proof.Proof.Gen.In0.Launch
public import proofs.«01_k».proof.Proof.Gen.In0.Points
public import proofs.«01_k».proof.Proof.Gen.In0.Frame
public import proofs.«01_k».proof.Proof.Gen.In0Ideal
public import proofs.«01_k».proof.Proof.Gen.In0Ideal.Skeleton
public import proofs.«01_k».proof.Proof.Gen.In0Ideal.Launch
public import proofs.«01_k».proof.Proof.Gen.In0Ideal.Points
public import proofs.«01_k».proof.Proof.Gen.In0Ideal.Frame
public import proofs.«01_k».proof.Proof.Gen.In0RefIdeal
public import proofs.«01_k».proof.Proof.Gen.Out1
public import proofs.«01_k».proof.Proof.Gen.Out1.Skeleton
public import proofs.«01_k».proof.Proof.Gen.Out1.Launch
public import proofs.«01_k».proof.Proof.Gen.Out1.Points
public import proofs.«01_k».proof.Proof.Gen.Out1.Frame
public import proofs.«01_k».proof.Proof.Gen.Out1Ideal
public import proofs.«01_k».proof.Proof.Gen.Out1Ideal.Skeleton
public import proofs.«01_k».proof.Proof.Gen.Out1Ideal.Launch
public import proofs.«01_k».proof.Proof.Gen.Out1Ideal.Points
public import proofs.«01_k».proof.Proof.Gen.Out1Ideal.Frame
public import proofs.«01_k».proof.Proof.Gen.Out1RefIdeal
public import proofs.«01_k».proof.Proof.Gen.In0Ideal.Value
public import proofs.«01_k».proof.Proof.Gen.In0RefIdeal.Run
public import proofs.«01_k».proof.Proof.Gen.In0RefIdeal.Read
public import proofs.«01_k».proof.Proof.Gen.Out1Ideal.Value
public import proofs.«01_k».proof.Proof.Gen.Out1RefIdeal.Run
public import proofs.«01_k».proof.Proof.Gen.Out1RefIdeal.Read
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.Out0RefIdeal
public import proofs.«01_k».proof.Proof.Gen.Out0Ideal.Value
public import proofs.«01_k».proof.Proof.Gen.Out0RefIdeal.Run
public import proofs.«01_k».proof.Proof.Gen.Out0RefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.In1
public import proofs.«01_k».proof.Proof.Gen.In1Ideal
public import proofs.«01_k».proof.Proof.Gen.In1Ideal.Skeleton
public import proofs.«01_k».proof.Proof.Gen.In1Ideal.Launch
public import proofs.«01_k».proof.Proof.Gen.In1Ideal.Points
public import proofs.«01_k».proof.Proof.Gen.In1Ideal.Frame
public import proofs.«01_k».proof.Proof.Gen.In1RefIdeal
public import proofs.«01_k».proof.Proof.Gen.In1RefIdeal.Run
public import proofs.«01_k».proof.Proof.Gen.In1RefIdeal.Read
public import proofs.«01_k».proof.Proof.MlstmValue
public import proofs.«01_k».proof.Proof.In0Value
public import proofs.«01_k».proof.Proof.In1Value
public import proofs.«01_k».proof.Proof.Out0Value
public import proofs.«01_k».proof.Proof.Out1Value
public import Idealize.ShloMosaic.Lib.Quiescent
public import Idealize.ShloMosaic.Adequacy
public import Idealize.ShloMosaic.Init

@[expose] public section

noncomputable section

namespace Cert.Proof

open Idealize.ShloMosaic Idealize.SL.Sem Cert.In0

/-! ## The mLSTM part of layer 0 -/

theorem frame_mlstm : Cert.quiescent_Kernel := fun m ρ _ => Cert.Kernel.Gen.frame m ρ
theorem frame_mlstm_ideal : Cert.quiescent_KernelIdeal := fun m ρ _ => Cert.KernelIdeal.Gen.frame m ρ
theorem frame_mlstm_ref : Cert.quiescent_ReferenceIdeal := fun m ρ _ =>
  (θ_run (Cert.ReferenceIdeal.defs (F := Ideal)) _ _).mono (fun _ h => ⟨fun c => (h c).2, sem_eq_zero_of_no_sems rfl _⟩)
    (Cert.ReferenceIdeal.Value.run m ρ)

/-- The kernel's mask value names minus infinity. -/
theorem preserves_mlstm : Cert.preserves_Kernel_KernelIdeal :=
  IdealRules.named_const.statement Cert.KernelIdeal.κ "mask" .f32 0xF149F2CA#32 ⊥ rfl

/-- From the same arguments kernel and reference leave the same array. -/
theorem algebraic_mlstm : Cert.algebraic_KernelIdeal_ReferenceIdeal := by
  intro m g m' g' _ hagree
  refine ⟨fun c => Cert.KernelIdeal.Value.G11 m c, Cert.KernelIdeal.Value.run m g, ?_⟩
  refine (θ_run (Cert.ReferenceIdeal.defs (F := Ideal)) _ _).mono (fun _ h c => ⟨?_, (h c).2⟩) (Cert.ReferenceIdeal.Value.run m' g')
  rw [(h c).1]
  have e : Cert.ReferenceIdeal.Mlstm.argsM m' c = Cert.KernelIdeal.Mlstm.argsK m c := by
    obtain ⟨h0, h1, h2, h3, h4, h5, h6, h7, h8, h9, h10, h11⟩ := hagree c
    unfold Cert.ReferenceIdeal.Mlstm.argsM Cert.KernelIdeal.Mlstm.argsK
    rw [h0, h1, h2, h3, h4, h5, h6, h7, h8, h9, h10, h11]
  funext i
  obtain ⟨B, p, d, rfl⟩ : ∃ (B : Fin 4) (p : Fin 4096) (d : Fin 2048), i = ix3 B p d := ⟨i 0, i 1, i 2, eq_ix3 i⟩
  refine (Cert.ReferenceIdeal.Mlstm.out_at m' c B p d).trans ?_
  rw [e]
  exact (Cert.KernelIdeal.Mlstm.kernel_at m c B p d).symm

/-! ## The input projection of layer 0 -/

theorem frame_in0 : Cert.quiescent_In0 := fun m ρ _ => Cert.In0.Gen.frame m ρ
theorem frame_in0_ideal : Cert.quiescent_In0Ideal := fun m ρ _ => Cert.In0Ideal.Gen.frame m ρ
theorem frame_in0_ref : Cert.quiescent_In0RefIdeal := fun m ρ _ =>
  (θ_run (Cert.In0RefIdeal.defs (F := Ideal)) _ _).mono (fun _ h => ⟨fun c => (h c).2, sem_eq_zero_of_no_sems rfl _⟩)
    (Cert.In0RefIdeal.Value.run m ρ)

/-- From the same arguments kernel and reference leave the same array. -/
theorem algebraic_in0 : Cert.algebraic_In0Ideal_In0RefIdeal := by
  intro m g m' g' _ hagree
  refine ⟨fun c => Cert.In0Ideal.Value.G3 m c, Cert.In0Ideal.Value.run m g, ?_⟩
  refine (θ_run (Cert.In0RefIdeal.defs (F := Ideal)) _ _).mono (fun _ h c => ⟨?_, (h c).2⟩) (Cert.In0RefIdeal.Value.run m' g')
  rw [(h c).1, Cert.In0RefIdeal.Read.val_main_v14_eq, (hagree c).1, (hagree c).2.1, (hagree c).2.2]
  exact (Cert.In0Ideal.Math.result_eq m c).symm

/-! ## The output projection of layer 0 -/

theorem frame_out0 : Cert.quiescent_Out0 := fun m ρ _ => Cert.Out0.Gen.frame m ρ
theorem frame_out0_ideal : Cert.quiescent_Out0Ideal := fun m ρ _ => Cert.Out0Ideal.Gen.frame m ρ
theorem frame_out0_ref : Cert.quiescent_Out0RefIdeal := fun m ρ _ =>
  (θ_run (Cert.Out0RefIdeal.defs (F := Ideal)) _ _).mono (fun _ h => ⟨fun c => (h c).2, sem_eq_zero_of_no_sems rfl _⟩)
    (Cert.Out0RefIdeal.Value.run m ρ)

/-- From the same arguments kernel and reference leave the same array. -/
theorem algebraic_out0 : Cert.algebraic_Out0Ideal_Out0RefIdeal := by
  intro m g m' g' _ hagree
  refine ⟨fun c => Cert.Out0Ideal.Math.goal m c, ?_, ?_⟩
  · exact (θ_run (Cert.Out0Ideal.defs (F := Ideal)) _ _).mono
      (fun _ h c => ⟨(h c).1.trans (Cert.Out0Ideal.Math.result_eq m c), (h c).2⟩) (Cert.Out0Ideal.Value.run_blocks m g)
  · refine (θ_run (Cert.Out0RefIdeal.defs (F := Ideal)) _ _).mono (fun _ h c => ⟨?_, (h c).2⟩) (Cert.Out0RefIdeal.Value.run m' g')
    rw [(h c).1, Cert.Out0RefIdeal.Read.val_main_v17_eq, (hagree c).1, (hagree c).2.1, (hagree c).2.2.1, (hagree c).2.2.2.1, (hagree c).2.2.2.2]

/-! ## The output projection of layer 1 -/

theorem frame_out1 : Cert.quiescent_Out1 := fun m ρ _ => Cert.Out1.Gen.frame m ρ
theorem frame_out1_ideal : Cert.quiescent_Out1Ideal := fun m ρ _ => Cert.Out1Ideal.Gen.frame m ρ
theorem frame_out1_ref : Cert.quiescent_Out1RefIdeal := fun m ρ _ =>
  (θ_run (Cert.Out1RefIdeal.defs (F := Ideal)) _ _).mono (fun _ h => ⟨fun c => (h c).2, sem_eq_zero_of_no_sems rfl _⟩)
    (Cert.Out1RefIdeal.Value.run m ρ)

/-- From the same arguments kernel and reference leave the same array. -/
theorem algebraic_out1 : Cert.algebraic_Out1Ideal_Out1RefIdeal := by
  intro m g m' g' _ hagree
  refine ⟨fun c => Cert.Out1Ideal.Math.goal m c, ?_, ?_⟩
  · exact (θ_run (Cert.Out1Ideal.defs (F := Ideal)) _ _).mono
      (fun _ h c => ⟨(h c).1.trans (Cert.Out1Ideal.Math.result_eq m c), (h c).2⟩) (Cert.Out1Ideal.Value.run_blocks m g)
  · refine (θ_run (Cert.Out1RefIdeal.defs (F := Ideal)) _ _).mono (fun _ h c => ⟨?_, (h c).2⟩) (Cert.Out1RefIdeal.Value.run m' g')
    rw [(h c).1, Cert.Out1RefIdeal.Read.val_main_v15_eq, (hagree c).1, (hagree c).2.1, (hagree c).2.2.1, (hagree c).2.2.2]

/-! ## The input projection of layer 1 -/

/-- The two programs have the same text: their bodies are equal, label by label. -/
theorem defs_in1 : Cert.In1.defs (F := Bits) = Cert.In1Ideal.defs (F := Bits) := by
  refine congrArg (Pipeline.defs Cert.In1Ideal.pcfgs) ?_
  unfold Cert.In1.defs₀ Cert.In1Ideal.defs₀
  refine congrArg Defs.onTc ?_
  funext l args
  match l, args with
  | 0, (t, s) => rfl

/-- So one run, over any float values, serves both frames. -/
theorem frame_in1 : Cert.quiescent_In1 := fun m ρ _ => by
  have h := Cert.In1Ideal.Main.frame (F := Bits) m ρ
  rw [← defs_in1] at h
  exact h
theorem frame_in1_ideal : Cert.quiescent_In1Ideal := fun m ρ _ => Cert.In1Ideal.Main.frame m ρ
theorem frame_in1_ref : Cert.quiescent_In1RefIdeal := fun m ρ _ =>
  (θ_run (Cert.In1RefIdeal.defs (F := Ideal)) _ _).mono (fun _ h => ⟨fun c => (h c).2.2, sem_eq_zero_of_no_sems rfl _⟩)
    (Cert.In1RefIdeal.Value.run m ρ)

/-- From the same arguments kernel and reference leave the same two arrays. -/
theorem algebraic_in1 : Cert.algebraic_In1Ideal_In1RefIdeal := by
  intro m g m' g' _ hagree
  refine ⟨fun c => Cert.In1Ideal.Main.G8 m c, fun c => Cert.In1Ideal.Main.G9 m c, Cert.In1Ideal.Main.run_value m g, ?_⟩
  refine (θ_run (Cert.In1RefIdeal.defs (F := Ideal)) _ _).mono (fun _ h c => ⟨?_, ?_, (h c).2.2⟩) (Cert.In1RefIdeal.Value.run m' g')
  · obtain ⟨h0, h1, h2, h3, h4, h5, h6, h7⟩ := hagree c
    rw [(h c).1, Cert.In1RefIdeal.Read.val_main_v41_eq, h0, h1, h2, h7]
    exact (Cert.In1Ideal.Main.G8_eq m c).symm
  · obtain ⟨h0, h1, h2, h3, h4, h5, h6, h7⟩ := hagree c
    rw [(h c).2.1, Cert.In1RefIdeal.Read.val_main_v43_eq, h0, h1, h3, h4, h5, h6]
    exact (Cert.In1Ideal.Main.G9_eq m c).symm

theorem claim : Cert.Claim := ⟨Cert.Kernel.Gen.facts, Cert.KernelIdeal.Gen.facts, Cert.ReferenceIdeal.Gen.facts,
  Cert.In0.Gen.facts, Cert.In0Ideal.Gen.facts, Cert.In0RefIdeal.Gen.facts,
  Cert.Out0.Gen.facts, Cert.Out0Ideal.Gen.facts, Cert.Out0RefIdeal.Gen.facts,
  Cert.Out1.Gen.facts, Cert.Out1Ideal.Gen.facts, Cert.Out1RefIdeal.Gen.facts,
  Cert.In1.Gen.facts, Cert.In1Ideal.Gen.facts, Cert.In1RefIdeal.Gen.facts,
  frame_mlstm, frame_mlstm_ideal, frame_mlstm_ref,
  frame_in0, frame_in0_ideal, frame_in0_ref, frame_out0, frame_out0_ideal, frame_out0_ref, frame_out1, frame_out1_ideal, frame_out1_ref,
  frame_in1, frame_in1_ideal, frame_in1_ref,
  preserves_mlstm, algebraic_mlstm, trivial, algebraic_in0, trivial, algebraic_out0, trivial, algebraic_out1, trivial, algebraic_in1⟩

end Cert.Proof

end
